-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_positive [hPre_scales_positive : Cert.Pre_scales_positive.Facts] (m : (ℓ : Loc Cert.KernelIdeal.nD Cert.KernelIdeal.τ Cert.KernelIdeal.sig) → Buf (Elt Ideal) ℓ) : Prop :=
  ∀ c : Dev Cert.KernelIdeal.nD,
    (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_positive [hPre_scales_positive : Cert.Pre_scales_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_positive [hKernelIdeal : Cert.KernelIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_positive [hReferenceIdeal : Cert.ReferenceIdeal.Facts] [hPre_scales_positive : Cert.Pre_scales_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_scales_positive [hKernelIdeal : Cert.KernelIdeal.Facts] [hReferenceIdeal : Cert.ReferenceIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_positive : Cert.Pre_scales_positive.Facts),
    quiescent_Kernel (hKernel := hKernel)
    ∧ quiescent_KernelIdeal (hKernelIdeal := hKernelIdeal)
    ∧ quiescent_KernelIdeal_pre_scales_positive (hKernelIdeal := hKernelIdeal) (hPre_scales_positive := hPre_scales_positive)
    ∧ quiescent_ReferenceIdeal (hReferenceIdeal := hReferenceIdeal)
    ∧ quiescent_ReferenceIdeal_pre_scales_positive (hReferenceIdeal := hReferenceIdeal) (hPre_scales_positive := hPre_scales_positive)
    ∧ preserves_Kernel_KernelIdeal
    ∧ algebraic_KernelIdeal_ReferenceIdeal_pre_scales_positive (hKernelIdeal := hKernelIdeal) (hReferenceIdeal := hReferenceIdeal) (hPre_scales_positive := hPre_scales_positive)
-- ==== Pre_scales_positive.lean ====
abbrev S2x6144x12x160 : Shape := ⟨4, ![2, 6144, 12, 160]⟩
abbrev S2x6144x12 : Shape := ⟨3, ![2, 6144, 12]⟩
abbrev S2x6144x3x160 : Shape := ⟨4, ![2, 6144, 3, 160]⟩
abbrev S2x6144x3 : Shape := ⟨3, ![2, 6144, 3]⟩
abbrev S_ : Shape := ⟨0, ![]⟩

class Facts : Prop where
  bcast_S_S2x6144x12 : S_.BroadcastsInDim S2x6144x12 (![] : Fin 0 → Fin S2x6144x12.rank)

variable [Facts]

def fn {F : FTy → Type} [FloatOps F] (main_arg0 : FVec F S2x6144x12x160 .fp8e4m3) (main_arg1 : FVec F S2x6144x12 .f32) (main_arg2 : FVec F S2x6144x3x160 .fp8e4m3) (main_arg3 : FVec F S2x6144x3 .f32) (main_arg4 : FVec F S2x6144x3x160 .fp8e4m3) (main_arg5 : FVec F S2x6144x3 .f32) : IVec S2x6144x12 1 :=
  let main_cst : FVec F S_ .f32 := constant S_ .f32 0x00000000#32
  let main_v0 : FVec F S2x6144x12 .f32 := broadcastInDim S2x6144x12 ![] bcast_S_S2x6144x12 main_cst
  let main_v1 : IVec S2x6144x12 1 := cmpf .ogt main_arg1 main_v0
  let main_cst_0 : FVec F S_ .f32 := constant S_ .f32 0x7F800000#32
  let main_v2 : FVec F S2x6144x12 .f32 := broadcastInDim S2x6144x12 ![] bcast_S_S2x6144x12 main_cst_0
  let main_v3 : IVec S2x6144x12 1 := cmpf .olt main_arg1 main_v2
  let main_v4 : IVec S2x6144x12 1 := andi main_v1 main_v3
  main_v4
-- ==== Kernel.lean ====
abbrev S2x6144x12x160 : Shape := ⟨4, ![2, 6144, 12, 160]⟩
abbrev S2x6144x12 : Shape := ⟨3, ![2, 6144, 12]⟩
abbrev S2x6144x3x160 : Shape := ⟨4, ![2, 6144, 3, 160]⟩
abbrev S2x6144x3 : Shape := ⟨3, ![2, 6144, 3]⟩
abbrev S2x12x6144x160 : Shape := ⟨4, ![2, 12, 6144, 160]⟩
abbrev S2x3x6144x160 : Shape := ⟨4, ![2, 3, 6144, 160]⟩
abbrev S2x3x160x6144 : Shape := ⟨4, ![2, 3, 160, 6144]⟩
abbrev S2x48x128x3x4 : Shape := ⟨5, ![2, 48, 128, 3, 4]⟩
abbrev S2x3x48x4x128 : Shape := ⟨5, ![2, 3, 48, 4, 128]⟩
abbrev S2x3x48x1x512 : Shape := ⟨5, ![2, 3, 48, 1, 512]⟩
abbrev S2x3x6144 : Shape := ⟨3, ![2, 3, 6144]⟩
abbrev S2x3x1x6144 : Shape := ⟨4, ![2, 3, 1, 6144]⟩
abbrev S2x6144x1920 : Shape := ⟨3, ![2, 6144, 1920]⟩
abbrev S1x4x128x160 : Shape := ⟨4, ![1, 4, 128, 160]⟩
abbrev S1x1x1x1x512 : Shape := ⟨5, ![1, 1, 1, 1, 512]⟩
abbrev S1x1x6144x160 : Shape := ⟨4, ![1, 1, 6144, 160]⟩
abbrev S1x1x1x6144 : Shape := ⟨4, ![1, 1, 1, 6144]⟩
abbrev S1x1x160x6144 : Shape := ⟨4, ![1, 1, 160, 6144]⟩
abbrev S1x128x640 : Shape := ⟨3, ![1, 128, 640]⟩
abbrev S6144x512 : Shape := ⟨2, ![6144, 512]⟩
abbrev S384x512 : Shape := ⟨2, ![384, 512]⟩
abbrev S6144x128 : Shape := ⟨2, ![6144, 128]⟩
abbrev S160x6144 : Shape := ⟨2, ![160, 6144]⟩
abbrev S512x512 : Shape := ⟨2, ![512, 512]⟩
abbrev S160x512 : Shape := ⟨2, ![160, 512]⟩
abbrev S1x1x1x128 : Shape := ⟨4, ![1, 1, 1, 128]⟩
abbrev S1x128 : Shape := ⟨2, ![1, 128]⟩
abbrev S128x128 : Shape := ⟨2, ![128, 128]⟩
abbrev S4x128x160 : Shape := ⟨3, ![4, 128, 160]⟩
abbrev S512x160 : Shape := ⟨2, ![512, 160]⟩
abbrev S1x512 : Shape := ⟨2, ![1, 512]⟩
abbrev S1x1x512x160 : Shape := ⟨4, ![1, 1, 512, 160]⟩
abbrev S8x512 : Shape := ⟨2, ![8, 512]⟩
abbrev S8x128 : Shape := ⟨2, ![8, 128]⟩
abbrev S512 : Shape := ⟨1, ![512]⟩
abbrev S16x512 : Shape := ⟨2, ![16, 512]⟩
abbrev S1x1x512 : Shape := ⟨3, ![1, 1, 512]⟩
abbrev S1 : Shape := ⟨1, ![1]⟩
abbrev S1x1x1 : Shape := ⟨3, ![1, 1, 1]⟩
abbrev S160x128 : Shape := ⟨2, ![160, 128]⟩
abbrev S640x128 : Shape := ⟨2, ![640, 128]⟩
abbrev S128x640 : Shape := ⟨2, ![128, 640]⟩

abbrev nBuf : Space → Nat
  | .hbm => 21
  | .vmem => 23
  | .smem => 0
  | _ => 0

abbrev bufTy : (tb : Table) → Fin (tcTables nBuf tb) → BufTy
  | .hbm, ⟨0, _⟩ => ⟨S2x6144x12x160, .fp8e4m3⟩
  | .hbm, ⟨1, _⟩ => ⟨S2x6144x12, .f32⟩
  | .hbm, ⟨2, _⟩ => ⟨S2x6144x3x160, .fp8e4m3⟩
  | .hbm, ⟨3, _⟩ => ⟨S2x6144x3, .f32⟩
  | .hbm, ⟨4, _⟩ => ⟨S2x6144x3x160, .fp8e4m3⟩
  | .hbm, ⟨5, _⟩ => ⟨S2x6144x3, .f32⟩
  | .hbm, ⟨6, _⟩ => ⟨S2x12x6144x160, .fp8e4m3⟩
  | .hbm, ⟨7, _⟩ => ⟨S2x3x6144x160, .fp8e4m3⟩
  | .hbm, ⟨8, _⟩ => ⟨S2x3x160x6144, .fp8e4m3⟩
  | .hbm, ⟨9, _⟩ => ⟨S2x48x128x3x4, .f32⟩
  | .hbm, ⟨10, _⟩ => ⟨S2x3x48x4x128, .f32⟩
  | .hbm, ⟨11, _⟩ => ⟨S2x3x48x1x512, .f32⟩
  | .hbm, ⟨12, _⟩ => ⟨S2x3x6144, .f32⟩
  | .hbm, ⟨13, _⟩ => ⟨S2x3x1x6144, .f32⟩
  | .hbm, ⟨14, _⟩ => ⟨S2x3x6144, .f32⟩
  | .hbm, ⟨15, _⟩ => ⟨S2x3x1x6144, .f32⟩
  | .hbm, ⟨16, _⟩ => ⟨S2x6144x1920, .bf16⟩
  | .hbm, ⟨17, _⟩ => ⟨S2x3x48x1x512, .f32⟩
  | .hbm, ⟨18, _⟩ => ⟨S2x3x48x4x128, .f32⟩
  | .hbm, ⟨19, _⟩ => ⟨S2x48x128x3x4, .f32⟩
  | .hbm, ⟨20, _⟩ => ⟨S2x6144x12, .f32⟩
  | .local _ .vmem, ⟨0, _⟩ => ⟨S1x4x128x160, .fp8e4m3⟩
  | .local _ .vmem, ⟨1, _⟩ => ⟨S1x4x128x160, .fp8e4m3⟩
  | .local _ .vmem, ⟨2, _⟩ => ⟨S1x1x1x1x512, .f32⟩
  | .local _ .vmem, ⟨3, _⟩ => ⟨S1x1x1x1x512, .f32⟩
  | .local _ .vmem, ⟨4, _⟩ => ⟨S1x1x6144x160, .fp8e4m3⟩
  | .local _ .vmem, ⟨5, _⟩ => ⟨S1x1x6144x160, .fp8e4m3⟩
  | .local _ .vmem, ⟨6, _⟩ => ⟨S1x1x1x6144, .f32⟩
  | .local _ .vmem, ⟨7, _⟩ => ⟨S1x1x1x6144, .f32⟩
  | .local _ .vmem, ⟨8, _⟩ => ⟨S1x1x160x6144, .fp8e4m3⟩
  | .local _ .vmem, ⟨9, _⟩ => ⟨S1x1x160x6144, .fp8e4m3⟩
  | .local _ .vmem, ⟨10, _⟩ => ⟨S1x1x1x6144, .f32⟩
  | .local _ .vmem, ⟨11, _⟩ => ⟨S1x1x1x6144, .f32⟩
  | .local _ .vmem, ⟨12, _⟩ => ⟨S1x128x640, .bf16⟩
  | .local _ .vmem, ⟨13, _⟩ => ⟨S1x128x640, .bf16⟩
  | .local _ .vmem, ⟨14, _⟩ => ⟨S1x1x1x1x512, .f32⟩
  | .local _ .vmem, ⟨15, _⟩ => ⟨S1x1x1x1x512, .f32⟩
  | .local _ .vmem, ⟨16, _⟩ => ⟨S6144x512, .f32⟩
  | .local _ .vmem, ⟨17, _⟩ => ⟨S384x512, .f32⟩
  | .local _ .vmem, ⟨18, _⟩ => ⟨S6144x128, .f32⟩
  | .local _ .vmem, ⟨19, _⟩ => ⟨S6144x128, .f32⟩
  | .local _ .vmem, ⟨20, _⟩ => ⟨S160x6144, .bf16⟩
  | .local _ .vmem, ⟨21, _⟩ => ⟨S512x512, .bf16⟩
  | .local _ .vmem, ⟨22, _⟩ => ⟨S160x512, .f32⟩
  | _, _ => ⟨S2x6144x12x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 3, 48], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_851 : BitVec 32 := 0#32
  let c48_i32_852 : BitVec 32 := 48#32
  let v2628 : BitVec 32 := Scalar.addi c0_i32_851 c48_i32_852
  let c1_i32_853 : BitVec 32 := 1#32
  ⟨c0_i32_851, v2628, c1_i32_853⟩
def k0_mult1 (k0_t1 : Fin k0_t1_loop.trips) : BitVec 32 :=
  let c0_i32_851 : BitVec 32 := 0#32
  let c1_i32_853 : BitVec 32 := 1#32
  let arg18 : BitVec 32 := Scf.iv c0_i32_851 c1_i32_853 k0_t1
  let c128_i32_861 : BitVec 32 := 128#32
  let v2635 : BitVec 32 := Scalar.muli arg18 c128_i32_861
  v2635
def k0_off1 (k0_t1 : Fin k0_t1_loop.trips) : Fin 4 → Nat :=
  let c0_862 : Index := 0#32
  let c0_863 : Index := 0#32
  let c0_864 : Index := 0#32
  let c0_i32_851 : BitVec 32 := 0#32
  let c1_i32_853 : BitVec 32 := 1#32
  let arg18 : BitVec 32 := Scf.iv c0_i32_851 c1_i32_853 k0_t1
  let c128_i32_861 : BitVec 32 := 128#32
  let v2635 : BitVec 32 := Scalar.muli arg18 c128_i32_861
  let v2636 : BitVec 32 := v2635
  let v2637 : Index := Scalar.indexCast v2636
  ![0, 0, 0, v2637.toNat]
def k0_off2 (k0_t1 : Fin k0_t1_loop.trips) : Fin 2 → Nat :=
  let c0_i32_851 : BitVec 32 := 0#32
  let c1_i32_853 : BitVec 32 := 1#32
  let arg18 : BitVec 32 := Scf.iv c0_i32_851 c1_i32_853 k0_t1
  let c128_i32_861 : BitVec 32 := 128#32
  let v2635 : BitVec 32 := Scalar.muli arg18 c128_i32_861
  let v2636 : BitVec 32 := v2635
  let v2645 : Index := Scalar.indexCast v2636
  let c0_866 : Index := 0#32
  ![v2645.toNat, 0]
@[reducible] def k0_t2_loop (i : grid0.Coords) : Scf.Loop 32 :=
  let c0_i32_25 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let v34 : BitVec 32 := Scalar.subi v23 c0_i32_25
  let c1_i32_27 : BitVec 32 := 1#32
  let v36 : BitVec 32 := Scalar.divsi v34 c1_i32_27
  let v37 : BitVec 32 := Scalar.muli v36 c1_i32_27
  let v38 : BitVec 32 := Scalar.addi c0_i32_25 v37
  let c1_i32_28 : BitVec 32 := 1#32
  ⟨c0_i32_25, v38, c1_i32_28⟩
def k0_mult2 (i : grid0.Coords) (k0_t2 : Fin (k0_t2_loop i).trips) : BitVec 32 :=
  let c0_i32_25 : BitVec 32 := 0#32
  let c1_i32_28 : BitVec 32 := 1#32
  let arg18 : BitVec 32 := Scf.iv c0_i32_25 c1_i32_28 k0_t2
  let c512_i32_851 : BitVec 32 := 512#32
  let v2628 : BitVec 32 := Scalar.muli arg18 c512_i32_851
  v2628
def k0_off3 (i : grid0.Coords) (k0_t2 : Fin (k0_t2_loop i).trips) : Fin 4 → Nat :=
  let c0_852 : Index := 0#32
  let c0_853 : Index := 0#32
  let c0_i32_25 : BitVec 32 := 0#32
  let c1_i32_28 : BitVec 32 := 1#32
  let arg18 : BitVec 32 := Scf.iv c0_i32_25 c1_i32_28 k0_t2
  let c512_i32_851 : BitVec 32 := 512#32
  let v2628 : BitVec 32 := Scalar.muli arg18 c512_i32_851
  let v2629 : BitVec 32 := v2628
  let v2630 : Index := Scalar.indexCast v2629
  let c0_854 : Index := 0#32
  ![0, 0, v2630.toNat, 0]
def k0_off4 (i : grid0.Coords) (k0_t2 : Fin (k0_t2_loop i).trips) (c0_i32_856 : BitVec 32) : Fin 2 → Nat :=
  let c0_i32_25 : BitVec 32 := 0#32
  let c1_i32_28 : BitVec 32 := 1#32
  let arg18 : BitVec 32 := Scf.iv c0_i32_25 c1_i32_28 k0_t2
  let c512_i32_851 : BitVec 32 := 512#32
  let v2628 : BitVec 32 := Scalar.muli arg18 c512_i32_851
  let v2629 : BitVec 32 := v2628
  let v2635 : BitVec 32 := Scalar.addi v2629 c0_i32_856
  let v2636 : Index := Scalar.indexCast v2635
  let c0_857 : Index := 0#32
  ![v2636.toNat, 0]
def k0_off5 (i : grid0.Coords) (k0_t2 : Fin (k0_t2_loop i).trips) (c0_i32_858 : BitVec 32) : Fin 2 → Nat :=
  let c0_i32_25 : BitVec 32 := 0#32
  let c1_i32_28 : BitVec 32 := 1#32
  let arg18 : BitVec 32 := Scf.iv c0_i32_25 c1_i32_28 k0_t2
  let c512_i32_851 : BitVec 32 := 512#32
  let v2628 : BitVec 32 := Scalar.muli arg18 c512_i32_851
  let v2629 : BitVec 32 := v2628
  let v2640 : BitVec 32 := Scalar.addi v2629 c0_i32_858
  let v2641 : Index := Scalar.indexCast v2640
  let c0_859 : Index := 0#32
  ![v2641.toNat, 0]
def k0_mult3 (i : grid0.Coords) (k0_t2 : Fin (k0_t2_loop i).trips) : BitVec 32 :=
  let c0_i32_25 : BitVec 32 := 0#32
  let c1_i32_28 : BitVec 32 := 1#32
  let arg18 : BitVec 32 := Scf.iv c0_i32_25 c1_i32_28 k0_t2
  let c32_i32_920 : BitVec 32 := 32#32
  let v2825 : BitVec 32 := Scalar.muli arg18 c32_i32_920
  v2825
def k0_off6 (i : grid0.Coords) (k0_t2 : Fin (k0_t2_loop i).trips) (c0_i32_921 : BitVec 32) : Fin 2 → Nat :=
  let c0_i32_25 : BitVec 32 := 0#32
  let c1_i32_28 : BitVec 32 := 1#32
  let arg18 : BitVec 32 := Scf.iv c0_i32_25 c1_i32_28 k0_t2
  let c32_i32_920 : BitVec 32 := 32#32
  let v2825 : BitVec 32 := Scalar.muli arg18 c32_i32_920
  let v2826 : BitVec 32 := v2825
  let v2827 : BitVec 32 := Scalar.addi v2826 c0_i32_921
  let v2828 : Index := Scalar.indexCast v2827
  let c0_922 : Index := 0#32
  ![v2828.toNat, 0]
def k0_mult4 (i : grid0.Coords) (k0_t2 : Fin (k0_t2_loop i).trips) : BitVec 32 :=
  let c0_i32_25 : BitVec 32 := 0#32
  let c1_i32_28 : BitVec 32 := 1#32
  let arg18 : BitVec 32 := Scf.iv c0_i32_25 c1_i32_28 k0_t2
  let c32_i32_987 : BitVec 32 := 32#32
  let v3023 : BitVec 32 := Scalar.muli arg18 c32_i32_987
  v3023
def k0_mult5 (i : grid0.Coords) (k0_t2 : Fin (k0_t2_loop i).trips) : BitVec 32 :=
  let c0_i32_25 : BitVec 32 := 0#32
  let c1_i32_28 : BitVec 32 := 1#32
  let arg18 : BitVec 32 := Scf.iv c0_i32_25 c1_i32_28 k0_t2
  let c32_i32_1054 : BitVec 32 := 32#32
  let v3221 : BitVec 32 := Scalar.muli arg18 c32_i32_1054
  v3221
def k0_mult6 (i : grid0.Coords) (k0_t2 : Fin (k0_t2_loop i).trips) : BitVec 32 :=
  let c0_i32_25 : BitVec 32 := 0#32
  let c1_i32_28 : BitVec 32 := 1#32
  let arg18 : BitVec 32 := Scf.iv c0_i32_25 c1_i32_28 k0_t2
  let c32_i32_1121 : BitVec 32 := 32#32
  let v3419 : BitVec 32 := Scalar.muli arg18 c32_i32_1121
  v3419
@[reducible] def k0_t3_loop (i : grid0.Coords) : Scf.Loop 32 :=
  let c0_i32_25 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let v34 : BitVec 32 := Scalar.subi v23 c0_i32_25
  let c1_i32_27 : BitVec 32 := 1#32
  let v36 : BitVec 32 := Scalar.divsi v34 c1_i32_27
  let v37 : BitVec 32 := Scalar.muli v36 c1_i32_27
  let v38 : BitVec 32 := Scalar.addi c0_i32_25 v37
  let v35 : BitVec 32 := Scalar.addi c0_i32_25 v34
  let c1_i32_29 : BitVec 32 := 1#32
  ⟨v38, v35, c1_i32_29⟩
def k0_mult7 (i : grid0.Coords) (k0_t3 : Fin (k0_t3_loop i).trips) : BitVec 32 :=
  let c0_i32_25 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let v34 : BitVec 32 := Scalar.subi v23 c0_i32_25
  let c1_i32_27 : BitVec 32 := 1#32
  let v36 : BitVec 32 := Scalar.divsi v34 c1_i32_27
  let v37 : BitVec 32 := Scalar.muli v36 c1_i32_27
  let v38 : BitVec 32 := Scalar.addi c0_i32_25 v37
  let c1_i32_29 : BitVec 32 := 1#32
  let arg18 : BitVec 32 := Scf.iv v38 c1_i32_29 k0_t3
  let c512_i32_851 : BitVec 32 := 512#32
  let v2628 : BitVec 32 := Scalar.muli arg18 c512_i32_851
  v2628
def k0_off7 (i : grid0.Coords) (k0_t3 : Fin (k0_t3_loop i).trips) : Fin 4 → Nat :=
  let c0_852 : Index := 0#32
  let c0_853 : Index := 0#32
  let c0_i32_25 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let v34 : BitVec 32 := Scalar.subi v23 c0_i32_25
  let c1_i32_27 : BitVec 32 := 1#32
  let v36 : BitVec 32 := Scalar.divsi v34 c1_i32_27
  let v37 : BitVec 32 := Scalar.muli v36 c1_i32_27
  let v38 : BitVec 32 := Scalar.addi c0_i32_25 v37
  let c1_i32_29 : BitVec 32 := 1#32
  let arg18 : BitVec 32 := Scf.iv v38 c1_i32_29 k0_t3
  let c512_i32_851 : BitVec 32 := 512#32
  let v2628 : BitVec 32 := Scalar.muli arg18 c512_i32_851
  let v2629 : BitVec 32 := v2628
  let v2630 : Index := Scalar.indexCast v2629
  let c0_854 : Index := 0#32
  ![0, 0, v2630.toNat, 0]
def k0_off8 (i : grid0.Coords) (k0_t3 : Fin (k0_t3_loop i).trips) (c0_i32_856 : BitVec 32) : Fin 2 → Nat :=
  let c0_i32_25 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let v34 : BitVec 32 := Scalar.subi v23 c0_i32_25
  let c1_i32_27 : BitVec 32 := 1#32
  let v36 : BitVec 32 := Scalar.divsi v34 c1_i32_27
  let v37 : BitVec 32 := Scalar.muli v36 c1_i32_27
  let v38 : BitVec 32 := Scalar.addi c0_i32_25 v37
  let c1_i32_29 : BitVec 32 := 1#32
  let arg18 : BitVec 32 := Scf.iv v38 c1_i32_29 k0_t3
  let c512_i32_851 : BitVec 32 := 512#32
  let v2628 : BitVec 32 := Scalar.muli arg18 c512_i32_851
  let v2629 : BitVec 32 := v2628
  let v2635 : BitVec 32 := Scalar.addi v2629 c0_i32_856
  let v2636 : Index := Scalar.indexCast v2635
  let c0_857 : Index := 0#32
  ![v2636.toNat, 0]
def k0_off9 (i : grid0.Coords) (k0_t3 : Fin (k0_t3_loop i).trips) (c0_i32_858 : BitVec 32) : Fin 2 → Nat :=
  let c0_i32_25 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let v34 : BitVec 32 := Scalar.subi v23 c0_i32_25
  let c1_i32_27 : BitVec 32 := 1#32
  let v36 : BitVec 32 := Scalar.divsi v34 c1_i32_27
  let v37 : BitVec 32 := Scalar.muli v36 c1_i32_27
  let v38 : BitVec 32 := Scalar.addi c0_i32_25 v37
  let c1_i32_29 : BitVec 32 := 1#32
  let arg18 : BitVec 32 := Scf.iv v38 c1_i32_29 k0_t3
  let c512_i32_851 : BitVec 32 := 512#32
  let v2628 : BitVec 32 := Scalar.muli arg18 c512_i32_851
  let v2629 : BitVec 32 := v2628
  let v2640 : BitVec 32 := Scalar.addi v2629 c0_i32_858
  let v2641 : Index := Scalar.indexCast v2640
  let c0_859 : Index := 0#32
  ![v2641.toNat, 0]
def k0_mult8 (i : grid0.Coords) (k0_t3 : Fin (k0_t3_loop i).trips) : BitVec 32 :=
  let c0_i32_25 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let v34 : BitVec 32 := Scalar.subi v23 c0_i32_25
  let c1_i32_27 : BitVec 32 := 1#32
  let v36 : BitVec 32 := Scalar.divsi v34 c1_i32_27
  let v37 : BitVec 32 := Scalar.muli v36 c1_i32_27
  let v38 : BitVec 32 := Scalar.addi c0_i32_25 v37
  let c1_i32_29 : BitVec 32 := 1#32
  let arg18 : BitVec 32 := Scf.iv v38 c1_i32_29 k0_t3
  let c32_i32_920 : BitVec 32 := 32#32
  let v2825 : BitVec 32 := Scalar.muli arg18 c32_i32_920
  v2825
def k0_off10 (i : grid0.Coords) (k0_t3 : Fin (k0_t3_loop i).trips) (c0_i32_921 : BitVec 32) : Fin 2 → Nat :=
  let c0_i32_25 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let v34 : BitVec 32 := Scalar.subi v23 c0_i32_25
  let c1_i32_27 : BitVec 32 := 1#32
  let v36 : BitVec 32 := Scalar.divsi v34 c1_i32_27
  let v37 : BitVec 32 := Scalar.muli v36 c1_i32_27
  let v38 : BitVec 32 := Scalar.addi c0_i32_25 v37
  let c1_i32_29 : BitVec 32 := 1#32
  let arg18 : BitVec 32 := Scf.iv v38 c1_i32_29 k0_t3
  let c32_i32_920 : BitVec 32 := 32#32
  let v2825 : BitVec 32 := Scalar.muli arg18 c32_i32_920
  let v2826 : BitVec 32 := v2825
  let v2827 : BitVec 32 := Scalar.addi v2826 c0_i32_921
  let v2828 : Index := Scalar.indexCast v2827
  let c0_922 : Index := 0#32
  ![v2828.toNat, 0]
def k0_mult9 (i : grid0.Coords) (k0_t3 : Fin (k0_t3_loop i).trips) : BitVec 32 :=
  let c0_i32_25 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let v34 : BitVec 32 := Scalar.subi v23 c0_i32_25
  let c1_i32_27 : BitVec 32 := 1#32
  let v36 : BitVec 32 := Scalar.divsi v34 c1_i32_27
  let v37 : BitVec 32 := Scalar.muli v36 c1_i32_27
  let v38 : BitVec 32 := Scalar.addi c0_i32_25 v37
  let c1_i32_29 : BitVec 32 := 1#32
  let arg18 : BitVec 32 := Scf.iv v38 c1_i32_29 k0_t3
  let c32_i32_987 : BitVec 32 := 32#32
  let v3023 : BitVec 32 := Scalar.muli arg18 c32_i32_987
  v3023
def k0_mult10 (i : grid0.Coords) (k0_t3 : Fin (k0_t3_loop i).trips) : BitVec 32 :=
  let c0_i32_25 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let v34 : BitVec 32 := Scalar.subi v23 c0_i32_25
  let c1_i32_27 : BitVec 32 := 1#32
  let v36 : BitVec 32 := Scalar.divsi v34 c1_i32_27
  let v37 : BitVec 32 := Scalar.muli v36 c1_i32_27
  let v38 : BitVec 32 := Scalar.addi c0_i32_25 v37
  let c1_i32_29 : BitVec 32 := 1#32
  let arg18 : BitVec 32 := Scf.iv v38 c1_i32_29 k0_t3
  let c32_i32_1054 : BitVec 32 := 32#32
  let v3221 : BitVec 32 := Scalar.muli arg18 c32_i32_1054
  v3221
def k0_mult11 (i : grid0.Coords) (k0_t3 : Fin (k0_t3_loop i).trips) : BitVec 32 :=
  let c0_i32_25 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let v34 : BitVec 32 := Scalar.subi v23 c0_i32_25
  let c1_i32_27 : BitVec 32 := 1#32
  let v36 : BitVec 32 := Scalar.divsi v34 c1_i32_27
  let v37 : BitVec 32 := Scalar.muli v36 c1_i32_27
  let v38 : BitVec 32 := Scalar.addi c0_i32_25 v37
  let c1_i32_29 : BitVec 32 := 1#32
  let arg18 : BitVec 32 := Scf.iv v38 c1_i32_29 k0_t3
  let c32_i32_1121 : BitVec 32 := 32#32
  let v3419 : BitVec 32 := Scalar.muli arg18 c32_i32_1121
  v3419
def k0_mult12 (i : grid0.Coords) : BitVec 32 :=
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c512_i32_30 : BitVec 32 := 512#32
  let v41 : BitVec 32 := Scalar.muli v23 c512_i32_30
  v41
def k0_off11 (i : grid0.Coords) : Fin 4 → Nat :=
  let c0_31 : Index := 0#32
  let c0_32 : Index := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c512_i32_30 : BitVec 32 := 512#32
  let v41 : BitVec 32 := Scalar.muli v23 c512_i32_30
  let v42 : BitVec 32 := v41
  let v43 : Index := Scalar.indexCast v42
  let c0_33 : Index := 0#32
  ![0, 0, v43.toNat, 0]
def k0_off12 (i : grid0.Coords) (c0_i32_35 : BitVec 32) : Fin 2 → Nat :=
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c512_i32_30 : BitVec 32 := 512#32
  let v41 : BitVec 32 := Scalar.muli v23 c512_i32_30
  let v42 : BitVec 32 := v41
  let v48 : BitVec 32 := Scalar.addi v42 c0_i32_35
  let v49 : Index := Scalar.indexCast v48
  let c0_36 : Index := 0#32
  ![v49.toNat, 0]
def k0_off13 (i : grid0.Coords) (c0_i32_46 : BitVec 32) : Fin 2 → Nat :=
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c512_i32_30 : BitVec 32 := 512#32
  let v41 : BitVec 32 := Scalar.muli v23 c512_i32_30
  let v42 : BitVec 32 := v41
  let v80 : BitVec 32 := Scalar.addi v42 c0_i32_46
  let v81 : Index := Scalar.indexCast v80
  let c0_47 : Index := 0#32
  ![v81.toNat, 0]
def k0_mult13 (i : grid0.Coords) : BitVec 32 :=
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c32_i32_228 : BitVec 32 := 32#32
  let v670 : BitVec 32 := Scalar.muli v23 c32_i32_228
  v670
def k0_off14 (i : grid0.Coords) (c0_i32_229 : BitVec 32) : Fin 2 → Nat :=
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c32_i32_228 : BitVec 32 := 32#32
  let v670 : BitVec 32 := Scalar.muli v23 c32_i32_228
  let v671 : BitVec 32 := v670
  let v672 : BitVec 32 := Scalar.addi v671 c0_i32_229
  let v673 : Index := Scalar.indexCast v672
  let c0_230 : Index := 0#32
  ![v673.toNat, 0]
def k0_mult14 (i : grid0.Coords) : BitVec 32 :=
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c32_i32_424 : BitVec 32 := 32#32
  let v1300 : BitVec 32 := Scalar.muli v23 c32_i32_424
  v1300
def k0_mult15 (i : grid0.Coords) : BitVec 32 :=
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c32_i32_619 : BitVec 32 := 32#32
  let v1930 : BitVec 32 := Scalar.muli v23 c32_i32_619
  v1930
def k0_mult16 (i : grid0.Coords) : BitVec 32 :=
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c32_i32_814 : BitVec 32 := 32#32
  let v2560 : BitVec 32 := Scalar.muli v23 c32_i32_814
  v2560
@[reducible] def k0_t4_loop (i : grid0.Coords) : Scf.Loop 32 :=
  let c0_i32_818 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2568 : BitVec 32 := Scalar.subi v24 c0_i32_818
  let c1_i32_819 : BitVec 32 := 1#32
  let v2570 : BitVec 32 := Scalar.divsi v2568 c1_i32_819
  let v2571 : BitVec 32 := Scalar.muli v2570 c1_i32_819
  let v2572 : BitVec 32 := Scalar.addi c0_i32_818 v2571
  let c1_i32_820 : BitVec 32 := 1#32
  ⟨c0_i32_818, v2572, c1_i32_820⟩
def k0_mult17 (i : grid0.Coords) (k0_t4 : Fin (k0_t4_loop i).trips) : BitVec 32 :=
  let c0_i32_818 : BitVec 32 := 0#32
  let c1_i32_820 : BitVec 32 := 1#32
  let arg18 : BitVec 32 := Scf.iv c0_i32_818 c1_i32_820 k0_t4
  let c32_i32_851 : BitVec 32 := 32#32
  let v2628 : BitVec 32 := Scalar.muli arg18 c32_i32_851
  v2628
def k0_off15 (i : grid0.Coords) (k0_t4 : Fin (k0_t4_loop i).trips) (c0_i32_852 : BitVec 32) : Fin 2 → Nat :=
  let c0_i32_818 : BitVec 32 := 0#32
  let c1_i32_820 : BitVec 32 := 1#32
  let arg18 : BitVec 32 := Scf.iv c0_i32_818 c1_i32_820 k0_t4
  let c32_i32_851 : BitVec 32 := 32#32
  let v2628 : BitVec 32 := Scalar.muli arg18 c32_i32_851
  let v2629 : BitVec 32 := v2628
  let v2630 : BitVec 32 := Scalar.addi v2629 c0_i32_852
  let v2631 : Index := Scalar.indexCast v2630
  let c0_853 : Index := 0#32
  ![v2631.toNat, 0]
@[reducible] def k0_t5_loop (i : grid0.Coords) : Scf.Loop 32 :=
  let c0_i32_818 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2568 : BitVec 32 := Scalar.subi v24 c0_i32_818
  let c1_i32_819 : BitVec 32 := 1#32
  let v2570 : BitVec 32 := Scalar.divsi v2568 c1_i32_819
  let v2571 : BitVec 32 := Scalar.muli v2570 c1_i32_819
  let v2572 : BitVec 32 := Scalar.addi c0_i32_818 v2571
  let v2569 : BitVec 32 := Scalar.addi c0_i32_818 v2568
  let c1_i32_821 : BitVec 32 := 1#32
  ⟨v2572, v2569, c1_i32_821⟩
def k0_mult18 (i : grid0.Coords) (k0_t5 : Fin (k0_t5_loop i).trips) : BitVec 32 :=
  let c0_i32_818 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2568 : BitVec 32 := Scalar.subi v24 c0_i32_818
  let c1_i32_819 : BitVec 32 := 1#32
  let v2570 : BitVec 32 := Scalar.divsi v2568 c1_i32_819
  let v2571 : BitVec 32 := Scalar.muli v2570 c1_i32_819
  let v2572 : BitVec 32 := Scalar.addi c0_i32_818 v2571
  let c1_i32_821 : BitVec 32 := 1#32
  let arg18 : BitVec 32 := Scf.iv v2572 c1_i32_821 k0_t5
  let c32_i32_851 : BitVec 32 := 32#32
  let v2628 : BitVec 32 := Scalar.muli arg18 c32_i32_851
  v2628
def k0_off16 (i : grid0.Coords) (k0_t5 : Fin (k0_t5_loop i).trips) (c0_i32_852 : BitVec 32) : Fin 2 → Nat :=
  let c0_i32_818 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2568 : BitVec 32 := Scalar.subi v24 c0_i32_818
  let c1_i32_819 : BitVec 32 := 1#32
  let v2570 : BitVec 32 := Scalar.divsi v2568 c1_i32_819
  let v2571 : BitVec 32 := Scalar.muli v2570 c1_i32_819
  let v2572 : BitVec 32 := Scalar.addi c0_i32_818 v2571
  let c1_i32_821 : BitVec 32 := 1#32
  let arg18 : BitVec 32 := Scf.iv v2572 c1_i32_821 k0_t5
  let c32_i32_851 : BitVec 32 := 32#32
  let v2628 : BitVec 32 := Scalar.muli arg18 c32_i32_851
  let v2629 : BitVec 32 := v2628
  let v2630 : BitVec 32 := Scalar.addi v2629 c0_i32_852
  let v2631 : Index := Scalar.indexCast v2630
  let c0_853 : Index := 0#32
  ![v2631.toNat, 0]
@[reducible] def k0_t6_loop : Scf.Loop 32 :=
  let c0_i32_832 : BitVec 32 := 0#32
  let c6_i32 : BitVec 32 := 6#32
  let v2605 : BitVec 32 := Scalar.addi c0_i32_832 c6_i32
  let c1_i32_833 : BitVec 32 := 1#32
  ⟨c0_i32_832, v2605, c1_i32_833⟩
@[reducible] def k0_t7_loop (i : grid0.Coords) : Scf.Loop 32 :=
  let c0_i32_851 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2628 : BitVec 32 := Scalar.subi v24 c0_i32_851
  let c1_i32_852 : BitVec 32 := 1#32
  let v2630 : BitVec 32 := Scalar.divsi v2628 c1_i32_852
  let v2631 : BitVec 32 := Scalar.muli v2630 c1_i32_852
  let v2632 : BitVec 32 := Scalar.addi c0_i32_851 v2631
  let c1_i32_853 : BitVec 32 := 1#32
  ⟨c0_i32_851, v2632, c1_i32_853⟩
def k0_mult19 (i : grid0.Coords) (k0_t7 : Fin (k0_t7_loop i).trips) : BitVec 32 :=
  let c0_i32_851 : BitVec 32 := 0#32
  let c1_i32_853 : BitVec 32 := 1#32
  let arg20 : BitVec 32 := Scf.iv c0_i32_851 c1_i32_853 k0_t7
  let c32_i32_859 : BitVec 32 := 32#32
  let v2650 : BitVec 32 := Scalar.muli arg20 c32_i32_859
  v2650
def k0_off17 (i : grid0.Coords) (k0_t7 : Fin (k0_t7_loop i).trips) (c0_i32_860 : BitVec 32) : Fin 2 → Nat :=
  let c0_i32_851 : BitVec 32 := 0#32
  let c1_i32_853 : BitVec 32 := 1#32
  let arg20 : BitVec 32 := Scf.iv c0_i32_851 c1_i32_853 k0_t7
  let c32_i32_859 : BitVec 32 := 32#32
  let v2650 : BitVec 32 := Scalar.muli arg20 c32_i32_859
  let v2651 : BitVec 32 := v2650
  let v2652 : BitVec 32 := Scalar.addi v2651 c0_i32_860
  let v2653 : Index := Scalar.indexCast v2652
  let c0_861 : Index := 0#32
  ![v2653.toNat, 0]
@[reducible] def k0_t8_loop (i : grid0.Coords) : Scf.Loop 32 :=
  let c0_i32_851 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2628 : BitVec 32 := Scalar.subi v24 c0_i32_851
  let c1_i32_852 : BitVec 32 := 1#32
  let v2630 : BitVec 32 := Scalar.divsi v2628 c1_i32_852
  let v2631 : BitVec 32 := Scalar.muli v2630 c1_i32_852
  let v2632 : BitVec 32 := Scalar.addi c0_i32_851 v2631
  let v2629 : BitVec 32 := Scalar.addi c0_i32_851 v2628
  let c1_i32_854 : BitVec 32 := 1#32
  ⟨v2632, v2629, c1_i32_854⟩
def k0_mult20 (i : grid0.Coords) (k0_t8 : Fin (k0_t8_loop i).trips) : BitVec 32 :=
  let c0_i32_851 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2628 : BitVec 32 := Scalar.subi v24 c0_i32_851
  let c1_i32_852 : BitVec 32 := 1#32
  let v2630 : BitVec 32 := Scalar.divsi v2628 c1_i32_852
  let v2631 : BitVec 32 := Scalar.muli v2630 c1_i32_852
  let v2632 : BitVec 32 := Scalar.addi c0_i32_851 v2631
  let c1_i32_854 : BitVec 32 := 1#32
  let arg20 : BitVec 32 := Scf.iv v2632 c1_i32_854 k0_t8
  let c32_i32_859 : BitVec 32 := 32#32
  let v2650 : BitVec 32 := Scalar.muli arg20 c32_i32_859
  v2650
def k0_off18 (i : grid0.Coords) (k0_t8 : Fin (k0_t8_loop i).trips) (c0_i32_860 : BitVec 32) : Fin 2 → Nat :=
  let c0_i32_851 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2628 : BitVec 32 := Scalar.subi v24 c0_i32_851
  let c1_i32_852 : BitVec 32 := 1#32
  let v2630 : BitVec 32 := Scalar.divsi v2628 c1_i32_852
  let v2631 : BitVec 32 := Scalar.muli v2630 c1_i32_852
  let v2632 : BitVec 32 := Scalar.addi c0_i32_851 v2631
  let c1_i32_854 : BitVec 32 := 1#32
  let arg20 : BitVec 32 := Scf.iv v2632 c1_i32_854 k0_t8
  let c32_i32_859 : BitVec 32 := 32#32
  let v2650 : BitVec 32 := Scalar.muli arg20 c32_i32_859
  let v2651 : BitVec 32 := v2650
  let v2652 : BitVec 32 := Scalar.addi v2651 c0_i32_860
  let v2653 : Index := Scalar.indexCast v2652
  let c0_861 : Index := 0#32
  ![v2653.toNat, 0]
@[reducible] def k0_t9_loop (i : grid0.Coords) : Scf.Loop 32 :=
  let c0_i32_851 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2628 : BitVec 32 := Scalar.subi v24 c0_i32_851
  let c1_i32_852 : BitVec 32 := 1#32
  let v2630 : BitVec 32 := Scalar.divsi v2628 c1_i32_852
  let v2631 : BitVec 32 := Scalar.muli v2630 c1_i32_852
  let v2632 : BitVec 32 := Scalar.addi c0_i32_851 v2631
  let c1_i32_853 : BitVec 32 := 1#32
  ⟨c0_i32_851, v2632, c1_i32_853⟩
def k0_mult21 (i : grid0.Coords) (k0_t9 : Fin (k0_t9_loop i).trips) : BitVec 32 :=
  let c0_i32_851 : BitVec 32 := 0#32
  let c1_i32_853 : BitVec 32 := 1#32
  let arg21 : BitVec 32 := Scf.iv c0_i32_851 c1_i32_853 k0_t9
  let c512_i32_887 : BitVec 32 := 512#32
  let v2711 : BitVec 32 := Scalar.muli arg21 c512_i32_887
  v2711
def k0_off19 (i : grid0.Coords) (k0_t9 : Fin (k0_t9_loop i).trips) (c0_i32_888 : BitVec 32) : Fin 2 → Nat :=
  let c0_i32_851 : BitVec 32 := 0#32
  let c1_i32_853 : BitVec 32 := 1#32
  let arg21 : BitVec 32 := Scf.iv c0_i32_851 c1_i32_853 k0_t9
  let c512_i32_887 : BitVec 32 := 512#32
  let v2711 : BitVec 32 := Scalar.muli arg21 c512_i32_887
  let v2712 : BitVec 32 := v2711
  let v2713 : BitVec 32 := Scalar.addi v2712 c0_i32_888
  let v2714 : Index := Scalar.indexCast v2713
  let c0_889 : Index := 0#32
  ![v2714.toNat, 0]
@[reducible] def k0_t10_loop (i : grid0.Coords) : Scf.Loop 32 :=
  let c0_i32_851 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2628 : BitVec 32 := Scalar.subi v24 c0_i32_851
  let c1_i32_852 : BitVec 32 := 1#32
  let v2630 : BitVec 32 := Scalar.divsi v2628 c1_i32_852
  let v2631 : BitVec 32 := Scalar.muli v2630 c1_i32_852
  let v2632 : BitVec 32 := Scalar.addi c0_i32_851 v2631
  let v2629 : BitVec 32 := Scalar.addi c0_i32_851 v2628
  let c1_i32_854 : BitVec 32 := 1#32
  ⟨v2632, v2629, c1_i32_854⟩
def k0_mult22 (i : grid0.Coords) (k0_t10 : Fin (k0_t10_loop i).trips) : BitVec 32 :=
  let c0_i32_851 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2628 : BitVec 32 := Scalar.subi v24 c0_i32_851
  let c1_i32_852 : BitVec 32 := 1#32
  let v2630 : BitVec 32 := Scalar.divsi v2628 c1_i32_852
  let v2631 : BitVec 32 := Scalar.muli v2630 c1_i32_852
  let v2632 : BitVec 32 := Scalar.addi c0_i32_851 v2631
  let c1_i32_854 : BitVec 32 := 1#32
  let arg21 : BitVec 32 := Scf.iv v2632 c1_i32_854 k0_t10
  let c512_i32_887 : BitVec 32 := 512#32
  let v2711 : BitVec 32 := Scalar.muli arg21 c512_i32_887
  v2711
def k0_off20 (i : grid0.Coords) (k0_t10 : Fin (k0_t10_loop i).trips) (c0_i32_888 : BitVec 32) : Fin 2 → Nat :=
  let c0_i32_851 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2628 : BitVec 32 := Scalar.subi v24 c0_i32_851
  let c1_i32_852 : BitVec 32 := 1#32
  let v2630 : BitVec 32 := Scalar.divsi v2628 c1_i32_852
  let v2631 : BitVec 32 := Scalar.muli v2630 c1_i32_852
  let v2632 : BitVec 32 := Scalar.addi c0_i32_851 v2631
  let c1_i32_854 : BitVec 32 := 1#32
  let arg21 : BitVec 32 := Scf.iv v2632 c1_i32_854 k0_t10
  let c512_i32_887 : BitVec 32 := 512#32
  let v2711 : BitVec 32 := Scalar.muli arg21 c512_i32_887
  let v2712 : BitVec 32 := v2711
  let v2713 : BitVec 32 := Scalar.addi v2712 c0_i32_888
  let v2714 : Index := Scalar.indexCast v2713
  let c0_889 : Index := 0#32
  ![v2714.toNat, 0]
@[reducible] def k0_t11_loop (i : grid0.Coords) : Scf.Loop 32 :=
  let c0_i32_857 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2639 : BitVec 32 := Scalar.subi v24 c0_i32_857
  let c1_i32_858 : BitVec 32 := 1#32
  let v2641 : BitVec 32 := Scalar.divsi v2639 c1_i32_858
  let v2642 : BitVec 32 := Scalar.muli v2641 c1_i32_858
  let v2643 : BitVec 32 := Scalar.addi c0_i32_857 v2642
  let c1_i32_859 : BitVec 32 := 1#32
  ⟨c0_i32_857, v2643, c1_i32_859⟩
def k0_mult23 (i : grid0.Coords) (k0_t11 : Fin (k0_t11_loop i).trips) : BitVec 32 :=
  let c0_i32_857 : BitVec 32 := 0#32
  let c1_i32_859 : BitVec 32 := 1#32
  let arg21 : BitVec 32 := Scf.iv c0_i32_857 c1_i32_859 k0_t11
  let c32_i32_887 : BitVec 32 := 32#32
  let v2711 : BitVec 32 := Scalar.muli arg21 c32_i32_887
  v2711
def k0_off21 (i : grid0.Coords) (k0_t11 : Fin (k0_t11_loop i).trips) (c0_i32_888 : BitVec 32) : Fin 2 → Nat :=
  let c0_i32_857 : BitVec 32 := 0#32
  let c1_i32_859 : BitVec 32 := 1#32
  let arg21 : BitVec 32 := Scf.iv c0_i32_857 c1_i32_859 k0_t11
  let c32_i32_887 : BitVec 32 := 32#32
  let v2711 : BitVec 32 := Scalar.muli arg21 c32_i32_887
  let v2712 : BitVec 32 := v2711
  let v2713 : BitVec 32 := Scalar.addi v2712 c0_i32_888
  let v2714 : Index := Scalar.indexCast v2713
  let c0_889 : Index := 0#32
  ![v2714.toNat, 0]
@[reducible] def k0_t12_loop (i : grid0.Coords) : Scf.Loop 32 :=
  let c0_i32_857 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2639 : BitVec 32 := Scalar.subi v24 c0_i32_857
  let c1_i32_858 : BitVec 32 := 1#32
  let v2641 : BitVec 32 := Scalar.divsi v2639 c1_i32_858
  let v2642 : BitVec 32 := Scalar.muli v2641 c1_i32_858
  let v2643 : BitVec 32 := Scalar.addi c0_i32_857 v2642
  let v2640 : BitVec 32 := Scalar.addi c0_i32_857 v2639
  let c1_i32_860 : BitVec 32 := 1#32
  ⟨v2643, v2640, c1_i32_860⟩
def k0_mult24 (i : grid0.Coords) (k0_t12 : Fin (k0_t12_loop i).trips) : BitVec 32 :=
  let c0_i32_857 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2639 : BitVec 32 := Scalar.subi v24 c0_i32_857
  let c1_i32_858 : BitVec 32 := 1#32
  let v2641 : BitVec 32 := Scalar.divsi v2639 c1_i32_858
  let v2642 : BitVec 32 := Scalar.muli v2641 c1_i32_858
  let v2643 : BitVec 32 := Scalar.addi c0_i32_857 v2642
  let c1_i32_860 : BitVec 32 := 1#32
  let arg21 : BitVec 32 := Scf.iv v2643 c1_i32_860 k0_t12
  let c32_i32_887 : BitVec 32 := 32#32
  let v2711 : BitVec 32 := Scalar.muli arg21 c32_i32_887
  v2711
def k0_off22 (i : grid0.Coords) (k0_t12 : Fin (k0_t12_loop i).trips) (c0_i32_888 : BitVec 32) : Fin 2 → Nat :=
  let c0_i32_857 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2639 : BitVec 32 := Scalar.subi v24 c0_i32_857
  let c1_i32_858 : BitVec 32 := 1#32
  let v2641 : BitVec 32 := Scalar.divsi v2639 c1_i32_858
  let v2642 : BitVec 32 := Scalar.muli v2641 c1_i32_858
  let v2643 : BitVec 32 := Scalar.addi c0_i32_857 v2642
  let c1_i32_860 : BitVec 32 := 1#32
  let arg21 : BitVec 32 := Scf.iv v2643 c1_i32_860 k0_t12
  let c32_i32_887 : BitVec 32 := 32#32
  let v2711 : BitVec 32 := Scalar.muli arg21 c32_i32_887
  let v2712 : BitVec 32 := v2711
  let v2713 : BitVec 32 := Scalar.addi v2712 c0_i32_888
  let v2714 : Index := Scalar.indexCast v2713
  let c0_889 : Index := 0#32
  ![v2714.toNat, 0]
@[reducible] def k0_t13_loop : Scf.Loop 32 :=
  let c0_i32_871 : BitVec 32 := 0#32
  let c3_i32 : BitVec 32 := 3#32
  let v2677 : BitVec 32 := Scalar.addi c0_i32_871 c3_i32
  let c1_i32_872 : BitVec 32 := 1#32
  ⟨c0_i32_871, v2677, c1_i32_872⟩
@[reducible] def k0_t14_loop (i : grid0.Coords) : Scf.Loop 32 :=
  let c0_i32_887 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2711 : BitVec 32 := Scalar.subi v24 c0_i32_887
  let c1_i32_888 : BitVec 32 := 1#32
  let v2713 : BitVec 32 := Scalar.divsi v2711 c1_i32_888
  let v2714 : BitVec 32 := Scalar.muli v2713 c1_i32_888
  let v2715 : BitVec 32 := Scalar.addi c0_i32_887 v2714
  let c1_i32_889 : BitVec 32 := 1#32
  ⟨c0_i32_887, v2715, c1_i32_889⟩
def k0_mult25 (i : grid0.Coords) (k0_t14 : Fin (k0_t14_loop i).trips) : BitVec 32 :=
  let c0_i32_887 : BitVec 32 := 0#32
  let c1_i32_889 : BitVec 32 := 1#32
  let arg23 : BitVec 32 := Scf.iv c0_i32_887 c1_i32_889 k0_t14
  let c32_i32_896 : BitVec 32 := 32#32
  let v2742 : BitVec 32 := Scalar.muli arg23 c32_i32_896
  v2742
def k0_off23 (i : grid0.Coords) (k0_t14 : Fin (k0_t14_loop i).trips) (c0_i32_897 : BitVec 32) : Fin 2 → Nat :=
  let c0_i32_887 : BitVec 32 := 0#32
  let c1_i32_889 : BitVec 32 := 1#32
  let arg23 : BitVec 32 := Scf.iv c0_i32_887 c1_i32_889 k0_t14
  let c32_i32_896 : BitVec 32 := 32#32
  let v2742 : BitVec 32 := Scalar.muli arg23 c32_i32_896
  let v2743 : BitVec 32 := v2742
  let v2744 : BitVec 32 := Scalar.addi v2743 c0_i32_897
  let v2745 : Index := Scalar.indexCast v2744
  let c0_898 : Index := 0#32
  ![v2745.toNat, 0]
@[reducible] def k0_t15_loop (i : grid0.Coords) : Scf.Loop 32 :=
  let c0_i32_887 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2711 : BitVec 32 := Scalar.subi v24 c0_i32_887
  let c1_i32_888 : BitVec 32 := 1#32
  let v2713 : BitVec 32 := Scalar.divsi v2711 c1_i32_888
  let v2714 : BitVec 32 := Scalar.muli v2713 c1_i32_888
  let v2715 : BitVec 32 := Scalar.addi c0_i32_887 v2714
  let v2712 : BitVec 32 := Scalar.addi c0_i32_887 v2711
  let c1_i32_890 : BitVec 32 := 1#32
  ⟨v2715, v2712, c1_i32_890⟩
def k0_mult26 (i : grid0.Coords) (k0_t15 : Fin (k0_t15_loop i).trips) : BitVec 32 :=
  let c0_i32_887 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2711 : BitVec 32 := Scalar.subi v24 c0_i32_887
  let c1_i32_888 : BitVec 32 := 1#32
  let v2713 : BitVec 32 := Scalar.divsi v2711 c1_i32_888
  let v2714 : BitVec 32 := Scalar.muli v2713 c1_i32_888
  let v2715 : BitVec 32 := Scalar.addi c0_i32_887 v2714
  let c1_i32_890 : BitVec 32 := 1#32
  let arg23 : BitVec 32 := Scf.iv v2715 c1_i32_890 k0_t15
  let c32_i32_896 : BitVec 32 := 32#32
  let v2742 : BitVec 32 := Scalar.muli arg23 c32_i32_896
  v2742
def k0_off24 (i : grid0.Coords) (k0_t15 : Fin (k0_t15_loop i).trips) (c0_i32_897 : BitVec 32) : Fin 2 → Nat :=
  let c0_i32_887 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2711 : BitVec 32 := Scalar.subi v24 c0_i32_887
  let c1_i32_888 : BitVec 32 := 1#32
  let v2713 : BitVec 32 := Scalar.divsi v2711 c1_i32_888
  let v2714 : BitVec 32 := Scalar.muli v2713 c1_i32_888
  let v2715 : BitVec 32 := Scalar.addi c0_i32_887 v2714
  let c1_i32_890 : BitVec 32 := 1#32
  let arg23 : BitVec 32 := Scf.iv v2715 c1_i32_890 k0_t15
  let c32_i32_896 : BitVec 32 := 32#32
  let v2742 : BitVec 32 := Scalar.muli arg23 c32_i32_896
  let v2743 : BitVec 32 := v2742
  let v2744 : BitVec 32 := Scalar.addi v2743 c0_i32_897
  let v2745 : Index := Scalar.indexCast v2744
  let c0_898 : Index := 0#32
  ![v2745.toNat, 0]
@[reducible] def k0_t16_loop (i : grid0.Coords) : Scf.Loop 32 :=
  let c0_i32_877 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2683 : BitVec 32 := Scalar.subi v24 c0_i32_877
  let c1_i32_878 : BitVec 32 := 1#32
  let v2685 : BitVec 32 := Scalar.divsi v2683 c1_i32_878
  let v2686 : BitVec 32 := Scalar.muli v2685 c1_i32_878
  let v2687 : BitVec 32 := Scalar.addi c0_i32_877 v2686
  let c1_i32_879 : BitVec 32 := 1#32
  ⟨c0_i32_877, v2687, c1_i32_879⟩
def k0_mult27 (i : grid0.Coords) (k0_t16 : Fin (k0_t16_loop i).trips) : BitVec 32 :=
  let c0_i32_877 : BitVec 32 := 0#32
  let c1_i32_879 : BitVec 32 := 1#32
  let arg21 : BitVec 32 := Scf.iv c0_i32_877 c1_i32_879 k0_t16
  let c512_i32_887 : BitVec 32 := 512#32
  let v2711 : BitVec 32 := Scalar.muli arg21 c512_i32_887
  v2711
def k0_off25 (i : grid0.Coords) (k0_t16 : Fin (k0_t16_loop i).trips) (c0_i32_888 : BitVec 32) (c0_i32_889 : BitVec 32) : Fin 2 → Nat :=
  let c0_i32_877 : BitVec 32 := 0#32
  let c1_i32_879 : BitVec 32 := 1#32
  let arg21 : BitVec 32 := Scf.iv c0_i32_877 c1_i32_879 k0_t16
  let c512_i32_887 : BitVec 32 := 512#32
  let v2711 : BitVec 32 := Scalar.muli arg21 c512_i32_887
  let v2712 : BitVec 32 := v2711
  let v2713 : BitVec 32 := Scalar.addi v2712 c0_i32_888
  let v2714 : BitVec 32 := Scalar.addi v2713 c0_i32_889
  let v2715 : Index := Scalar.indexCast v2714
  let c0_890 : Index := 0#32
  ![v2715.toNat, 0]
def k0_off26 (i : grid0.Coords) (k0_t16 : Fin (k0_t16_loop i).trips) (c0_i32_888 : BitVec 32) (c0_i32_889 : BitVec 32) : Fin 2 → Nat :=
  let c0_i32_877 : BitVec 32 := 0#32
  let c1_i32_879 : BitVec 32 := 1#32
  let arg21 : BitVec 32 := Scf.iv c0_i32_877 c1_i32_879 k0_t16
  let c512_i32_887 : BitVec 32 := 512#32
  let v2711 : BitVec 32 := Scalar.muli arg21 c512_i32_887
  let v2712 : BitVec 32 := v2711
  let v2713 : BitVec 32 := Scalar.addi v2712 c0_i32_888
  let v2714 : BitVec 32 := Scalar.addi v2713 c0_i32_889
  let v2723 : Index := Scalar.indexCast v2714
  let c0_892 : Index := 0#32
  ![v2723.toNat, 0]
def k0_off27 (i : grid0.Coords) (k0_t16 : Fin (k0_t16_loop i).trips) : Fin 2 → Nat :=
  let c0_1243 : Index := 0#32
  let c0_i32_877 : BitVec 32 := 0#32
  let c1_i32_879 : BitVec 32 := 1#32
  let arg21 : BitVec 32 := Scf.iv c0_i32_877 c1_i32_879 k0_t16
  let c512_i32_887 : BitVec 32 := 512#32
  let v2711 : BitVec 32 := Scalar.muli arg21 c512_i32_887
  let v2712 : BitVec 32 := v2711
  let v3770 : Index := Scalar.indexCast v2712
  ![0, v3770.toNat]
@[reducible] def k0_t17_loop (i : grid0.Coords) : Scf.Loop 32 :=
  let c0_i32_877 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2683 : BitVec 32 := Scalar.subi v24 c0_i32_877
  let c1_i32_878 : BitVec 32 := 1#32
  let v2685 : BitVec 32 := Scalar.divsi v2683 c1_i32_878
  let v2686 : BitVec 32 := Scalar.muli v2685 c1_i32_878
  let v2687 : BitVec 32 := Scalar.addi c0_i32_877 v2686
  let v2684 : BitVec 32 := Scalar.addi c0_i32_877 v2683
  let c1_i32_880 : BitVec 32 := 1#32
  ⟨v2687, v2684, c1_i32_880⟩
def k0_mult28 (i : grid0.Coords) (k0_t17 : Fin (k0_t17_loop i).trips) : BitVec 32 :=
  let c0_i32_877 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2683 : BitVec 32 := Scalar.subi v24 c0_i32_877
  let c1_i32_878 : BitVec 32 := 1#32
  let v2685 : BitVec 32 := Scalar.divsi v2683 c1_i32_878
  let v2686 : BitVec 32 := Scalar.muli v2685 c1_i32_878
  let v2687 : BitVec 32 := Scalar.addi c0_i32_877 v2686
  let c1_i32_880 : BitVec 32 := 1#32
  let arg21 : BitVec 32 := Scf.iv v2687 c1_i32_880 k0_t17
  let c512_i32_887 : BitVec 32 := 512#32
  let v2711 : BitVec 32 := Scalar.muli arg21 c512_i32_887
  v2711
def k0_off28 (i : grid0.Coords) (k0_t17 : Fin (k0_t17_loop i).trips) (c0_i32_888 : BitVec 32) (c0_i32_889 : BitVec 32) : Fin 2 → Nat :=
  let c0_i32_877 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2683 : BitVec 32 := Scalar.subi v24 c0_i32_877
  let c1_i32_878 : BitVec 32 := 1#32
  let v2685 : BitVec 32 := Scalar.divsi v2683 c1_i32_878
  let v2686 : BitVec 32 := Scalar.muli v2685 c1_i32_878
  let v2687 : BitVec 32 := Scalar.addi c0_i32_877 v2686
  let c1_i32_880 : BitVec 32 := 1#32
  let arg21 : BitVec 32 := Scf.iv v2687 c1_i32_880 k0_t17
  let c512_i32_887 : BitVec 32 := 512#32
  let v2711 : BitVec 32 := Scalar.muli arg21 c512_i32_887
  let v2712 : BitVec 32 := v2711
  let v2713 : BitVec 32 := Scalar.addi v2712 c0_i32_888
  let v2714 : BitVec 32 := Scalar.addi v2713 c0_i32_889
  let v2715 : Index := Scalar.indexCast v2714
  let c0_890 : Index := 0#32
  ![v2715.toNat, 0]
def k0_off29 (i : grid0.Coords) (k0_t17 : Fin (k0_t17_loop i).trips) (c0_i32_888 : BitVec 32) (c0_i32_889 : BitVec 32) : Fin 2 → Nat :=
  let c0_i32_877 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2683 : BitVec 32 := Scalar.subi v24 c0_i32_877
  let c1_i32_878 : BitVec 32 := 1#32
  let v2685 : BitVec 32 := Scalar.divsi v2683 c1_i32_878
  let v2686 : BitVec 32 := Scalar.muli v2685 c1_i32_878
  let v2687 : BitVec 32 := Scalar.addi c0_i32_877 v2686
  let c1_i32_880 : BitVec 32 := 1#32
  let arg21 : BitVec 32 := Scf.iv v2687 c1_i32_880 k0_t17
  let c512_i32_887 : BitVec 32 := 512#32
  let v2711 : BitVec 32 := Scalar.muli arg21 c512_i32_887
  let v2712 : BitVec 32 := v2711
  let v2713 : BitVec 32 := Scalar.addi v2712 c0_i32_888
  let v2714 : BitVec 32 := Scalar.addi v2713 c0_i32_889
  let v2723 : Index := Scalar.indexCast v2714
  let c0_892 : Index := 0#32
  ![v2723.toNat, 0]
def k0_off30 (i : grid0.Coords) (k0_t17 : Fin (k0_t17_loop i).trips) : Fin 2 → Nat :=
  let c0_1243 : Index := 0#32
  let c0_i32_877 : BitVec 32 := 0#32
  let arg2 : BitVec 32 := BitVec.ofNat 32 (i 2).val
  let c128_i32 : BitVec 32 := 128#32
  let v6 : BitVec 32 := Scalar.muli arg2 c128_i32
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c512_i32 : BitVec 32 := 512#32
  let c0_i32_6 : BitVec 32 := 0#32
  let v13 : BitVec 1 := Scalar.cmpi .sgt c512_i32 c0_i32_6
  let v14 : BitVec 32 := Scalar.extui v13
  let c0_i32_7 : BitVec 32 := 0#32
  let v15 : BitVec 1 := Scalar.cmpi .slt c512_i32 c0_i32_7
  let v16 : BitVec 32 := Scalar.extui v15
  let v17 : BitVec 32 := Scalar.subi v14 v16
  let v18 : BitVec 1 := Scalar.cmpi .ne v12 v17
  let v19 : BitVec 32 := Scalar.remsi v6 c512_i32
  let c0_i32_8 : BitVec 32 := 0#32
  let v20 : BitVec 1 := Scalar.cmpi .ne v19 c0_i32_8
  let v21 : BitVec 1 := Scalar.andi v18 v20
  let v7 : BitVec 32 := Scalar.divsi v6 c512_i32
  let c1_i32 : BitVec 32 := 1#32
  let v22 : BitVec 32 := Scalar.subi v7 c1_i32
  let v23 : BitVec 32 := Scalar.select v21 v22 v7
  let c1_i32_9 : BitVec 32 := 1#32
  let v24 : BitVec 32 := Scalar.addi v23 c1_i32_9
  let v2683 : BitVec 32 := Scalar.subi v24 c0_i32_877
  let c1_i32_878 : BitVec 32 := 1#32
  let v2685 : BitVec 32 := Scalar.divsi v2683 c1_i32_878
  let v2686 : BitVec 32 := Scalar.muli v2685 c1_i32_878
  let v2687 : BitVec 32 := Scalar.addi c0_i32_877 v2686
  let c1_i32_880 : BitVec 32 := 1#32
  let arg21 : BitVec 32 := Scf.iv v2687 c1_i32_880 k0_t17
  let c512_i32_887 : BitVec 32 := 512#32
  let v2711 : BitVec 32 := Scalar.muli arg21 c512_i32_887
  let v2712 : BitVec 32 := v2711
  let v3770 : Index := Scalar.indexCast v2712
  ![0, v3770.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x4x128x160 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x6144x160 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x160x6144 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x128x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S2x6144x12x160 : Shape := ⟨4, ![2, 6144, 12, 160]⟩
abbrev S2x6144x12 : Shape := ⟨3, ![2, 6144, 12]⟩
abbrev S2x6144x3x160 : Shape := ⟨4, ![2, 6144, 3, 160]⟩
abbrev S2x6144x3 : Shape := ⟨3, ![2, 6144, 3]⟩
abbrev S2x6144x3x4x160 : Shape := ⟨5, ![2, 6144, 3, 4, 160]⟩
abbrev S2x6144x3x4 : Shape := ⟨4, ![2, 6144, 3, 4]⟩
abbrev S2x3x6144x160 : Shape := ⟨4, ![2, 3, 6144, 160]⟩
abbrev S2x3x6144 : Shape := ⟨3, ![2, 3, 6144]⟩
abbrev S2x6144x1920 : Shape := ⟨3, ![2, 6144, 1920]⟩
abbrev S2x6144x3x4x1x160 : Shape := ⟨6, ![2, 6144, 3, 4, 1, 160]⟩
abbrev S2x1x3x1x6144x160 : Shape := ⟨6, ![2, 1, 3, 1, 6144, 160]⟩
abbrev S2x6144x3x4x6144x160 : Shape := ⟨6, ![2, 6144, 3, 4, 6144, 160]⟩
abbrev S2x6144x3x4x6144 : Shape := ⟨5, ![2, 6144, 3, 4, 6144]⟩
abbrev S2x6144x3x4x1 : Shape := ⟨5, ![2, 6144, 3, 4, 1]⟩
abbrev S2x1x3x1x6144 : Shape := ⟨5, ![2, 1, 3, 1, 6144]⟩
abbrev S2x6144x3x4x48x16x8 : Shape := ⟨7, ![2, 6144, 3, 4, 48, 16, 8]⟩
abbrev S2x6144x3x4x48x8 : Shape := ⟨6, ![2, 6144, 3, 4, 48, 8]⟩
abbrev S2x6144x3x4x384 : Shape := ⟨5, ![2, 6144, 3, 4, 384]⟩
abbrev S2x48x128x3x4 : Shape := ⟨5, ![2, 48, 128, 3, 4]⟩
abbrev S2x48x3 : Shape := ⟨3, ![2, 48, 3]⟩
abbrev S2x48x1x3x1 : Shape := ⟨5, ![2, 48, 1, 3, 1]⟩
abbrev S2x6144x3x4x6144x1 : Shape := ⟨6, ![2, 6144, 3, 4, 6144, 1]⟩

abbrev nBuf : Space → Nat
  | .hbm => 14
  | .vmem => 8
  | .smem => 0
  | _ => 0

abbrev bufTy : (tb : Table) → Fin (tcTables nBuf tb) → BufTy
  | .hbm, ⟨0, _⟩ => ⟨S2x6144x12x160, .fp8e4m3⟩
  | .hbm, ⟨1, _⟩ => ⟨S2x6144x12, .f32⟩
  | .hbm, ⟨2, _⟩ => ⟨S2x6144x3x160, .fp8e4m3⟩
  | .hbm, ⟨3, _⟩ => ⟨S2x6144x3, .f32⟩
  | .hbm, ⟨4, _⟩ => ⟨S2x6144x3x160, .fp8e4m3⟩
  | .hbm, ⟨5, _⟩ => ⟨S2x6144x3, .f32⟩
  | .hbm, ⟨6, _⟩ => ⟨S2x6144x3x4x160, .fp8e4m3⟩
  | .hbm, ⟨7, _⟩ => ⟨S2x6144x3x4, .f32⟩
  | .hbm, ⟨8, _⟩ => ⟨S2x3x6144x160, .fp8e4m3⟩
  | .hbm, ⟨9, _⟩ => ⟨S2x3x6144x160, .fp8e4m3⟩
  | .hbm, ⟨10, _⟩ => ⟨S2x3x6144, .f32⟩
  | .hbm, ⟨11, _⟩ => ⟨S2x3x6144, .f32⟩
  | .hbm, ⟨12, _⟩ => ⟨S2x6144x1920, .bf16⟩
  | .hbm, ⟨13, _⟩ => ⟨S2x6144x12, .f32⟩
  | .local _ .vmem, ⟨0, _⟩ => ⟨S2x6144x3x4x160, .fp8e4m3⟩
  | .local _ .vmem, ⟨1, _⟩ => ⟨S2x6144x3x4, .f32⟩
  | .local _ .vmem, ⟨2, _⟩ => ⟨S2x3x6144x160, .fp8e4m3⟩
  | .local _ .vmem, ⟨3, _⟩ => ⟨S2x3x6144, .f32⟩
  | .local _ .vmem, ⟨4, _⟩ => ⟨S2x3x6144x160, .fp8e4m3⟩
  | .local _ .vmem, ⟨5, _⟩ => ⟨S2x3x6144, .f32⟩
  | .local _ .vmem, ⟨6, _⟩ => ⟨S2x6144x1920, .bf16⟩
  | .local _ .vmem, ⟨7, _⟩ => ⟨S2x6144x12, .f32⟩
  | _, _ => ⟨S2x6144x12x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c6_i32 : BitVec 32 := 6#32
  let v46 : BitVec 32 := Scalar.addi c0_i32 c6_i32
  let c1_i32_25 : BitVec 32 := 1#32
  ⟨c0_i32, v46, c1_i32_25⟩
@[reducible] def k0_t2_loop : Scf.Loop 32 :=
  let c0_i32_27 : BitVec 32 := 0#32
  let c6_i32_28 : BitVec 32 := 6#32
  let v49 : BitVec 32 := Scalar.addi c0_i32_27 c6_i32_28
  let c1_i32_29 : BitVec 32 := 1#32
  ⟨c0_i32_27, v49, c1_i32_29⟩
@[reducible] def k0_t3_loop : Scf.Loop 32 :=
  let c0_i32_59 : BitVec 32 := 0#32
  let c3_i32 : BitVec 32 := 3#32
  let v122 : BitVec 32 := Scalar.addi c0_i32_59 c3_i32
  let c1_i32_60 : BitVec 32 := 1#32
  ⟨c0_i32_59, v122, c1_i32_60⟩
abbrev stage0_0 : Fin 1 → Memref sig .tc .vmem S2x6144x3x4x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x6144x3x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3x6144x160 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x3x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3x6144x160 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x6144x1920 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x6144x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Calc.lean ====
/-
  A small calculus for the body of the attention kernel. The body touches fifteen buffers (eight window stages and seven
  scratch buffers), all of them whole and all of them owned while it runs; so a state of the body is just the contents of
  the fifteen, and `Run ms p σ Q` says: started with the buffers at `σ`, the program `p` runs, and ends with a value and
  contents that satisfy `Q`. One rule per construct: loads, stores, counted loops, calls.
-/
module

public import Idealize.ShloMosaic.Lib.Pipeline.Kit
public import Idealize.ShloMosaic.Lib.Pipeline.Frame
public import Idealize.ShloMosaic.Lib.Pipeline.FrameBody
public import Idealize.ShloMosaic.Lib.Tactic

@[expose] public section

noncomputable section

namespace Entmax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The fifteen buffers of the body: the windows on q, its scale, k, its scale, v transposed, its scale, the two results,
    and the scratch: scores, pool, expanded scales of k and of v, v in bf16, the weights and the accumulator. -/
inductive Bf | q | qs | k | ks | vt | vs | o | tau | y | p | ksx | vsx | vtw | w | acc
  deriving DecidableEq

instance : Fintype Bf := ⟨{.q, .qs, .k, .ks, .vt, .vs, .o, .tau, .y, .p, .ksx, .vsx, .vtw, .w, .acc}, fun b => by cases b <;> decide⟩

/-- The shape of each. -/
@[reducible] def sh : Bf → Shape
  | .q => ⟨4, ![1, 4, 128, 160]⟩ | .qs => ⟨5, ![1, 1, 1, 1, 512]⟩ | .k => ⟨4, ![1, 1, 6144, 160]⟩
  | .ks => ⟨4, ![1, 1, 1, 6144]⟩ | .vt => ⟨4, ![1, 1, 160, 6144]⟩ | .vs => ⟨4, ![1, 1, 1, 6144]⟩
  | .o => ⟨3, ![1, 128, 640]⟩ | .tau => ⟨5, ![1, 1, 1, 1, 512]⟩ | .y => ⟨2, ![6144, 512]⟩ | .p => ⟨2, ![384, 512]⟩
  | .ksx => ⟨2, ![6144, 128]⟩ | .vsx => ⟨2, ![6144, 128]⟩ | .vtw => ⟨2, ![160, 6144]⟩ | .w => ⟨2, ![512, 512]⟩
  | .acc => ⟨2, ![160, 512]⟩

/-- The element type of each. -/
@[reducible] def el : Bf → EltTy
  | .q => .fp8e4m3 | .qs => .f32 | .k => .fp8e4m3 | .ks => .f32 | .vt => .fp8e4m3 | .vs => .f32 | .o => .bf16 | .tau => .f32
  | .y => .f32 | .p => .f32 | .ksx => .f32 | .vsx => .f32 | .vtw => .bf16 | .w => .bf16 | .acc => .f32

/-- A state: the contents of the fifteen buffers. -/
abbrev St (F : FTy → Type) : Type := (b : Bf) → (sh b).Idx → Elt F (el b)

variable {nD : Nat} {τ : Topo} {sig : RefSig} {F : FTy → Type} {Λ : Labels}

abbrev MM (nD : Nat) (τ : Topo) (sig : RefSig) (F : FTy → Type) := MT nD τ sig Unit (Elt F) ℕ (Idealize.ShloMosaic.UR sig nD τ) ℕ

local notation "𝕄" => MM nD τ sig F

/-- The termination measure of the calls the body makes: a natural number that goes down. -/
abbrev NatV : Variants := ⟨ℕ, (· < ·), Nat.lt_wfRel.wf⟩

/-- The fifteen buffers, as memrefs. -/
abbrev Mems (sig : RefSig) : Type := (b : Bf) → Memref sig .tc .vmem (sh b) (el b)

variable (c : Dev nD) (defs : Defs nD τ sig (Elt F) Λ) (ms : Mems sig)

/-- The fifteen buffers owned at the contents `σ`. -/
def own (σ : St F) : sProp 𝕄 :=
  bigSep Finset.univ fun b : Bf => owns (c : Thread nD τ) (ms b) fullShare (σ b)

/-- Started at `σ`, `p` runs and ends at a value and a state that satisfy `Q` (calls below `bd`). -/
structure Run (bd : Option ℕ) {α : Type} (p : Prog (TpuEff nD τ sig (Elt F) Λ .tc) α) (σ : St F) (Q : α → St F → Prop) : Prop where
  out : (own c ms σ : sProp 𝕄) ⊢ wp frame (wpE defs NatV (c : Thread nD τ) bd) Set.univ p
    (fun a => iprop(∃ σ', ⌜Q a σ'⌝ ∗ own c ms σ'))

variable {c defs ms} {bd : Option ℕ} {α β : Type} {σ : St F}

theorem Run.ret {a : α} {Q : α → St F → Prop} (h : Q a σ) : Run c defs ms bd (pure a) σ Q := ⟨by
  rw [Prog.pure_eq_ret, wp_ret]
  iintro H
  imodintro
  iexists σ
  isplitr
  · ipureintro; exact h
  · iexact H⟩

theorem Run.bind {p : Prog (TpuEff nD τ sig (Elt F) Λ .tc) α} {k : α → Prog (TpuEff nD τ sig (Elt F) Λ .tc) β}
    {R : α → St F → Prop} {Q : β → St F → Prop} (h : Run c defs ms bd p σ R)
    (h' : ∀ a σ', R a σ' → Run c defs ms bd (k a) σ' Q) : Run c defs ms bd (p >>= k) σ Q := ⟨by
  rw [wp_bind]
  refine h.out.trans (wp_mono _ _ _ fun a => ?_)
  iintro ⟨%σ', %hR, H⟩
  iapply (h' a σ' hR).out
  iexact H⟩

theorem Run.mono {p : Prog (TpuEff nD τ sig (Elt F) Λ .tc) α} {R Q : α → St F → Prop} (h : Run c defs ms bd p σ R)
    (h' : ∀ a σ', R a σ' → Q a σ') : Run c defs ms bd p σ Q := ⟨by
  refine h.out.trans (wp_mono _ _ _ fun a => ?_)
  iintro ⟨%σ', %hR, H⟩
  iexists σ'
  isplitr
  · ipureintro; exact h' a σ' hR
  · iexact H⟩

theorem Run.assoc {γ : Type} {p : Prog (TpuEff nD τ sig (Elt F) Λ .tc) α} {f : α → Prog (TpuEff nD τ sig (Elt F) Λ .tc) β}
    {k : β → Prog (TpuEff nD τ sig (Elt F) Λ .tc) γ} {Q : γ → St F → Prop}
    (h : Run c defs ms bd (p >>= fun x => f x >>= k) σ Q) : Run c defs ms bd ((p >>= f) >>= k) σ Q := by
  rw [Prog.bind_assoc]; exact h

theorem Run.pure_bind {a : α} {k : α → Prog (TpuEff nD τ sig (Elt F) Λ .tc) β} {Q : β → St F → Prop}
    (h : Run c defs ms bd (k a) σ Q) : Run c defs ms bd (pure a >>= k) σ Q := h

/-- One buffer taken out of the fifteen, to be given back at any contents. -/
theorem own_acc (b : Bf) : (own c ms σ : sProp 𝕄)
    ⊢ iprop(owns (c : Thread nD τ) (ms b) fullShare (σ b)
      ∗ (∀ X, owns (c : Thread nD τ) (ms b) fullShare X -∗ own c ms (Function.update σ b X))) := by
  refine (Entails.of_eq (BI.bigSep_erase (Φ := fun b : Bf => owns (c : Thread nD τ) (ms b) fullShare (σ b)) (Finset.mem_univ b))).trans ?_
  show (iprop(owns (c : Thread nD τ) (ms b) fullShare (σ b) ∗ bigSep (Finset.univ.erase b) fun b' : Bf => owns (c : Thread nD τ) (ms b') fullShare (σ b')) : sProp 𝕄) ⊢ _
  iintro ⟨Hb, Hr⟩
  isplitl [Hb]
  · iexact Hb
  · iintro %X HX
    have e : (own c ms (Function.update σ b X) : sProp 𝕄) = iprop(owns (c : Thread nD τ) (ms b) fullShare X
        ∗ bigSep (Finset.univ.erase b) fun b' : Bf => owns (c : Thread nD τ) (ms b') fullShare (σ b')) := by
      refine (BI.bigSep_erase (Φ := fun b' : Bf => owns (c : Thread nD τ) (ms b') fullShare (Function.update σ b X b')) (Finset.mem_univ b)).trans ?_
      rw [Function.update_self, BI.bigSep_congr (s := Finset.univ.erase b) (Φ := fun b' : Bf => owns (c : Thread nD τ) (ms b') fullShare (Function.update σ b X b'))
        (Ψ := fun b' : Bf => owns (c : Thread nD τ) (ms b') fullShare (σ b'))
        fun b' hb' => by rw [Function.update_of_ne (Finset.ne_of_mem_erase hb')]]
      rfl
    rw [e]
    isplitl [HX]
    · iexact HX
    · iexact Hr

/-- A load reads the state. -/
theorem Run.load (b : Bf) {r : LoadRect (sh b)} {hl : (ms b).view.LoadsAt r}
    {k : (r.shape.Idx → Elt F (el b)) → Prog (TpuEff nD τ sig (Elt F) Λ .tc) β} {Q : β → St F → Prop}
    (h : Run c defs ms bd (k fun x => σ b (r.idx x)) σ Q) :
    Run c defs ms bd (Prog.lift (.load (ms b) r hl) >>= k) σ Q := ⟨by
  rw [Prog.bind_lift]
  iintro H
  ihave H' := (own_acc (c := c) (ms := ms) (σ := σ) b) $$ H
  icases H' with ⟨Hb, Hr⟩
  ihave Hb' := (show owns (c : Thread nD τ) (ms b) fullShare (σ b) ⊢ (iprop(∃ f, ⌜(ms b).view.read (Elt F) f = σ b⌝ ∗ ((ms b).view.loc (c : Thread nD τ) ↦[(ms b).view.set]{fullShare} f)) : sProp 𝕄) from .rfl) $$ Hb
  icases Hb' with ⟨%f, %hf, Hf⟩
  ihave K := (wp_load (defs := defs) NatV (c : Thread nD τ) bd (Γ := .empty) Set.univ (m := ms b) (r := r) (hl := hl) (k := k)
    (Q := fun a => iprop(∃ σ', ⌜Q a σ'⌝ ∗ own c ms σ')) (q := fullShare) (f := f) (S := (ms b).view.set) (View.setOn_subset_set _ _)) $$ Hf
  iapply K
  iintro Hf
  have e : (ms b).view.readAt (Elt F) r f = fun x => σ b (r.idx x) := by
    funext x; rw [View.readAt_apply, hf]
  rw [e]
  iapply h.out
  have e2 : Function.update σ b (σ b) = σ := Function.update_eq_self b σ
  ihave R := (show (iprop(∀ X, owns (c : Thread nD τ) (ms b) fullShare X -∗ own c ms (Function.update σ b X)) : sProp 𝕄) ⊢ iprop(owns (c : Thread nD τ) (ms b) fullShare (σ b) -∗ own c ms σ) from by
    iintro H; ispecialize H $$ %(σ b); rw [e2]; iexact H) $$ Hr
  iapply R
  iapply (show (((ms b).view.loc (c : Thread nD τ) ↦[(ms b).view.set]{fullShare} f) : sProp 𝕄) ⊢ owns (c : Thread nD τ) (ms b) fullShare (σ b) from by
    rw [← hf]; exact owns_intro _ _ _ _)
  iexact Hf⟩

/-- A load that is the last statement. -/
theorem Run.lift_load (b : Bf) {r : LoadRect (sh b)} {hl : (ms b).view.LoadsAt r}
    {Q : (r.shape.Idx → Elt F (el b)) → St F → Prop} (h : Q (fun x => σ b (r.idx x)) σ) :
    Run c defs ms bd (Prog.lift (.load (ms b) r hl)) σ Q := by
  have := Run.load (c := c) (defs := defs) (ms := ms) (bd := bd) b (r := r) (hl := hl) (k := fun x => pure x) (Q := Q) (.ret h)
  rwa [show (Prog.lift (.load (ms b) r hl) >>= fun x => pure x) = (Prog.lift (.load (ms b) r hl) : Prog (TpuEff nD τ sig (Elt F) Λ .tc) _) from bind_pure _] at this

/-- The state after a store: the stored rectangle laid over what the buffer held. -/
def put (σ : St F) (b : Bf) (r : Rect (sh b)) (w : r.shape.Idx → Elt F (el b)) : St F :=
  Function.update σ b (r.overlay (σ b) w)

/-- A store lays its payload over the buffer. -/
theorem Run.store (b : Bf) {r : Rect (sh b)} {w : r.shape.Idx → Elt F (el b)} {hx : ((ms b).access r).Stores Finset.univ}
    {hm : (Finset.univ : Finset r.shape.Idx) = Finset.univ ∨ ∀ a, r.stride a = 1}
    {k : PUnit → Prog (TpuEff nD τ sig (Elt F) Λ .tc) β} {Q : β → St F → Prop}
    (h : Run c defs ms bd (k ⟨⟩) (put σ b r w) Q) :
    Run c defs ms bd (Prog.lift (.store (ms b) r w Finset.univ hx hm) >>= k) σ Q := ⟨by
  rw [Prog.bind_lift]
  iintro H
  ihave H' := (own_acc (c := c) (ms := ms) (σ := σ) b) $$ H
  icases H' with ⟨Hb, Hr⟩
  ihave Hb' := (show owns (c : Thread nD τ) (ms b) fullShare (σ b) ⊢ (iprop(∃ f, ⌜(ms b).view.read (Elt F) f = σ b⌝ ∗ ((ms b).view.loc (c : Thread nD τ) ↦[(ms b).view.set]{fullShare} f)) : sProp 𝕄) from .rfl) $$ Hb
  icases Hb' with ⟨%f, %hf, Hf⟩
  ihave K := (wp_store (defs := defs) NatV (c : Thread nD τ) bd (Γ := .empty) Set.univ (m := ms b) (r := r) (w := w) (Mk := Finset.univ) (hx := hx) (hm := hm) (k := k)
    (Q := fun a => iprop(∃ σ', ⌜Q a σ'⌝ ∗ own c ms σ')) (f := f) (S := (ms b).view.set) (Memref.setOn_access_subset _ _ _)) $$ Hf
  iapply K
  iintro Hf
  have e : (ms b).view.read (Elt F) (((ms b).access r).write (Elt F) f w Finset.univ) = r.overlay (σ b) w := by
    funext y
    by_cases hy : y ∈ r.set
    · obtain ⟨x, rfl⟩ : ∃ x, r.emb x = y := by
        rw [← Rect.map_emb_univ, Finset.mem_map] at hy
        obtain ⟨x, -, hx⟩ := hy; exact ⟨x, hx⟩
      rw [Rect.overlay_emb]
      exact View.read_slice_write_emb (v := (ms b).view) r f w (Finset.mem_univ x)
    · rw [Rect.overlay_of_not_mem _ _ _ hy, ← hf]
      exact View.read_slice_write_of_not_mem (v := (ms b).view) r f w _ (by rw [Rect.map_emb_univ]; exact hy)
  iapply h.out
  ihave R := (show (iprop(∀ X, owns (c : Thread nD τ) (ms b) fullShare X -∗ own c ms (Function.update σ b X)) : sProp 𝕄) ⊢ iprop(owns (c : Thread nD τ) (ms b) fullShare (r.overlay (σ b) w) -∗ own c ms (put σ b r w)) from by
    iintro H; ispecialize H $$ %(r.overlay (σ b) w); iexact H) $$ Hr
  iapply R
  iapply (show (((ms b).view.loc (c : Thread nD τ) ↦[(ms b).view.set]{fullShare} (((ms b).access r).write (Elt F) f w Finset.univ)) : sProp 𝕄) ⊢ owns (c : Thread nD τ) (ms b) fullShare (r.overlay (σ b) w) from by
    rw [← e]; exact owns_intro _ _ _ _)
  iexact Hf⟩

/-- A store that is the last statement. -/
theorem Run.lift_store (b : Bf) {r : Rect (sh b)} {w : r.shape.Idx → Elt F (el b)} {hx : ((ms b).access r).Stores Finset.univ}
    {hm : (Finset.univ : Finset r.shape.Idx) = Finset.univ ∨ ∀ a, r.stride a = 1}
    {Q : PUnit → St F → Prop} (h : Q ⟨⟩ (put σ b r w)) :
    Run c defs ms bd (Prog.lift (.store (ms b) r w Finset.univ hx hm)) σ Q := by
  have := Run.store (c := c) (defs := defs) (ms := ms) (bd := bd) b (r := r) (w := w) (hx := hx) (hm := hm) (k := fun x => pure x) (Q := Q) (.ret h)
  rwa [show (Prog.lift (.store (ms b) r w Finset.univ hx hm) >>= fun x => pure x) = (Prog.lift (.store (ms b) r w Finset.univ hx hm) : Prog (TpuEff nD τ sig (Elt F) Λ .tc) _) from bind_pure _] at this

/-- A counted loop, by an invariant on the trip number, the carried values and the state. -/
theorem Run.loop {n : ℕ} {l : Scf.Loop n} {hok : l.OK} {init : α} {body : Fin l.trips → α → Prog (TpuEff nD τ sig (Elt F) Λ .tc) α}
    (I : ℕ → α → St F → Prop) {Q : α → St F → Prop} (h0 : I 0 init σ)
    (hb : ∀ (k : Fin l.trips) (a : α) (σ' : St F), I k.val a σ' → Run c defs ms bd (body k a) σ' (I (k.val + 1)))
    (hQ : ∀ a σ', I l.trips a σ' → Q a σ') : Run c defs ms bd (Scf.Loop.for l hok init body) σ Q := ⟨by
  refine BIBase.Entails.trans ?_ (Scf.wp_for frame (wpE defs NatV (c : Thread nD τ) bd) Set.univ l.lb l.ub l.st hok init body
    (fun k a => iprop(∃ σ', ⌜I k a σ'⌝ ∗ own c ms σ')) ?_)
  · iintro H
    isplitl [H]
    · iexists σ
      isplitr
      · ipureintro; exact h0
      · iexact H
    · iintro %a H
      icases H with ⟨%σ', %hI, H⟩
      iexists σ'
      isplitr
      · ipureintro; exact hQ a σ' hI
      · iexact H
  · intro k a
    iintro ⟨%σ', %hI, H⟩
    iapply (hb k a σ' hI).out
    iexact H⟩

/-- A counted loop of no trips. -/
theorem Run.loop_zero {n : ℕ} {l : Scf.Loop n} {hok : l.OK} {init : α} {body : Fin l.trips → α → Prog (TpuEff nD τ sig (Elt F) Λ .tc) α}
    (hz : l.trips ≤ 0) {Q : α → St F → Prop} (h : Q init σ) : Run c defs ms bd (Scf.Loop.for l hok init body) σ Q :=
  .loop (fun _ a σ' => Q a σ') h (fun k => absurd k.isLt (by omega)) fun _ _ h => h

/-- A call, at a measure below the bound. -/
theorem Run.call {ℓ : Λ.Label} {a : Λ.Args ℓ} {Q : Λ.Result ℓ → St F → Prop} (v : ℕ) (hv : ∀ u ∈ bd, v < u)
    (h : Run c defs ms (some v) (defs .tc ℓ a) σ Q) : Run c defs ms bd (Prog.lift (.call ℓ a)) σ Q := ⟨by
  refine h.out.trans ?_
  have := wp_call (defs := defs) NatV (c : Thread nD τ) bd (Γ := .empty) Set.univ (ℓ := ℓ) (a := a) (k := .ret)
    (Q := fun x => (iprop(∃ σ', ⌜Q x σ'⌝ ∗ own c ms σ') : sProp 𝕄)) v hv
  refine BIBase.Entails.trans ?_ this
  refine wp_mono _ _ _ fun x => ?_
  rw [wp_ret]
  iintro H
  imodintro
  iexact H⟩

/-- A conditional. -/
theorem Run.ite {P : Prop} [Decidable P] {p p' : Prog (TpuEff nD τ sig (Elt F) Λ .tc) α} {Q : α → St F → Prop}
    (h : P → Run c defs ms bd p σ Q) (h' : ¬ P → Run c defs ms bd p' σ Q) : Run c defs ms bd (if P then p else p') σ Q := by
  by_cases hp : P
  · rw [if_pos hp]; exact h hp
  · rw [if_neg hp]; exact h' hp

/-- A conditional that names its condition. -/
theorem Run.dite {P : Prop} [Decidable P] {p : P → Prog (TpuEff nD τ sig (Elt F) Λ .tc) α} {p' : ¬ P → Prog (TpuEff nD τ sig (Elt F) Λ .tc) α}
    {Q : α → St F → Prop} (h : ∀ hp, Run c defs ms bd (p hp) σ Q) (h' : ∀ hp, Run c defs ms bd (p' hp) σ Q) :
    Run c defs ms bd (if hp : P then p hp else p' hp) σ Q := by
  by_cases hp : P
  · rw [dif_pos hp]; exact h hp
  · rw [dif_neg hp]; exact h' hp

/-- `p` runs from any contents. -/
def Safe (c : Dev nD) (defs : Defs nD τ sig (Elt F) Λ) (ms : Mems sig) (bd : Option ℕ) {α : Type} (p : Prog (TpuEff nD τ sig (Elt F) Λ .tc) α) : Prop :=
  ∀ σ : St F, Run c defs ms bd p σ (fun _ _ => True)

namespace Safe

theorem ret {a : α} : Safe c defs ms bd (pure a) := fun _ => .ret trivial

theorem bind {p : Prog (TpuEff nD τ sig (Elt F) Λ .tc) α} {k : α → Prog (TpuEff nD τ sig (Elt F) Λ .tc) β}
    (h : Safe c defs ms bd p) (h' : ∀ a, Safe c defs ms bd (k a)) : Safe c defs ms bd (p >>= k) :=
  fun σ => (h σ).bind fun a σ' _ => h' a σ'

/-- Runs that end with a value of which `R` holds. -/
theorem bindR {p : Prog (TpuEff nD τ sig (Elt F) Λ .tc) α} {k : α → Prog (TpuEff nD τ sig (Elt F) Λ .tc) β} {R : β → Prop}
    (h : Safe c defs ms bd p) (h' : ∀ a σ, Run c defs ms bd (k a) σ (fun b _ => R b)) (σ : St F) :
    Run c defs ms bd (p >>= k) σ (fun b _ => R b) := (h σ).bind fun a σ' _ => h' a σ'

theorem load (b : Bf) {r : LoadRect (sh b)} {hl : (ms b).view.LoadsAt r} : Safe c defs ms bd (Prog.lift (.load (ms b) r hl)) :=
  fun _ => .lift_load b trivial

theorem store (b : Bf) {r : Rect (sh b)} {w : r.shape.Idx → Elt F (el b)} {hx : ((ms b).access r).Stores Finset.univ}
    {hm : (Finset.univ : Finset r.shape.Idx) = Finset.univ ∨ ∀ a, r.stride a = 1} :
    Safe c defs ms bd (Prog.lift (.store (ms b) r w Finset.univ hx hm)) := fun _ => .lift_store b trivial

theorem loop {n : ℕ} {l : Scf.Loop n} {hok : l.OK} {init : α} {body : Fin l.trips → α → Prog (TpuEff nD τ sig (Elt F) Λ .tc) α}
    (hb : ∀ (k : Fin l.trips) (a : α), Safe c defs ms bd (body k a)) : Safe c defs ms bd (Scf.Loop.for l hok init body) :=
  fun _ => .loop (fun _ _ _ => True) trivial (fun k a σ' _ => hb k a σ') fun _ _ _ => trivial

theorem loop_zero {n : ℕ} {l : Scf.Loop n} {hok : l.OK} {init : α} {body : Fin l.trips → α → Prog (TpuEff nD τ sig (Elt F) Λ .tc) α}
    (hz : l.trips ≤ 0) : Safe c defs ms bd (Scf.Loop.for l hok init body) := fun _ => .loop_zero hz trivial

theorem ite {P : Prop} [Decidable P] {p p' : Prog (TpuEff nD τ sig (Elt F) Λ .tc) α}
    (h : P → Safe c defs ms bd p) (h' : ¬ P → Safe c defs ms bd p') : Safe c defs ms bd (if P then p else p') :=
  fun σ => .ite (fun hp => h hp σ) fun hp => h' hp σ

theorem dite {P : Prop} [Decidable P] {p : P → Prog (TpuEff nD τ sig (Elt F) Λ .tc) α} {p' : ¬ P → Prog (TpuEff nD τ sig (Elt F) Λ .tc) α}
    (h : ∀ hp, Safe c defs ms bd (p hp)) (h' : ∀ hp, Safe c defs ms bd (p' hp)) : Safe c defs ms bd (if hp : P then p hp else p' hp) :=
  fun σ => .dite (fun hp => h hp σ) fun hp => h' hp σ

theorem call {ℓ : Λ.Label} {a : Λ.Args ℓ} (v : ℕ) (hv : ∀ u ∈ bd, v < u)
    (h : Safe c defs ms (some v) (defs .tc ℓ a)) : Safe c defs ms bd (Prog.lift (.call ℓ a)) := fun σ => .call v hv (h σ)

end Safe

end Entmax

end
-- ==== Proof.SafeKernel.lean ====
/-
  The body of the attention kernel runs from any contents of its fifteen buffers: every load and store of it is in bounds,
  its counted loops end, and its convergence loop calls itself at most six times.
-/
module

public import proofs.«01_k».proof.Proof.Calc
public import proofs.«01_k».proof.Proof.Gen.Kernel

@[expose] public section

noncomputable section

namespace Entmax.Kernel

open Idealize.ShloMosaic Idealize.ShloMosaic.TcCoe Cert.Kernel
open Idealize.SL.Sem

variable {F : FTy → Type} [FloatOps F]

/-- One more round leaves fewer to go. -/
theorem round_lt (a : BitVec 32) (b : BitVec 1) (h : Scalar.andi (Scalar.cmpi .slt a 6#32) b = 1#1) :
    (6 - (Scalar.addi a 1#32).toInt).toNat < (6 - a.toInt).toNat := by
  have h1 : a.slt 6#32 = true := by
    by_contra hn
    have : Scalar.cmpi .slt a 6#32 = 0#1 := by
      show BitVec.ofBool (a.slt 6#32) = 0#1
      rw [Bool.eq_false_iff.mpr hn]; rfl
    rw [this] at h
    have e : Scalar.andi 0#1 b = 0#1 := BitVec.zero_and
    rw [e] at h
    exact absurd h (by decide)
  have h2 : a.toInt < 6 := by simpa [BitVec.slt] using h1
  have h3 : (Scalar.addi a 1#32).toInt = a.toInt + 1 := by
    have hl : -2147483648 ≤ a.toInt := BitVec.le_toInt a
    show (a + 1#32).toInt = _
    rw [BitVec.toInt_add]
    have e1 : (1#32 : BitVec 32).toInt = 1 := by decide
    rw [e1]
    simp only [Int.bmod]
    have : ((2 ^ 32 : ℕ) : ℤ) = 4294967296 := by decide
    rw [this]
    omega
  omega

/-- The convergence loop runs, from any number of rounds done. -/
theorem while_safe (c : Dev nD) (ms : Mems sig) (hms : ∀ b, (ms b).IsWhole) (i : grid0.Coords) (v2604 : FVec F S8x512 .f32)
    (v28 v2600 v2603 v33 v2576 : FVec F S1x512 .f32) :
    ∀ (n : ℕ) (a : BitVec 32) (e : F .f32) (t : FVec F S1x512 .f32), (6 - a.toInt).toNat = n →
      Safe c (defs₀ (F := F)) ms (some n) (cc0_while1 i v2604 (ms .y) (hms .y) (ms .p) (hms .p) v28 v2600 v2603 (ms .acc) (hms .acc)
        (ms .vsx) (hms .vsx) (ms .w) (hms .w) (ms .vtw) (hms .vtw) v33 v2576 a e t) := by
  intro n
  induction n using Nat.strong_induction_on with
  | _ n ih =>
    intro a e t hn
    refine Safe.ite (fun hc => ?_) fun _ => Safe.ret
    have hlt := round_lt a _ hc
    refine Safe.bind ?_ ?_
    · repeat' first
        | with_reducible exact Safe.load _
        | with_reducible exact Safe.store _
        | with_reducible exact Safe.ret
        | (with_reducible refine Safe.bind ?_ fun _ => ?_)
        | with_reducible exact Safe.loop_zero (k0_t10_abs i).2.1
        | with_reducible exact Safe.loop_zero (k0_t12_abs i).2.1
        | (with_reducible refine Safe.loop fun _ a => ?_)
        | (refine Safe.bind ?_ fun _ => ?_)
    · rintro ⟨x1, x2, x3, x4, x5⟩ σ
      refine Run.bind (R := fun r _ => r.2.1 = Scalar.addi a 1#32) ?_ ?_
      · revert σ
        iterate 60 first
          | (intro σ; with_reducible exact Run.ret rfl)
          | (with_reducible refine Safe.bindR (Safe.load _) fun _ => ?_)
          | (with_reducible refine Safe.bindR (Safe.store _) fun _ => ?_)
          | (with_reducible refine Safe.bindR (Safe.loop_zero (k0_t17_abs i).2.1) fun _ => ?_)
          | (refine Safe.bindR (Safe.loop ?_) fun _ => ?_; rotate_left)
          | (refine Safe.bindR ?_ fun _ => ?_; rotate_left)
          | skip
        repeat' first
          | (intro σ; with_reducible exact Run.ret rfl)
          | (intro _ _)
          | with_reducible exact Safe.load _
          | with_reducible exact Safe.store _
          | with_reducible exact Safe.ret
          | (with_reducible refine Safe.bind ?_ fun _ => ?_)
          | with_reducible exact Safe.loop_zero (k0_t15_abs i).2.1
          | (with_reducible refine Safe.loop fun _ a => ?_)
          | (refine Safe.bind ?_ fun _ => ?_)
      · rintro ⟨y1, y2, y3⟩ σ' rfl
        exact Safe.call _ (by rintro u ⟨⟩; rw [← hn]; exact hlt) (ih _ (by rw [← hn]; exact hlt) _ _ _ rfl) _

/-- The body runs, from any contents. -/
theorem body_safe (c : Dev nD) (ms : Mems sig) (hms : ∀ b, (ms b).IsWhole) (i : grid0.Coords) :
    Safe c (defs₀ (F := F)) ms none (cc0_entmax15_attention i (ms .q) (hms .q) (ms .qs) (hms .qs) (ms .k) (hms .k) (ms .ks) (hms .ks)
      (ms .vt) (hms .vt) (ms .vs) (hms .vs) (ms .o) (hms .o) (ms .tau) (hms .tau) (ms .y) (hms .y) (ms .p) (hms .p)
      (ms .ksx) (hms .ksx) (ms .vsx) (hms .vsx) (ms .vtw) (hms .vtw) (ms .w) (hms .w) (ms .acc) (hms .acc)) := by
  repeat' first
    | with_reducible exact Safe.load _
    | with_reducible exact Safe.store _
    | with_reducible exact Safe.ret
    | (with_reducible refine Safe.bind ?_ fun _ => ?_)
    | with_reducible exact Safe.loop_zero (k0_t3_abs i).2.1
    | with_reducible exact Safe.loop_zero (k0_t5_abs i).2.1
    | with_reducible exact Safe.loop_zero (k0_t8_abs i).2.1
    | (with_reducible refine Safe.loop fun _ a => ?_)
    | (delta k0_part39; refine Safe.dite (fun _ => ?_) fun _ => ?_)
    | exact Safe.call _ (by rintro u ⟨⟩) (while_safe c ms hms i _ _ _ _ _ _ _ _ _ _ rfl)
    | (refine Safe.bind ?_ fun _ => ?_)

end Entmax.Kernel
end
-- ==== Proof.FrameKernel.lean ====
/-
  The frame of the attention kernel: the program runs, its six arguments end unchanged, every semaphore ends at zero. The
  region's proof data name nothing of what the body leaves (every window is forgotten), because the frame does not need it;
  the body itself is `body_safe`.
-/
module

public import proofs.«01_k».proof.Proof.SafeKernel
public import proofs.«01_k».proof.Proof.Gen.Kernel.Launch
public import proofs.«01_k».proof.Proof.Gen.Kernel.Skeleton
public import proofs.«01_k».proof.Proof.Gen.Kernel.Points
public import Idealize.ShloMosaic.Lib.Pipeline.FrameSuffix

@[expose] public section

noncomputable section

namespace Entmax.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MM nD τ sig F

variable (m : (ℓ : Loc nD τ sig) → Buf (Elt F) ℓ) (ρ : Dev nD → PrngReg)

/-! ## The lines around the region -/

/-- A core's buffers when the region is entered: after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [hostOps0, List.Forall]; exact ⟨rfl, rfl, rfl, rfl, rfl, rfl, rfl, rfl, rfl, rfl⟩
theorem hostOps1_fresh : (hostOps1 : List (HloOp τ sig (Elt F))).Forall fun op => op.fresh = ∅ := by
  simp only [hostOps1, List.Forall]; exact ⟨rfl, rfl, rfl⟩

/-- @main around the region. -/
theorem hmain (𝒱₀ : Variants) : Pipeline.HMainK (Ix := Unit) (Name := ℕ) (U := Idealize.ShloMosaic.UR sig nD τ) (Lvl := ℕ) (cfgs (F := F)) 0 defs₀ 𝒱₀ m
    (main (F := F)) (V m) (fun _ => Pipeline.chain ([hostOps1].map StableHlo.seq)) :=
  Pipeline.hmain_around (cfgs (F := F)) 0 defs₀ 𝒱₀ m (main (F := F)) [hostOps0] [hostOps1] (by simp only [List.Forall]; exact hostOps0_sub)
    (by simp only [List.Forall]; exact hostOps0_fresh (F := F)) (fun c => main_chain (F := F) c)

theorem sfx_sub : ∀ ops ∈ ([hostOps1 (F := F)] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  subst hops
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl
  all_goals intro w; fin_cases w <;> simp only [StableHlo.unary_writes, StableHlo.reshape_writes, Finset.mem_singleton] <;> exact StableHlo.devRef_ne_of_ne (by decide)

/-- The buffers the lines after the region write. -/
def T0 : Finset (Ref sig .tc) := {main_v11, main_v12, main_v13}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  subst hops
  simp only [hostOps1, List.mem_cons, List.mem_nil_iff, or_false] at hop
  rcases hop with rfl | rfl | rfl
  all_goals intro b hb; simp only [StableHlo.unary_writes, StableHlo.reshape_writes, Finset.mem_singleton] at hb; cases Proc.devRef_injective _ hb; decide

/-- A buffer no host operation before the region writes is still what it was at launch. -/
theorem V_of_ne (c : Dev nD) (b : Ref sig .tc) (hb : b ∉ ([main_v0, main_v1, main_v2, main_v3, main_v4, main_v5, main_v6, main_v7, main_v8, main_v9] : List (Ref sig .tc))) :
    V m c b = m ((c : Thread nD τ).loc b) := by
  refine StableHlo.after_of_forall_not_mem (b := Proc.devRef .tc b) _ _ ?_
  intro op hop
  simp only [List.flatten_cons, List.flatten_nil, List.append_nil, hostOps0, List.mem_cons, List.mem_nil_iff, or_false] at hop
  simp only [List.mem_cons, List.mem_nil_iff, or_false, not_or] at hb
  rcases hop with rfl | rfl | rfl | rfl | rfl | rfl | rfl | rfl | rfl | rfl
  all_goals simp only [StableHlo.unary_writes, StableHlo.reshape_writes, Finset.mem_singleton]
  all_goals refine StableHlo.devRef_ne_of_ne ?_
  all_goals first | exact hb.1 | exact hb.2.1 | exact hb.2.2.1 | exact hb.2.2.2.1 | exact hb.2.2.2.2.1 | exact hb.2.2.2.2.2.1 | exact hb.2.2.2.2.2.2.1 | exact hb.2.2.2.2.2.2.2.1 | exact hb.2.2.2.2.2.2.2.2.1 | exact hb.2.2.2.2.2.2.2.2.2

/-! ## The fifteen buffers of one grid point -/

/-- The staging buffers of the eight windows at point `t` and the seven scratch buffers. -/
abbrev mems (F : FTy → Type) [FloatOps F] (t : Fin (cfg0 (F := F)).N) : Mems sig := fun
  | .q => win0_0.stage ((cfg0 (F := F)).slots t 0) | .qs => win0_1.stage ((cfg0 (F := F)).slots t 1) | .k => win0_2.stage ((cfg0 (F := F)).slots t 2)
  | .ks => win0_3.stage ((cfg0 (F := F)).slots t 3) | .vt => win0_4.stage ((cfg0 (F := F)).slots t 4) | .vs => win0_5.stage ((cfg0 (F := F)).slots t 5)
  | .o => win0_6.stage ((cfg0 (F := F)).slots t 6) | .tau => win0_7.stage ((cfg0 (F := F)).slots t 7)
  | .y => Memref.whole cc0_scratch0 | .p => Memref.whole cc0_scratch1 | .ksx => Memref.whole cc0_scratch2 | .vsx => Memref.whole cc0_scratch3
  | .vtw => Memref.whole cc0_scratch4 | .w => Memref.whole cc0_scratch5 | .acc => Memref.whole cc0_scratch6

theorem mems_whole (F : FTy → Type) [FloatOps F] (t : Fin (cfg0 (F := F)).N) : ∀ b, (mems F t b).IsWhole := fun
  | .q => hstage0_0 (((cfg0 (F := F)).slots t 0).cast nbuf0_0) | .qs => hstage0_1 (((cfg0 (F := F)).slots t 1).cast nbuf0_1) | .k => hstage0_2 (((cfg0 (F := F)).slots t 2).cast nbuf0_2)
  | .ks => hstage0_3 (((cfg0 (F := F)).slots t 3).cast nbuf0_3) | .vt => hstage0_4 (((cfg0 (F := F)).slots t 4).cast nbuf0_4) | .vs => hstage0_5 (((cfg0 (F := F)).slots t 5).cast nbuf0_5)
  | .o => hstage0_6 (((cfg0 (F := F)).slots t 6).cast nbuf0_6) | .tau => hstage0_7 (((cfg0 (F := F)).slots t 7).cast nbuf0_7)
  | .y => Memref.isWhole_whole _ | .p => Memref.isWhole_whole _ | .ksx => Memref.isWhole_whole _ | .vsx => Memref.isWhole_whole _
  | .vtw => Memref.isWhole_whole _ | .w => Memref.isWhole_whole _ | .acc => Memref.isWhole_whole _

/-- The body of point `t` is the kernel's function over these buffers. -/
theorem defs₀_row (t : Fin (cfg0 (F := F)).N) :
    defs₀ (F := F) .tc (cfg0 (F := F)).body ((cfg0 (F := F)).bodyArgs t ((cfg0 (F := F)).slots t))
      = cc0_entmax15_attention (grid0.coords t) (mems F t .q) (mems_whole F t .q) (mems F t .qs) (mems_whole F t .qs) (mems F t .k) (mems_whole F t .k) (mems F t .ks) (mems_whole F t .ks) (mems F t .vt) (mems_whole F t .vt) (mems F t .vs) (mems_whole F t .vs) (mems F t .o) (mems_whole F t .o) (mems F t .tau) (mems_whole F t .tau) (mems F t .y) (mems_whole F t .y) (mems F t .p) (mems_whole F t .p) (mems F t .ksx) (mems_whole F t .ksx) (mems F t .vsx) (mems_whole F t .vsx) (mems F t .vtw) (mems_whole F t .vtw) (mems F t .w) (mems_whole F t .w) (mems F t .acc) (mems_whole F t .acc) := by
  unfold defs₀; rw [Defs.onTc_tc]

/-- The fifteen buffers one by one. -/
theorem own_eq (c : Dev nD) (ms : Mems sig) (σ : St F) : (own c ms σ : sProp 𝕄)
    = iprop(owns (c : Thread nD τ) (ms .q) fullShare (σ .q) ∗ owns (c : Thread nD τ) (ms .qs) fullShare (σ .qs)
      ∗ owns (c : Thread nD τ) (ms .k) fullShare (σ .k) ∗ owns (c : Thread nD τ) (ms .ks) fullShare (σ .ks)
      ∗ owns (c : Thread nD τ) (ms .vt) fullShare (σ .vt) ∗ owns (c : Thread nD τ) (ms .vs) fullShare (σ .vs)
      ∗ owns (c : Thread nD τ) (ms .o) fullShare (σ .o) ∗ owns (c : Thread nD τ) (ms .tau) fullShare (σ .tau)
      ∗ owns (c : Thread nD τ) (ms .y) fullShare (σ .y) ∗ owns (c : Thread nD τ) (ms .p) fullShare (σ .p)
      ∗ owns (c : Thread nD τ) (ms .ksx) fullShare (σ .ksx) ∗ owns (c : Thread nD τ) (ms .vsx) fullShare (σ .vsx)
      ∗ owns (c : Thread nD τ) (ms .vtw) fullShare (σ .vtw) ∗ owns (c : Thread nD τ) (ms .w) fullShare (σ .w)
      ∗ owns (c : Thread nD τ) (ms .acc) fullShare (σ .acc)) :=
  bigSep_univ_eq_bigSepL [Bf.q, .qs, .k, .ks, .vt, .vs, .o, .tau, .y, .p, .ksx, .vsx, .vtw, .w, .acc] (by decide) (by decide) _

/-- What the scratch buffers hold between grid points, and the generator register. -/
theorem ΦA_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)
      ∗ (∃ d, owns (c : Thread nD τ) (Memref.whole cc0_scratch4) fullShare d) ∗ (∃ d, owns (c : Thread nD τ) (Memref.whole cc0_scratch5) fullShare d)
      ∗ (∃ d, owns (c : Thread nD τ) (Memref.whole cc0_scratch6) fullShare d)) ∗ (∃ r, prngReg c r)) := by
  unfold Pipeline.ΦA
  rw [scopedRest0_eq]
  simp only [owns_whole]; try rfl

/-! ## The region's proof data -/

/-- Nothing is named: each window's array at entry, the scratch at any contents. -/
def dats (_ : Fin 1) (c : Dev nD) : Dat τ (Elt F) Unit ℕ (Idealize.ShloMosaic.UR sig nD τ) ℕ (cfg0 (F := F)) c where
  A w := V m c (Pipeline.arrRef spec0 w)
  after := Dat.unnamed
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

/-- A point's staging buffers, each at some contents. -/
def anyWin (c : Dev nD) (t : Fin (cfg0 (F := F)).N) : sProp 𝕄 :=
  iprop((∃ X, owns (c : Thread nD τ) (mems F t .q) fullShare X) ∗ (∃ X, owns (c : Thread nD τ) (mems F t .qs) fullShare X)
    ∗ (∃ X, owns (c : Thread nD τ) (mems F t .k) fullShare X) ∗ (∃ X, owns (c : Thread nD τ) (mems F t .ks) fullShare X)
    ∗ (∃ X, owns (c : Thread nD τ) (mems F t .vt) fullShare X) ∗ (∃ X, owns (c : Thread nD τ) (mems F t .vs) fullShare X)
    ∗ (∃ X, owns (c : Thread nD τ) (mems F t .o) fullShare X) ∗ (∃ X, owns (c : Thread nD τ) (mems F t .tau) fullShare X))

theorem sound_body (c : Dev nD) (t : Fin (cfg0 (F := F)).N) :
    iprop((dats m 0 c).Φ t.castSucc ∗ (dats m 0 c).owesAt () t.castSucc ∗ anyWin c t)
      ⊢ wp frame (wpE (defs₀ (F := F)) NatV (c : Thread nD τ) none) Set.univ (cc0_entmax15_attention (grid0.coords t) (mems F t .q) (mems_whole F t .q) (mems F t .qs) (mems_whole F t .qs) (mems F t .k) (mems_whole F t .k) (mems F t .ks) (mems_whole F t .ks) (mems F t .vt) (mems_whole F t .vt) (mems F t .vs) (mems_whole F t .vs) (mems F t .o) (mems_whole F t .o) (mems F t .tau) (mems_whole F t .tau) (mems F t .y) (mems_whole F t .y) (mems F t .p) (mems_whole F t .p) (mems F t .ksx) (mems_whole F t .ksx) (mems F t .vsx) (mems_whole F t .vsx) (mems F t .vtw) (mems_whole F t .vtw) (mems F t .w) (mems_whole F t .w) (mems F t .acc) (mems_whole F t .acc))
        (fun _ => iprop((dats m 0 c).Φ t.succ ∗ (dats m 0 c).owesAt () t.succ ∗ anyWin c t)) := by
  rw [show (dats m 0 c).Φ t.succ = (dats m 0 c).Φ t.castSucc from rfl, show (dats m 0 c).owesAt () t.succ = (dats m 0 c).owesAt () t.castSucc from rfl,
    show (dats m 0 c).Φ t.castSucc = Pipeline.ΦA spec0 c from rfl, ΦA_eq]
  unfold anyWin
  iintro ⟨⟨⟨⟨%s0, S0⟩, ⟨%s1, S1⟩, ⟨%s2, S2⟩, ⟨%s3, S3⟩, ⟨%s4, S4⟩, ⟨%s5, S5⟩, ⟨%s6, S6⟩⟩, Hg⟩, HW,
    ⟨%d0, D0⟩, ⟨%d1, D1⟩, ⟨%d2, D2⟩, ⟨%d3, D3⟩, ⟨%d4, D4⟩, ⟨%d5, D5⟩, ⟨%d6, D6⟩, ⟨%d7, D7⟩⟩
  let σ : St F := fun
    | .q => d0 | .qs => d1 | .k => d2 | .ks => d3 | .vt => d4 | .vs => d5 | .o => d6 | .tau => d7
    | .y => s0 | .p => s1 | .ksx => s2 | .vsx => s3 | .vtw => s4 | .w => s5 | .acc => s6
  iapply wp_wand $$ [D0 D1 D2 D3 D4 D5 D6 D7 S0 S1 S2 S3 S4 S5 S6]
  · iapply (body_safe c (mems F t) (mems_whole F t) (grid0.coords t) σ).out
    rw [own_eq]
    isplitl [D0]; · iexact D0
    isplitl [D1]; · iexact D1
    isplitl [D2]; · iexact D2
    isplitl [D3]; · iexact D3
    isplitl [D4]; · iexact D4
    isplitl [D5]; · iexact D5
    isplitl [D6]; · iexact D6
    isplitl [D7]; · iexact D7
    isplitl [S0]; · iexact S0
    isplitl [S1]; · iexact S1
    isplitl [S2]; · iexact S2
    isplitl [S3]; · iexact S3
    isplitl [S4]; · iexact S4
    isplitl [S5]; · iexact S5
    iexact S6
  iintro %u ⟨%σ', -, H⟩
  ihave H' := (show own c (mems F t) σ' ⊢ (_ : sProp 𝕄) from Entails.of_eq (own_eq c (mems F t) σ')) $$ H
  icases H' with ⟨D0, D1, D2, D3, D4, D5, D6, D7, S0, S1, S2, S3, S4, S5, S6⟩
  isplitl [S0 S1 S2 S3 S4 S5 S6 Hg]
  · isplitr [Hg]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      iexists _; iexact S6
    iexact Hg
  isplitl [HW]; · iexact HW
  isplitl [D0]; · iexists _; iexact D0
  isplitl [D1]; · iexists _; iexact D1
  isplitl [D2]; · iexists _; iexact D2
  isplitl [D3]; · iexists _; iexact D3
  isplitl [D4]; · iexists _; iexact D4
  isplitl [D5]; · iexists _; iexact D5
  isplitl [D6]; · iexists _; iexact D6
  iexists _; iexact D7

theorem body_obligation (c : Dev nD) : Pipeline.BodyObligationLoose (dats (F := F) m 0 c) (defs₀ (F := F)) NatV () Set.univ (fun _ => true) := fun t => by
  rw [bigSep_W0]
  exact triple_restated (sound_body m c t) (congrArg _ (defs₀_row t).symm) .rfl fun _ => .rfl

set_option backward.isDefEq.respectTransparency.types false in
theorem run_main : θ_run defs (onTc (τ := τ) (main (F := F))) (s₀ m ρ) (fun r =>
    Pipeline.RDat.FramePostR (cfg0 (F := F)) (fun c => (dats m 0 c).toRForget (fun _ => true)) T0 (V m) r ∧ r.2.sem = fun _ => 0) :=
  Pipeline.θ_run_frame_around_T_forget (cfgs (F := F)) (dats m) (0 : Fin 1) launch0 defs₀ NatV (fun _ => true) T0 m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m NatV) (hA := A_eq m) (hΦ := fun _ _ => rfl) (Q' := _) (hQ' := fun _ h => h)

/-- The frame: the program runs, its argument arrays end unchanged, every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => by
    have H : ∀ b : Ref sig .tc, b ∈ Pipeline.restRefs sig spec0 \ T0 → b ∉ ([main_v0, main_v1, main_v2, main_v3, main_v4, main_v5, main_v6, main_v7, main_v8, main_v9] : List (Ref sig .tc)) → _ :=
      fun b hb hb' => ((h.1 c).2 b hb).trans (V_of_ne m c b hb')
    exact ⟨H main_arg0 (Finset.mem_sdiff.mpr ⟨Pipeline.mem_restRefs_of main_arg0 (by decide) (by decide), by decide⟩) (by decide),
      H main_arg1 (Finset.mem_sdiff.mpr ⟨Pipeline.mem_restRefs_of main_arg1 (by decide) (by decide), by decide⟩) (by decide),
      H main_arg2 (Finset.mem_sdiff.mpr ⟨Pipeline.mem_restRefs_of main_arg2 (by decide) (by decide), by decide⟩) (by decide),
      H main_arg3 (Finset.mem_sdiff.mpr ⟨Pipeline.mem_restRefs_of main_arg3 (by decide) (by decide), by decide⟩) (by decide),
      H main_arg4 (Finset.mem_sdiff.mpr ⟨Pipeline.mem_restRefs_of main_arg4 (by decide) (by decide), by decide⟩) (by decide),
      H main_arg5 (Finset.mem_sdiff.mpr ⟨Pipeline.mem_restRefs_of main_arg5 (by decide) (by decide), by decide⟩) (by decide)⟩, h.2⟩) (run_main m ρ)

end Entmax.Kernel

end
-- ==== Proof.SafeIdeal.lean ====
/-
  The body of the attention kernel runs from any contents of its fifteen buffers: every load and store of it is in bounds,
  its counted loops end, and its convergence loop calls itself at most six times.
-/
module

public import proofs.«01_k».proof.Proof.Calc
public import proofs.«01_k».proof.Proof.Gen.KernelIdeal

@[expose] public section

noncomputable section

namespace Entmax.KernelIdeal

open Idealize.ShloMosaic Idealize.ShloMosaic.TcCoe Cert.KernelIdeal
open Idealize.SL.Sem

variable {F : FTy → Type} [FloatOps F]

/-- One more round leaves fewer to go. -/
theorem round_lt (a : BitVec 32) (b : BitVec 1) (h : Scalar.andi (Scalar.cmpi .slt a 6#32) b = 1#1) :
    (6 - (Scalar.addi a 1#32).toInt).toNat < (6 - a.toInt).toNat := by
  have h1 : a.slt 6#32 = true := by
    by_contra hn
    have : Scalar.cmpi .slt a 6#32 = 0#1 := by
      show BitVec.ofBool (a.slt 6#32) = 0#1
      rw [Bool.eq_false_iff.mpr hn]; rfl
    rw [this] at h
    have e : Scalar.andi 0#1 b = 0#1 := BitVec.zero_and
    rw [e] at h
    exact absurd h (by decide)
  have h2 : a.toInt < 6 := by simpa [BitVec.slt] using h1
  have h3 : (Scalar.addi a 1#32).toInt = a.toInt + 1 := by
    have hl : -2147483648 ≤ a.toInt := BitVec.le_toInt a
    show (a + 1#32).toInt = _
    rw [BitVec.toInt_add]
    have e1 : (1#32 : BitVec 32).toInt = 1 := by decide
    rw [e1]
    simp only [Int.bmod]
    have : ((2 ^ 32 : ℕ) : ℤ) = 4294967296 := by decide
    rw [this]
    omega
  omega

/-- The convergence loop runs, from any number of rounds done. -/
theorem while_safe (c : Dev nD) (ms : Mems sig) (hms : ∀ b, (ms b).IsWhole) (i : grid0.Coords) (v2604 : FVec F S8x512 .f32)
    (v28 v2600 v2603 v33 v2576 : FVec F S1x512 .f32) :
    ∀ (n : ℕ) (a : BitVec 32) (e : F .f32) (t : FVec F S1x512 .f32), (6 - a.toInt).toNat = n →
      Safe c (defs₀ (F := F)) ms (some n) (cc0_while1 i v2604 (ms .y) (hms .y) (ms .p) (hms .p) v28 v2600 v2603 (ms .acc) (hms .acc)
        (ms .vsx) (hms .vsx) (ms .w) (hms .w) (ms .vtw) (hms .vtw) v33 v2576 a e t) := by
  intro n
  induction n using Nat.strong_induction_on with
  | _ n ih =>
    intro a e t hn
    refine Safe.ite (fun hc => ?_) fun _ => Safe.ret
    have hlt := round_lt a _ hc
    refine Safe.bind ?_ ?_
    · repeat' first
        | with_reducible exact Safe.load _
        | with_reducible exact Safe.store _
        | with_reducible exact Safe.ret
        | (with_reducible refine Safe.bind ?_ fun _ => ?_)
        | with_reducible exact Safe.loop_zero (k0_t10_abs i).2.1
        | with_reducible exact Safe.loop_zero (k0_t12_abs i).2.1
        | (with_reducible refine Safe.loop fun _ a => ?_)
        | (refine Safe.bind ?_ fun _ => ?_)
    · rintro ⟨x1, x2, x3, x4, x5⟩ σ
      refine Run.bind (R := fun r _ => r.2.1 = Scalar.addi a 1#32) ?_ ?_
      · revert σ
        iterate 60 first
          | (intro σ; with_reducible exact Run.ret rfl)
          | (with_reducible refine Safe.bindR (Safe.load _) fun _ => ?_)
          | (with_reducible refine Safe.bindR (Safe.store _) fun _ => ?_)
          | (with_reducible refine Safe.bindR (Safe.loop_zero (k0_t17_abs i).2.1) fun _ => ?_)
          | (refine Safe.bindR (Safe.loop ?_) fun _ => ?_; rotate_left)
          | (refine Safe.bindR ?_ fun _ => ?_; rotate_left)
          | skip
        repeat' first
          | (intro σ; with_reducible exact Run.ret rfl)
          | (intro _ _)
          | with_reducible exact Safe.load _
          | with_reducible exact Safe.store _
          | with_reducible exact Safe.ret
          | (with_reducible refine Safe.bind ?_ fun _ => ?_)
          | with_reducible exact Safe.loop_zero (k0_t15_abs i).2.1
          | (with_reducible refine Safe.loop fun _ a => ?_)
          | (refine Safe.bind ?_ fun _ => ?_)
      · rintro ⟨y1, y2, y3⟩ σ' rfl
        exact Safe.call _ (by rintro u ⟨⟩; rw [← hn]; exact hlt) (ih _ (by rw [← hn]; exact hlt) _ _ _ rfl) _

/-- The body runs, from any contents. -/
theorem body_safe (c : Dev nD) (ms : Mems sig) (hms : ∀ b, (ms b).IsWhole) (i : grid0.Coords) :
    Safe c (defs₀ (F := F)) ms none (cc0_entmax15_attention i (ms .q) (hms .q) (ms .qs) (hms .qs) (ms .k) (hms .k) (ms .ks) (hms .ks)
      (ms .vt) (hms .vt) (ms .vs) (hms .vs) (ms .o) (hms .o) (ms .tau) (hms .tau) (ms .y) (hms .y) (ms .p) (hms .p)
      (ms .ksx) (hms .ksx) (ms .vsx) (hms .vsx) (ms .vtw) (hms .vtw) (ms .w) (hms .w) (ms .acc) (hms .acc)) := by
  repeat' first
    | with_reducible exact Safe.load _
    | with_reducible exact Safe.store _
    | with_reducible exact Safe.ret
    | (with_reducible refine Safe.bind ?_ fun _ => ?_)
    | with_reducible exact Safe.loop_zero (k0_t3_abs i).2.1
    | with_reducible exact Safe.loop_zero (k0_t5_abs i).2.1
    | with_reducible exact Safe.loop_zero (k0_t8_abs i).2.1
    | (with_reducible refine Safe.loop fun _ a => ?_)
    | (delta k0_part39; refine Safe.dite (fun _ => ?_) fun _ => ?_)
    | exact Safe.call _ (by rintro u ⟨⟩) (while_safe c ms hms i _ _ _ _ _ _ _ _ _ _ rfl)
    | (refine Safe.bind ?_ fun _ => ?_)

end Entmax.KernelIdeal
end
-- ==== Proof.FrameIdeal.lean ====
/-
  The frame of the attention kernel: the program runs, its six arguments end unchanged, every semaphore ends at zero. The
  region's proof data name nothing of what the body leaves (every window is forgotten), because the frame does not need it;
  the body itself is `body_safe`.
-/
module

public import proofs.«01_k».proof.Proof.SafeIdeal
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameSuffix

@[expose] public section

noncomputable section

namespace Entmax.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MM nD τ sig F

variable (m : (ℓ : Loc nD τ sig) → Buf (Elt F) ℓ) (ρ : Dev nD → PrngReg)

/-! ## The lines around the region -/

/-- A core's buffers when the region is entered: after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [hostOps0, List.Forall]; exact ⟨rfl, rfl, rfl, rfl, rfl, rfl, rfl, rfl, rfl, rfl⟩
theorem hostOps1_fresh : (hostOps1 : List (HloOp τ sig (Elt F))).Forall fun op => op.fresh = ∅ := by
  simp only [hostOps1, List.Forall]; exact ⟨rfl, rfl, rfl⟩

/-- @main around the region. -/
theorem hmain (𝒱₀ : Variants) : Pipeline.HMainK (Ix := Unit) (Name := ℕ) (U := Idealize.ShloMosaic.UR sig nD τ) (Lvl := ℕ) (cfgs (F := F)) 0 defs₀ 𝒱₀ m
    (main (F := F)) (V m) (fun _ => Pipeline.chain ([hostOps1].map StableHlo.seq)) :=
  Pipeline.hmain_around (cfgs (F := F)) 0 defs₀ 𝒱₀ m (main (F := F)) [hostOps0] [hostOps1] (by simp only [List.Forall]; exact hostOps0_sub)
    (by simp only [List.Forall]; exact hostOps0_fresh (F := F)) (fun c => main_chain (F := F) c)

theorem sfx_sub : ∀ ops ∈ ([hostOps1 (F := F)] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  subst hops
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl
  all_goals intro w; fin_cases w <;> simp only [StableHlo.unary_writes, StableHlo.reshape_writes, Finset.mem_singleton] <;> exact StableHlo.devRef_ne_of_ne (by decide)

/-- The buffers the lines after the region write. -/
def T0 : Finset (Ref sig .tc) := {main_v11, main_v12, main_v13}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  subst hops
  simp only [hostOps1, List.mem_cons, List.mem_nil_iff, or_false] at hop
  rcases hop with rfl | rfl | rfl
  all_goals intro b hb; simp only [StableHlo.unary_writes, StableHlo.reshape_writes, Finset.mem_singleton] at hb; cases Proc.devRef_injective _ hb; decide

/-- A buffer no host operation before the region writes is still what it was at launch. -/
theorem V_of_ne (c : Dev nD) (b : Ref sig .tc) (hb : b ∉ ([main_v0, main_v1, main_v2, main_v3, main_v4, main_v5, main_v6, main_v7, main_v8, main_v9] : List (Ref sig .tc))) :
    V m c b = m ((c : Thread nD τ).loc b) := by
  refine StableHlo.after_of_forall_not_mem (b := Proc.devRef .tc b) _ _ ?_
  intro op hop
  simp only [List.flatten_cons, List.flatten_nil, List.append_nil, hostOps0, List.mem_cons, List.mem_nil_iff, or_false] at hop
  simp only [List.mem_cons, List.mem_nil_iff, or_false, not_or] at hb
  rcases hop with rfl | rfl | rfl | rfl | rfl | rfl | rfl | rfl | rfl | rfl
  all_goals simp only [StableHlo.unary_writes, StableHlo.reshape_writes, Finset.mem_singleton]
  all_goals refine StableHlo.devRef_ne_of_ne ?_
  all_goals first | exact hb.1 | exact hb.2.1 | exact hb.2.2.1 | exact hb.2.2.2.1 | exact hb.2.2.2.2.1 | exact hb.2.2.2.2.2.1 | exact hb.2.2.2.2.2.2.1 | exact hb.2.2.2.2.2.2.2.1 | exact hb.2.2.2.2.2.2.2.2.1 | exact hb.2.2.2.2.2.2.2.2.2

/-! ## The fifteen buffers of one grid point -/

/-- The staging buffers of the eight windows at point `t` and the seven scratch buffers. -/
abbrev mems (F : FTy → Type) [FloatOps F] (t : Fin (cfg0 (F := F)).N) : Mems sig := fun
  | .q => win0_0.stage ((cfg0 (F := F)).slots t 0) | .qs => win0_1.stage ((cfg0 (F := F)).slots t 1) | .k => win0_2.stage ((cfg0 (F := F)).slots t 2)
  | .ks => win0_3.stage ((cfg0 (F := F)).slots t 3) | .vt => win0_4.stage ((cfg0 (F := F)).slots t 4) | .vs => win0_5.stage ((cfg0 (F := F)).slots t 5)
  | .o => win0_6.stage ((cfg0 (F := F)).slots t 6) | .tau => win0_7.stage ((cfg0 (F := F)).slots t 7)
  | .y => Memref.whole cc0_scratch0 | .p => Memref.whole cc0_scratch1 | .ksx => Memref.whole cc0_scratch2 | .vsx => Memref.whole cc0_scratch3
  | .vtw => Memref.whole cc0_scratch4 | .w => Memref.whole cc0_scratch5 | .acc => Memref.whole cc0_scratch6

theorem mems_whole (F : FTy → Type) [FloatOps F] (t : Fin (cfg0 (F := F)).N) : ∀ b, (mems F t b).IsWhole := fun
  | .q => hstage0_0 (((cfg0 (F := F)).slots t 0).cast nbuf0_0) | .qs => hstage0_1 (((cfg0 (F := F)).slots t 1).cast nbuf0_1) | .k => hstage0_2 (((cfg0 (F := F)).slots t 2).cast nbuf0_2)
  | .ks => hstage0_3 (((cfg0 (F := F)).slots t 3).cast nbuf0_3) | .vt => hstage0_4 (((cfg0 (F := F)).slots t 4).cast nbuf0_4) | .vs => hstage0_5 (((cfg0 (F := F)).slots t 5).cast nbuf0_5)
  | .o => hstage0_6 (((cfg0 (F := F)).slots t 6).cast nbuf0_6) | .tau => hstage0_7 (((cfg0 (F := F)).slots t 7).cast nbuf0_7)
  | .y => Memref.isWhole_whole _ | .p => Memref.isWhole_whole _ | .ksx => Memref.isWhole_whole _ | .vsx => Memref.isWhole_whole _
  | .vtw => Memref.isWhole_whole _ | .w => Memref.isWhole_whole _ | .acc => Memref.isWhole_whole _

/-- The body of point `t` is the kernel's function over these buffers. -/
theorem defs₀_row (t : Fin (cfg0 (F := F)).N) :
    defs₀ (F := F) .tc (cfg0 (F := F)).body ((cfg0 (F := F)).bodyArgs t ((cfg0 (F := F)).slots t))
      = cc0_entmax15_attention (grid0.coords t) (mems F t .q) (mems_whole F t .q) (mems F t .qs) (mems_whole F t .qs) (mems F t .k) (mems_whole F t .k) (mems F t .ks) (mems_whole F t .ks) (mems F t .vt) (mems_whole F t .vt) (mems F t .vs) (mems_whole F t .vs) (mems F t .o) (mems_whole F t .o) (mems F t .tau) (mems_whole F t .tau) (mems F t .y) (mems_whole F t .y) (mems F t .p) (mems_whole F t .p) (mems F t .ksx) (mems_whole F t .ksx) (mems F t .vsx) (mems_whole F t .vsx) (mems F t .vtw) (mems_whole F t .vtw) (mems F t .w) (mems_whole F t .w) (mems F t .acc) (mems_whole F t .acc) := by
  unfold defs₀; rw [Defs.onTc_tc]

/-- The fifteen buffers one by one. -/
theorem own_eq (c : Dev nD) (ms : Mems sig) (σ : St F) : (own c ms σ : sProp 𝕄)
    = iprop(owns (c : Thread nD τ) (ms .q) fullShare (σ .q) ∗ owns (c : Thread nD τ) (ms .qs) fullShare (σ .qs)
      ∗ owns (c : Thread nD τ) (ms .k) fullShare (σ .k) ∗ owns (c : Thread nD τ) (ms .ks) fullShare (σ .ks)
      ∗ owns (c : Thread nD τ) (ms .vt) fullShare (σ .vt) ∗ owns (c : Thread nD τ) (ms .vs) fullShare (σ .vs)
      ∗ owns (c : Thread nD τ) (ms .o) fullShare (σ .o) ∗ owns (c : Thread nD τ) (ms .tau) fullShare (σ .tau)
      ∗ owns (c : Thread nD τ) (ms .y) fullShare (σ .y) ∗ owns (c : Thread nD τ) (ms .p) fullShare (σ .p)
      ∗ owns (c : Thread nD τ) (ms .ksx) fullShare (σ .ksx) ∗ owns (c : Thread nD τ) (ms .vsx) fullShare (σ .vsx)
      ∗ owns (c : Thread nD τ) (ms .vtw) fullShare (σ .vtw) ∗ owns (c : Thread nD τ) (ms .w) fullShare (σ .w)
      ∗ owns (c : Thread nD τ) (ms .acc) fullShare (σ .acc)) :=
  bigSep_univ_eq_bigSepL [Bf.q, .qs, .k, .ks, .vt, .vs, .o, .tau, .y, .p, .ksx, .vsx, .vtw, .w, .acc] (by decide) (by decide) _

/-- What the scratch buffers hold between grid points, and the generator register. -/
theorem ΦA_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)
      ∗ (∃ d, owns (c : Thread nD τ) (Memref.whole cc0_scratch4) fullShare d) ∗ (∃ d, owns (c : Thread nD τ) (Memref.whole cc0_scratch5) fullShare d)
      ∗ (∃ d, owns (c : Thread nD τ) (Memref.whole cc0_scratch6) fullShare d)) ∗ (∃ r, prngReg c r)) := by
  unfold Pipeline.ΦA
  rw [scopedRest0_eq]
  simp only [owns_whole]; try rfl

/-! ## The region's proof data -/

/-- Nothing is named: each window's array at entry, the scratch at any contents. -/
def dats (_ : Fin 1) (c : Dev nD) : Dat τ (Elt F) Unit ℕ (Idealize.ShloMosaic.UR sig nD τ) ℕ (cfg0 (F := F)) c where
  A w := V m c (Pipeline.arrRef spec0 w)
  after := Dat.unnamed
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

/-- A point's staging buffers, each at some contents. -/
def anyWin (c : Dev nD) (t : Fin (cfg0 (F := F)).N) : sProp 𝕄 :=
  iprop((∃ X, owns (c : Thread nD τ) (mems F t .q) fullShare X) ∗ (∃ X, owns (c : Thread nD τ) (mems F t .qs) fullShare X)
    ∗ (∃ X, owns (c : Thread nD τ) (mems F t .k) fullShare X) ∗ (∃ X, owns (c : Thread nD τ) (mems F t .ks) fullShare X)
    ∗ (∃ X, owns (c : Thread nD τ) (mems F t .vt) fullShare X) ∗ (∃ X, owns (c : Thread nD τ) (mems F t .vs) fullShare X)
    ∗ (∃ X, owns (c : Thread nD τ) (mems F t .o) fullShare X) ∗ (∃ X, owns (c : Thread nD τ) (mems F t .tau) fullShare X))

theorem sound_body (c : Dev nD) (t : Fin (cfg0 (F := F)).N) :
    iprop((dats m 0 c).Φ t.castSucc ∗ (dats m 0 c).owesAt () t.castSucc ∗ anyWin c t)
      ⊢ wp frame (wpE (defs₀ (F := F)) NatV (c : Thread nD τ) none) Set.univ (cc0_entmax15_attention (grid0.coords t) (mems F t .q) (mems_whole F t .q) (mems F t .qs) (mems_whole F t .qs) (mems F t .k) (mems_whole F t .k) (mems F t .ks) (mems_whole F t .ks) (mems F t .vt) (mems_whole F t .vt) (mems F t .vs) (mems_whole F t .vs) (mems F t .o) (mems_whole F t .o) (mems F t .tau) (mems_whole F t .tau) (mems F t .y) (mems_whole F t .y) (mems F t .p) (mems_whole F t .p) (mems F t .ksx) (mems_whole F t .ksx) (mems F t .vsx) (mems_whole F t .vsx) (mems F t .vtw) (mems_whole F t .vtw) (mems F t .w) (mems_whole F t .w) (mems F t .acc) (mems_whole F t .acc))
        (fun _ => iprop((dats m 0 c).Φ t.succ ∗ (dats m 0 c).owesAt () t.succ ∗ anyWin c t)) := by
  rw [show (dats m 0 c).Φ t.succ = (dats m 0 c).Φ t.castSucc from rfl, show (dats m 0 c).owesAt () t.succ = (dats m 0 c).owesAt () t.castSucc from rfl,
    show (dats m 0 c).Φ t.castSucc = Pipeline.ΦA spec0 c from rfl, ΦA_eq]
  unfold anyWin
  iintro ⟨⟨⟨⟨%s0, S0⟩, ⟨%s1, S1⟩, ⟨%s2, S2⟩, ⟨%s3, S3⟩, ⟨%s4, S4⟩, ⟨%s5, S5⟩, ⟨%s6, S6⟩⟩, Hg⟩, HW,
    ⟨%d0, D0⟩, ⟨%d1, D1⟩, ⟨%d2, D2⟩, ⟨%d3, D3⟩, ⟨%d4, D4⟩, ⟨%d5, D5⟩, ⟨%d6, D6⟩, ⟨%d7, D7⟩⟩
  let σ : St F := fun
    | .q => d0 | .qs => d1 | .k => d2 | .ks => d3 | .vt => d4 | .vs => d5 | .o => d6 | .tau => d7
    | .y => s0 | .p => s1 | .ksx => s2 | .vsx => s3 | .vtw => s4 | .w => s5 | .acc => s6
  iapply wp_wand $$ [D0 D1 D2 D3 D4 D5 D6 D7 S0 S1 S2 S3 S4 S5 S6]
  · iapply (body_safe c (mems F t) (mems_whole F t) (grid0.coords t) σ).out
    rw [own_eq]
    isplitl [D0]; · iexact D0
    isplitl [D1]; · iexact D1
    isplitl [D2]; · iexact D2
    isplitl [D3]; · iexact D3
    isplitl [D4]; · iexact D4
    isplitl [D5]; · iexact D5
    isplitl [D6]; · iexact D6
    isplitl [D7]; · iexact D7
    isplitl [S0]; · iexact S0
    isplitl [S1]; · iexact S1
    isplitl [S2]; · iexact S2
    isplitl [S3]; · iexact S3
    isplitl [S4]; · iexact S4
    isplitl [S5]; · iexact S5
    iexact S6
  iintro %u ⟨%σ', -, H⟩
  ihave H' := (show own c (mems F t) σ' ⊢ (_ : sProp 𝕄) from Entails.of_eq (own_eq c (mems F t) σ')) $$ H
  icases H' with ⟨D0, D1, D2, D3, D4, D5, D6, D7, S0, S1, S2, S3, S4, S5, S6⟩
  isplitl [S0 S1 S2 S3 S4 S5 S6 Hg]
  · isplitr [Hg]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      iexists _; iexact S6
    iexact Hg
  isplitl [HW]; · iexact HW
  isplitl [D0]; · iexists _; iexact D0
  isplitl [D1]; · iexists _; iexact D1
  isplitl [D2]; · iexists _; iexact D2
  isplitl [D3]; · iexists _; iexact D3
  isplitl [D4]; · iexists _; iexact D4
  isplitl [D5]; · iexists _; iexact D5
  isplitl [D6]; · iexists _; iexact D6
  iexists _; iexact D7

theorem body_obligation (c : Dev nD) : Pipeline.BodyObligationLoose (dats (F := F) m 0 c) (defs₀ (F := F)) NatV () Set.univ (fun _ => true) := fun t => by
  rw [bigSep_W0]
  exact triple_restated (sound_body m c t) (congrArg _ (defs₀_row t).symm) .rfl fun _ => .rfl

set_option backward.isDefEq.respectTransparency.types false in
theorem run_main : θ_run defs (onTc (τ := τ) (main (F := F))) (s₀ m ρ) (fun r =>
    Pipeline.RDat.FramePostR (cfg0 (F := F)) (fun c => (dats m 0 c).toRForget (fun _ => true)) T0 (V m) r ∧ r.2.sem = fun _ => 0) :=
  Pipeline.θ_run_frame_around_T_forget (cfgs (F := F)) (dats m) (0 : Fin 1) launch0 defs₀ NatV (fun _ => true) T0 m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m NatV) (hA := A_eq m) (hΦ := fun _ _ => rfl) (Q' := _) (hQ' := fun _ h => h)

/-- The frame: the program runs, its argument arrays end unchanged, every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => by
    have H : ∀ b : Ref sig .tc, b ∈ Pipeline.restRefs sig spec0 \ T0 → b ∉ ([main_v0, main_v1, main_v2, main_v3, main_v4, main_v5, main_v6, main_v7, main_v8, main_v9] : List (Ref sig .tc)) → _ :=
      fun b hb hb' => ((h.1 c).2 b hb).trans (V_of_ne m c b hb')
    exact ⟨H main_arg0 (Finset.mem_sdiff.mpr ⟨Pipeline.mem_restRefs_of main_arg0 (by decide) (by decide), by decide⟩) (by decide),
      H main_arg1 (Finset.mem_sdiff.mpr ⟨Pipeline.mem_restRefs_of main_arg1 (by decide) (by decide), by decide⟩) (by decide),
      H main_arg2 (Finset.mem_sdiff.mpr ⟨Pipeline.mem_restRefs_of main_arg2 (by decide) (by decide), by decide⟩) (by decide),
      H main_arg3 (Finset.mem_sdiff.mpr ⟨Pipeline.mem_restRefs_of main_arg3 (by decide) (by decide), by decide⟩) (by decide),
      H main_arg4 (Finset.mem_sdiff.mpr ⟨Pipeline.mem_restRefs_of main_arg4 (by decide) (by decide), by decide⟩) (by decide),
      H main_arg5 (Finset.mem_sdiff.mpr ⟨Pipeline.mem_restRefs_of main_arg5 (by decide) (by decide), by decide⟩) (by decide)⟩, h.2⟩) (run_main m ρ)

end Entmax.KernelIdeal

end
-- ==== Proof.Offsets.lean ====
/-
  The offsets of the kernel's loads and stores, and the trip counts of its loops, in closed form. The query block of a grid
  point is `tq i`; the chunk of 512 keys that its last query lies in is `ch i`.
-/
module

public import proofs.«01_k».proof.Proof.Calc
public import proofs.«01_k».proof.Proof.Gen.KernelIdeal

@[expose] public section

noncomputable section

namespace Entmax.KernelIdeal

open Idealize.ShloMosaic Idealize.ShloMosaic.TcCoe Cert.KernelIdeal

/-- The query block of a grid point. -/
def tq (i : grid0.Coords) : ℕ := (i 2).val

theorem tq_lt (i : grid0.Coords) : tq i < 48 := (i 2).isLt

/-- The chunk of keys on the diagonal. -/
def ch (i : grid0.Coords) : ℕ := tq i / 4

theorem ch_lt (i : grid0.Coords) : ch i < 12 := by have := tq_lt i; unfold ch; omega

/-- The kernel's word for that chunk: the floor of `128 n / 512`. -/
def chunkWord (n : ℕ) : BitVec 32 :=
  let v6 : BitVec 32 := Scalar.muli (BitVec.ofNat 32 n) 128#32
  let v12 : BitVec 32 := Scalar.subi (Scalar.extui (Scalar.cmpi .sgt v6 0#32)) (Scalar.extui (Scalar.cmpi .slt v6 0#32))
  let v17 : BitVec 32 := Scalar.subi (Scalar.extui (Scalar.cmpi .sgt 512#32 0#32)) (Scalar.extui (Scalar.cmpi .slt 512#32 0#32))
  let v21 : BitVec 1 := Scalar.andi (Scalar.cmpi .ne v12 v17) (Scalar.cmpi .ne (Scalar.remsi v6 512#32) 0#32)
  let v7 : BitVec 32 := Scalar.divsi v6 512#32
  Scalar.select v21 (Scalar.subi v7 1#32) v7

theorem chunkWord_fin : ∀ n : Fin 48, chunkWord n.val = BitVec.ofNat 32 (n.val / 4) := by decide +kernel

theorem chunkWord_eq (i : grid0.Coords) : chunkWord (i 2).val = BitVec.ofNat 32 (ch i) := chunkWord_fin (i 2)

/-- A loop from zero by ones up to `n`. -/
theorem trips_fin : ∀ n : Fin 48, (⟨0#32, Scalar.addi 0#32 (Scalar.muli (Scalar.divsi (Scalar.subi (BitVec.ofNat 32 n.val) 0#32) 1#32) 1#32), 1#32⟩ : Scf.Loop 32).trips = n.val := by
  decide +kernel

theorem trips_of (w : BitVec 32) (n : ℕ) (hn : n < 48) (h : w = BitVec.ofNat 32 n) :
    (⟨0#32, Scalar.addi 0#32 (Scalar.muli (Scalar.divsi (Scalar.subi w 0#32) 1#32) 1#32), 1#32⟩ : Scf.Loop 32).trips = n := by
  subst h; exact trips_fin ⟨n, hn⟩

theorem succ_word (i : grid0.Coords) : Scalar.addi (chunkWord (i 2).val) 1#32 = BitVec.ofNat 32 (ch i + 1) := by
  rw [chunkWord_eq, BitVec.ofNat_add]; rfl

theorem t2_trips (i : grid0.Coords) : (k0_t2_loop i).trips = ch i :=
  trips_of (chunkWord (i 2).val) _ (by have := ch_lt i; omega) (chunkWord_eq i)
theorem t4_trips (i : grid0.Coords) : (k0_t4_loop i).trips = ch i + 1 :=
  trips_of (Scalar.addi (chunkWord (i 2).val) 1#32) _ (by have := ch_lt i; omega) (succ_word i)
theorem t7_trips (i : grid0.Coords) : (k0_t7_loop i).trips = ch i + 1 :=
  trips_of (Scalar.addi (chunkWord (i 2).val) 1#32) _ (by have := ch_lt i; omega) (succ_word i)
theorem t9_trips (i : grid0.Coords) : (k0_t9_loop i).trips = ch i + 1 :=
  trips_of (Scalar.addi (chunkWord (i 2).val) 1#32) _ (by have := ch_lt i; omega) (succ_word i)
theorem t11_trips (i : grid0.Coords) : (k0_t11_loop i).trips = ch i + 1 :=
  trips_of (Scalar.addi (chunkWord (i 2).val) 1#32) _ (by have := ch_lt i; omega) (succ_word i)
theorem t14_trips (i : grid0.Coords) : (k0_t14_loop i).trips = ch i + 1 :=
  trips_of (Scalar.addi (chunkWord (i 2).val) 1#32) _ (by have := ch_lt i; omega) (succ_word i)
theorem t16_trips (i : grid0.Coords) : (k0_t16_loop i).trips = ch i + 1 :=
  trips_of (Scalar.addi (chunkWord (i 2).val) 1#32) _ (by have := ch_lt i; omega) (succ_word i)
theorem t1_trips : k0_t1_loop.trips = 48 := by decide +kernel
theorem t6_trips : k0_t6_loop.trips = 6 := by decide +kernel
theorem t13_trips : k0_t13_loop.trips = 3 := by decide +kernel

/-- The word of row `C t + m`. -/
theorem row_word (t C m : ℕ) (ht : t < 64) (hC : C ≤ 512) (hm : m ≤ 65536) :
    (Scalar.addi (Scalar.muli (Scf.iv 0#32 1#32 t) (BitVec.ofNat 32 C)) (BitVec.ofNat 32 m)).toNat = C * t + m := by
  have e : Scalar.addi (Scalar.muli (Scf.iv 0#32 1#32 t) (BitVec.ofNat 32 C)) (BitVec.ofNat 32 m) = BitVec.ofNat 32 (C * t + m) := by
    show (0#32 + BitVec.ofNat 32 t * 1#32) * BitVec.ofNat 32 C + BitVec.ofNat 32 m = _
    rw [BitVec.ofNat_add, BitVec.ofNat_mul, BitVec.zero_add, BitVec.mul_one, BitVec.mul_comm]
  rw [e, BitVec.toNat_ofNat, Nat.mod_eq_of_lt]
  have : C * t ≤ 512 * 64 := Nat.mul_le_mul hC (by omega)
  omega

theorem row_word' (t C : ℕ) (ht : t < 64) (hC : C ≤ 512) :
    (Scalar.muli (Scf.iv 0#32 1#32 t) (BitVec.ofNat 32 C)).toNat = C * t := by
  have := row_word t C 0 ht hC (by omega)
  have e : Scalar.addi (Scalar.muli (Scf.iv 0#32 1#32 t) (BitVec.ofNat 32 C)) (BitVec.ofNat 32 0) = Scalar.muli (Scf.iv 0#32 1#32 t) (BitVec.ofNat 32 C) := BitVec.add_zero _
  rw [e] at this; omega

/-- The word of row `C (ch i) + m`. -/
theorem diag_word (i : grid0.Coords) (C m : ℕ) (hC : C ≤ 512) (hm : m ≤ 65536) :
    (Scalar.addi (Scalar.muli (chunkWord (i 2).val) (BitVec.ofNat 32 C)) (BitVec.ofNat 32 m)).toNat = C * ch i + m := by
  have e : Scalar.addi (Scalar.muli (chunkWord (i 2).val) (BitVec.ofNat 32 C)) (BitVec.ofNat 32 m) = BitVec.ofNat 32 (C * ch i + m) := by
    rw [chunkWord_eq]
    show BitVec.ofNat 32 (ch i) * BitVec.ofNat 32 C + BitVec.ofNat 32 m = _
    rw [BitVec.ofNat_add, BitVec.ofNat_mul, BitVec.mul_comm]
  rw [e, BitVec.toNat_ofNat, Nat.mod_eq_of_lt]
  have : C * ch i ≤ 512 * 12 := Nat.mul_le_mul hC (by have := ch_lt i; omega)
  omega

theorem t2_lt {i : grid0.Coords} (t : Fin (k0_t2_loop i).trips) : t.val < 64 := by
  have := t.isLt; have := t2_trips i; have := ch_lt i; omega
theorem t4_lt {i : grid0.Coords} (t : Fin (k0_t4_loop i).trips) : t.val < 64 := by
  have := t.isLt; have := t4_trips i; have := ch_lt i; omega
theorem t7_lt {i : grid0.Coords} (t : Fin (k0_t7_loop i).trips) : t.val < 64 := by
  have := t.isLt; have := t7_trips i; have := ch_lt i; omega
theorem t9_lt {i : grid0.Coords} (t : Fin (k0_t9_loop i).trips) : t.val < 64 := by
  have := t.isLt; have := t9_trips i; have := ch_lt i; omega
theorem t11_lt {i : grid0.Coords} (t : Fin (k0_t11_loop i).trips) : t.val < 64 := by
  have := t.isLt; have := t11_trips i; have := ch_lt i; omega
theorem t14_lt {i : grid0.Coords} (t : Fin (k0_t14_loop i).trips) : t.val < 64 := by
  have := t.isLt; have := t14_trips i; have := ch_lt i; omega
theorem t16_lt {i : grid0.Coords} (t : Fin (k0_t16_loop i).trips) : t.val < 64 := by
  have := t.isLt; have := t16_trips i; have := ch_lt i; omega
theorem t1_lt (t : Fin k0_t1_loop.trips) : t.val < 64 := by
  have := t.isLt; have := t1_trips; omega

theorem off1_eq (t : Fin k0_t1_loop.trips) : k0_off1 t = ![0, 0, 0, 128 * t.val] := by
  have e : k0_off1 t = ![0, 0, 0, (Scalar.muli (Scf.iv 0#32 1#32 t) (BitVec.ofNat 32 128)).toNat] := rfl
  rw [e, row_word' _ _ (t1_lt t) (by omega)]
theorem off2_eq (t : Fin k0_t1_loop.trips) : k0_off2 t = ![128 * t.val, 0] := by
  have e : k0_off2 t = ![(Scalar.muli (Scf.iv 0#32 1#32 t) (BitVec.ofNat 32 128)).toNat, 0] := rfl
  rw [e, row_word' _ _ (t1_lt t) (by omega)]
theorem off3_eq (i : grid0.Coords) (t : Fin (k0_t2_loop i).trips) : k0_off3 i t = ![0, 0, 512 * t.val, 0] := by
  have e : k0_off3 i t = ![0, 0, (Scalar.muli (Scf.iv 0#32 1#32 t) (BitVec.ofNat 32 512)).toNat, 0] := rfl
  rw [e, row_word' _ _ (t2_lt t) (by omega)]
theorem off4_eq (i : grid0.Coords) (t : Fin (k0_t2_loop i).trips) (m : ℕ) (hm : m ≤ 65536 := by decide) :
    k0_off4 i t (BitVec.ofNat 32 m) = ![512 * t.val + m, 0] := by
  have e : k0_off4 i t (BitVec.ofNat 32 m) = ![(Scalar.addi (Scalar.muli (Scf.iv 0#32 1#32 t) (BitVec.ofNat 32 512)) (BitVec.ofNat 32 m)).toNat, 0] := rfl
  rw [e, row_word _ _ _ (t2_lt t) (by omega) hm]
theorem off5_eq (i : grid0.Coords) (t : Fin (k0_t2_loop i).trips) (m : ℕ) (hm : m ≤ 65536 := by decide) :
    k0_off5 i t (BitVec.ofNat 32 m) = ![512 * t.val + m, 0] := by
  have e : k0_off5 i t (BitVec.ofNat 32 m) = ![(Scalar.addi (Scalar.muli (Scf.iv 0#32 1#32 t) (BitVec.ofNat 32 512)) (BitVec.ofNat 32 m)).toNat, 0] := rfl
  rw [e, row_word _ _ _ (t2_lt t) (by omega) hm]
theorem off6_eq (i : grid0.Coords) (t : Fin (k0_t2_loop i).trips) (m : ℕ) (hm : m ≤ 65536 := by decide) :
    k0_off6 i t (BitVec.ofNat 32 m) = ![32 * t.val + m, 0] := by
  have e : k0_off6 i t (BitVec.ofNat 32 m) = ![(Scalar.addi (Scalar.muli (Scf.iv 0#32 1#32 t) (BitVec.ofNat 32 32)) (BitVec.ofNat 32 m)).toNat, 0] := rfl
  rw [e, row_word _ _ _ (t2_lt t) (by omega) hm]
theorem off11_eq (i : grid0.Coords) : k0_off11 i = ![0, 0, 512 * ch i, 0] := by
  have e : k0_off11 i = ![0, 0, (Scalar.muli (chunkWord (i 2).val) (BitVec.ofNat 32 512)).toNat, 0] := rfl
  have := diag_word i 512 0 (by omega) (by omega)
  have e2 : Scalar.addi (Scalar.muli (chunkWord (i 2).val) (BitVec.ofNat 32 512)) (BitVec.ofNat 32 0) = Scalar.muli (chunkWord (i 2).val) (BitVec.ofNat 32 512) := BitVec.add_zero _
  rw [e2] at this
  rw [e, this, Nat.add_zero]
theorem off12_eq (i : grid0.Coords) (m : ℕ) (hm : m ≤ 65536 := by decide) :
    k0_off12 i (BitVec.ofNat 32 m) = ![512 * ch i + m, 0] := by
  have e : k0_off12 i (BitVec.ofNat 32 m) = ![(Scalar.addi (Scalar.muli (chunkWord (i 2).val) (BitVec.ofNat 32 512)) (BitVec.ofNat 32 m)).toNat, 0] := rfl
  rw [e, diag_word _ _ _ (by omega) hm]
theorem off13_eq (i : grid0.Coords) (m : ℕ) (hm : m ≤ 65536 := by decide) :
    k0_off13 i (BitVec.ofNat 32 m) = ![512 * ch i + m, 0] := by
  have e : k0_off13 i (BitVec.ofNat 32 m) = ![(Scalar.addi (Scalar.muli (chunkWord (i 2).val) (BitVec.ofNat 32 512)) (BitVec.ofNat 32 m)).toNat, 0] := rfl
  rw [e, diag_word _ _ _ (by omega) hm]
theorem off14_eq (i : grid0.Coords) (m : ℕ) (hm : m ≤ 65536 := by decide) :
    k0_off14 i (BitVec.ofNat 32 m) = ![32 * ch i + m, 0] := by
  have e : k0_off14 i (BitVec.ofNat 32 m) = ![(Scalar.addi (Scalar.muli (chunkWord (i 2).val) (BitVec.ofNat 32 32)) (BitVec.ofNat 32 m)).toNat, 0] := rfl
  rw [e, diag_word _ _ _ (by omega) hm]
theorem off15_eq (i : grid0.Coords) (t : Fin (k0_t4_loop i).trips) (m : ℕ) (hm : m ≤ 65536 := by decide) :
    k0_off15 i t (BitVec.ofNat 32 m) = ![32 * t.val + m, 0] := by
  have e : k0_off15 i t (BitVec.ofNat 32 m) = ![(Scalar.addi (Scalar.muli (Scf.iv 0#32 1#32 t) (BitVec.ofNat 32 32)) (BitVec.ofNat 32 m)).toNat, 0] := rfl
  rw [e, row_word _ _ _ (t4_lt t) (by omega) hm]
theorem off17_eq (i : grid0.Coords) (t : Fin (k0_t7_loop i).trips) (m : ℕ) (hm : m ≤ 65536 := by decide) :
    k0_off17 i t (BitVec.ofNat 32 m) = ![32 * t.val + m, 0] := by
  have e : k0_off17 i t (BitVec.ofNat 32 m) = ![(Scalar.addi (Scalar.muli (Scf.iv 0#32 1#32 t) (BitVec.ofNat 32 32)) (BitVec.ofNat 32 m)).toNat, 0] := rfl
  rw [e, row_word _ _ _ (t7_lt t) (by omega) hm]
theorem off19_eq (i : grid0.Coords) (t : Fin (k0_t9_loop i).trips) (m : ℕ) (hm : m ≤ 65536 := by decide) :
    k0_off19 i t (BitVec.ofNat 32 m) = ![512 * t.val + m, 0] := by
  have e : k0_off19 i t (BitVec.ofNat 32 m) = ![(Scalar.addi (Scalar.muli (Scf.iv 0#32 1#32 t) (BitVec.ofNat 32 512)) (BitVec.ofNat 32 m)).toNat, 0] := rfl
  rw [e, row_word _ _ _ (t9_lt t) (by omega) hm]
theorem off21_eq (i : grid0.Coords) (t : Fin (k0_t11_loop i).trips) (m : ℕ) (hm : m ≤ 65536 := by decide) :
    k0_off21 i t (BitVec.ofNat 32 m) = ![32 * t.val + m, 0] := by
  have e : k0_off21 i t (BitVec.ofNat 32 m) = ![(Scalar.addi (Scalar.muli (Scf.iv 0#32 1#32 t) (BitVec.ofNat 32 32)) (BitVec.ofNat 32 m)).toNat, 0] := rfl
  rw [e, row_word _ _ _ (t11_lt t) (by omega) hm]
theorem off23_eq (i : grid0.Coords) (t : Fin (k0_t14_loop i).trips) (m : ℕ) (hm : m ≤ 65536 := by decide) :
    k0_off23 i t (BitVec.ofNat 32 m) = ![32 * t.val + m, 0] := by
  have e : k0_off23 i t (BitVec.ofNat 32 m) = ![(Scalar.addi (Scalar.muli (Scf.iv 0#32 1#32 t) (BitVec.ofNat 32 32)) (BitVec.ofNat 32 m)).toNat, 0] := rfl
  rw [e, row_word _ _ _ (t14_lt t) (by omega) hm]
theorem off25_eq (i : grid0.Coords) (t : Fin (k0_t16_loop i).trips) (m m' : ℕ) (hm : m ≤ 512 := by decide) (hm' : m' ≤ 512 := by decide) :
    k0_off25 i t (BitVec.ofNat 32 m) (BitVec.ofNat 32 m') = ![512 * t.val + (m + m'), 0] := by
  have e : k0_off25 i t (BitVec.ofNat 32 m) (BitVec.ofNat 32 m') = ![(Scalar.addi (Scalar.addi (Scalar.muli (Scf.iv 0#32 1#32 t) (BitVec.ofNat 32 512)) (BitVec.ofNat 32 m)) (BitVec.ofNat 32 m')).toNat, 0] := rfl
  have e2 : Scalar.addi (Scalar.addi (Scalar.muli (Scf.iv 0#32 1#32 t) (BitVec.ofNat 32 512)) (BitVec.ofNat 32 m)) (BitVec.ofNat 32 m') = Scalar.addi (Scalar.muli (Scf.iv 0#32 1#32 t) (BitVec.ofNat 32 512)) (BitVec.ofNat 32 (m + m')) := by
    rw [BitVec.ofNat_add]; exact BitVec.add_assoc _ _ _
  rw [e, e2, row_word _ _ _ (t16_lt t) (by omega) (by omega)]
theorem off26_eq (i : grid0.Coords) (t : Fin (k0_t16_loop i).trips) (m m' : ℕ) (hm : m ≤ 512 := by decide) (hm' : m' ≤ 512 := by decide) :
    k0_off26 i t (BitVec.ofNat 32 m) (BitVec.ofNat 32 m') = ![512 * t.val + (m + m'), 0] := by
  have e : k0_off26 i t (BitVec.ofNat 32 m) (BitVec.ofNat 32 m') = k0_off25 i t (BitVec.ofNat 32 m) (BitVec.ofNat 32 m') := rfl
  rw [e, off25_eq i t m m' hm hm']
theorem off27_eq (i : grid0.Coords) (t : Fin (k0_t16_loop i).trips) : k0_off27 i t = ![0, 512 * t.val] := by
  have e : k0_off27 i t = ![0, (Scalar.muli (Scf.iv 0#32 1#32 t) (BitVec.ofNat 32 512)).toNat] := rfl
  rw [e, row_word' _ _ (t16_lt t) (by omega)]

end Entmax.KernelIdeal
end
-- ==== Proof.Tiles.lean ====
/-
  One grid point of the attention kernel handles 512 rows at once, one per lane: 128 queries for each of the 4 heads of a
  group. `Blk` holds what the grid point is given; `Blk.Y` is the array of its scores (key by lane) and `Blk.P` the array of
  the maxima of sixteens. The rest are the rules by which a straight run of loads and stores of the kernel is followed while
  these arrays are being written, eight rows at a time.
-/
module

public import proofs.«01_k».proof.Proof.Offsets
public import Idealize.ShloMosaic.Lib.Pointwise.SelectCore
public import Idealize.ShloMosaic.Lib.ValueIdx
public import Idealize.ShloMosaic.Lib.Pointwise.Reshape

@[expose] public section

noncomputable section

namespace Entmax

open Idealize.ShloMosaic Idealize.ShloMosaic.TcCoe

/-! ### Rectangles -/

theorem unit_idx {s : Shape} (off size : Fin s.rank → ℕ) (inb : ∀ a, off a + size a ≤ s.size a)
    (x : (Rect.unit (s := s) off size inb).shape.Idx) (a : Fin s.rank) :
    ((Rect.unit (s := s) off size inb).toLoadRect.idx x a).val = off a + (x a).val := by
  show off a + 1 * (x a).val = _
  rw [Nat.one_mul]

/-- What holds where a rectangle is laid over an array: inside of what was laid, outside of what was there. -/
theorem overlay_ind {s : Shape} {α : Type} (off size : Fin s.rank → ℕ) (inb : ∀ a, off a + size a ≤ s.size a)
    (f : s.Idx → α) (w : (Rect.unit (s := s) off size inb).shape.Idx → α) (j : s.Idx) (P : α → Prop)
    (hin : ∀ x : (Rect.unit (s := s) off size inb).shape.Idx, (∀ a, (j a).val = off a + (x a).val) → P (w x))
    (hout : (¬ ∀ a, off a ≤ (j a).val ∧ (j a).val < off a + size a) → P (f j)) :
    P ((Rect.unit (s := s) off size inb).overlay f w j) := by
  by_cases h : ∀ a, off a ≤ (j a).val ∧ (j a).val < off a + size a
  · let x : (Rect.unit (s := s) off size inb).shape.Idx := fun a => ⟨(j a).val - off a, by have := h a; show _ < size a; omega⟩
    have hx : ∀ a, (j a).val = off a + (x a).val := fun a => by
      have := h a; show (j a).val = off a + ((j a).val - off a); omega
    have e : (Rect.unit (s := s) off size inb).emb x = j := by
      funext a; apply Fin.ext
      exact (unit_idx off size inb x a).trans (hx a).symm
    rw [← e, Rect.overlay_emb]
    exact hin x hx
  · rw [Rect.overlay_of_not_mem]
    · exact hout h
    · intro hj
      rw [← Rect.map_emb_univ, Finset.mem_map] at hj
      obtain ⟨x, -, rfl⟩ := hj
      apply h
      intro a
      have := unit_idx off size inb x a
      have hxa : (x a).val < size a := (x a).isLt
      show off a ≤ ((Rect.unit (s := s) off size inb).toLoadRect.idx x a).val ∧ ((Rect.unit (s := s) off size inb).toLoadRect.idx x a).val < _
      omega

/-- Rows `o … o + h - 1` of a matrix replaced: if what was above and what is laid agree with `G`, so does the result above
    row `o + h`. -/
theorem overlay_rows {N M h o : ℕ} {α : Type} {off : Fin 2 → ℕ} (hoff : off = ![o, 0])
    (inb : ∀ a, off a + (![h, M] : Fin 2 → ℕ) a ≤ (⟨2, ![N, M]⟩ : Shape).size a)
    (f : (⟨2, ![N, M]⟩ : Shape).Idx → α) (w : (⟨2, ![h, M]⟩ : Shape).Idx → α) (G : ℕ → ℕ → α)
    (hf : ∀ x : (⟨2, ![N, M]⟩ : Shape).Idx, (x 0).val < o → f x = G (x 0).val (x 1).val)
    (hw : ∀ x : (⟨2, ![h, M]⟩ : Shape).Idx, w x = G (o + (x 0).val) (x 1).val)
    (x : (⟨2, ![N, M]⟩ : Shape).Idx) (hx : (x 0).val < o + h) :
    (Rect.unit (s := ⟨2, ![N, M]⟩) off ![h, M] inb).overlay f w x = G (x 0).val (x 1).val := by
  subst hoff
  refine overlay_ind _ _ inb f w x (· = _) (fun y hy => ?_) fun hn => hf x ?_
  · have h0 : (x 0).val = o + (y 0).val := hy 0
    have h1 : (x 1).val = 0 + (y 1).val := hy 1
    rw [h0, h1, Nat.zero_add]
    exact hw y
  · by_contra hlt
    refine hn fun a => ?_
    have h1 : (x 1).val < M := (x 1).isLt
    match a with
    | 0 => exact ⟨by show o ≤ (x 0).val; omega, hx⟩
    | 1 => exact ⟨Nat.zero_le _, by show (x 1).val < 0 + M; omega⟩

/-- A whole array replaced. -/
theorem overlay_whole {s : Shape} {α : Type} {off size : Fin s.rank → ℕ} (inb : ∀ a, off a + size a ≤ s.size a)
    (hoff : ∀ a, off a = 0) (hsz : ∀ a, size a = s.size a)
    (f : s.Idx → α) (w : (Rect.unit (s := s) off size inb).shape.Idx → α) (x : s.Idx) (P : α → Prop)
    (h : ∀ y : (Rect.unit (s := s) off size inb).shape.Idx, (∀ a, (x a).val = (y a).val) → P (w y)) :
    P ((Rect.unit (s := s) off size inb).overlay f w x) := by
  refine overlay_ind off size inb f w x P (fun y hy => h y fun a => ?_) fun hn => absurd ?_ hn
  · rw [hy a, hoff a, Nat.zero_add]
  · intro a; rw [hoff a, hsz a]; exact ⟨Nat.zero_le _, by have := (x a).isLt; omega⟩

/-- Four copies of a tile whose lanes agree, side by side. -/
theorem concat4_apply {h : ℕ} {α : Type} (L : (⟨2, ![h, 128]⟩ : Shape).Idx → α) (g : ℕ → α)
    (hL : ∀ x : (⟨2, ![h, 128]⟩ : Shape).Idx, L x = g (x 0).val)
    (hc : Shape.Concatenates (([⟨⟨2, ![h, 128]⟩, L⟩, ⟨⟨2, ![h, 128]⟩, L⟩, ⟨⟨2, ![h, 128]⟩, L⟩, ⟨⟨2, ![h, 128]⟩, L⟩] : List ((s : Shape) × (s.Idx → α))).map (·.1)) ⟨2, ![h, 512]⟩ 1)
    (x : (⟨2, ![h, 512]⟩ : Shape).Idx) :
    concatenate ⟨2, ![h, 512]⟩ 1 [⟨⟨2, ![h, 128]⟩, L⟩, ⟨⟨2, ![h, 128]⟩, L⟩, ⟨⟨2, ![h, 128]⟩, L⟩, ⟨⟨2, ![h, 128]⟩, L⟩] hc x = g (x 0).val := by
  rw [concatenate_cons_apply]
  simp only [concatenateAt_cons, concatenateAt_singleton, hL]
  split_ifs <;> rfl

/-- The running maximum of `f 0 … f n`. -/
def runMax (f : ℕ → EReal) : ℕ → EReal
  | 0 => f 0
  | n + 1 => max (runMax f n) (f (n + 1))

theorem runMax_eq (f : ℕ → EReal) (n : ℕ) : runMax f n = (Finset.range (n + 1)).sup f := by
  induction n with
  | zero => simp [runMax]
  | succ n ih => rw [runMax, ih, Finset.range_add_one (n := n + 1), Finset.sup_insert, max_comm]

/-! ### The data of one grid point -/

/-- What a grid point is given: its query block, the codes of its 512 rows, their scales, the codes of the keys, their
    scales, the codes of the values (transposed) and their scales; rows, keys and coordinates by number. -/
structure Blk where
  tq : ℕ
  q : ℕ → ℕ → EReal
  qs : ℕ → EReal
  k : ℕ → ℕ → EReal
  ks : ℕ → EReal
  vt : ℕ → ℕ → EReal
  vs : ℕ → EReal

namespace Blk

variable (B : Blk)

/-- The product of the codes of key `k` and row `l`. -/
def acc (k l : ℕ) : EReal := ∑ d : Fin 160, B.k k d.val * B.q l d.val

/-- The scale of key `k`, with the scale of the attention in it. -/
def kx (k : ℕ) : EReal := B.ks k * Ideal.ofBits .f32 0x3D21E89B#32

/-- The score of key `k` in row `l` before the scale of the row; a key after the query is out. -/
def Y (k l : ℕ) : EReal := if k ≤ 128 * B.tq + l % 128 then B.acc k l * B.kx k else ⊥

/-- The maxima of sixteens: row `j` is the maximum over `n` of the scores of key `128 (j / 8) + 8 n + j % 8`. -/
def P (j l : ℕ) : EReal := runMax (fun n => B.Y (128 * (j / 8) + 8 * n + j % 8) l) 15

end Blk

end Entmax

namespace Entmax.KernelIdeal

open Idealize.ShloMosaic Idealize.ShloMosaic.TcCoe Cert.KernelIdeal
open Idealize.SL.Sem

/-- The six inputs of the grid point hold the data `B`. -/
structure Win (B : Blk) (σ : St Ideal) : Prop where
  q : ∀ x, σ .q x = B.q (128 * (x 1).val + (x 2).val) (x 3).val
  qs : ∀ x, σ .qs x = B.qs (x 4).val
  k : ∀ x, σ .k x = B.k (x 2).val (x 3).val
  ks : ∀ x, σ .ks x = B.ks (x 3).val
  vt : ∀ x, σ .vt x = B.vt (x 2).val (x 3).val
  vs : ∀ x, σ .vs x = B.vs (x 3).val

/-- The expanded scales and the values in scratch. -/
structure Exp (B : Blk) (σ : St Ideal) : Prop where
  ksx : ∀ x, σ .ksx x = B.kx (x 0).val
  vsx : ∀ x, σ .vsx x = B.vs (x 0).val
  vtw : ∀ x, σ .vtw x = B.vt (x 0).val (x 1).val

/-- The state while scores and maxima are being written: the first `n` rows of the scores and the first `pn` of the maxima
    are there, and no other buffer has changed. -/
structure Inv (B : Blk) (σ₀ : St Ideal) (n pn : ℕ) (σ : St Ideal) : Prop where
  same : ∀ b, b ≠ .y → b ≠ .p → σ b = σ₀ b
  y : ∀ x, (x 0).val < n → σ .y x = B.Y (x 0).val (x 1).val
  p : ∀ x, (x 0).val < pn → σ .p x = B.P (x 0).val (x 1).val

variable {c : Dev nD} {ms : Mems sig} {bd : Option ℕ} {α β : Type}

/-- `p` runs from every state that satisfies `I`. -/
def RunI (c : Dev nD) (ms : Mems sig) (bd : Option ℕ) (I : St Ideal → Prop) (p : Prog (TpuEff nD τ sig (Elt Ideal) (Λ₀ Ideal) .tc) α)
    (Q : α → St Ideal → Prop) : Prop := ∀ σ, I σ → Run c (defs₀ (F := Ideal)) ms bd p σ Q

variable {I : St Ideal → Prop}

theorem RunI.ret {a : α} {Q : α → St Ideal → Prop} (h : ∀ σ, I σ → Q a σ) : RunI c ms bd I (pure a) Q := fun σ hσ => .ret (h σ hσ)

theorem RunI.assoc {γ : Type} {p : Prog (TpuEff nD τ sig (Elt Ideal) (Λ₀ Ideal) .tc) α} {f : α → Prog (TpuEff nD τ sig (Elt Ideal) (Λ₀ Ideal) .tc) β}
    {k : β → Prog (TpuEff nD τ sig (Elt Ideal) (Λ₀ Ideal) .tc) γ} {Q : γ → St Ideal → Prop}
    (h : RunI c ms bd I (p >>= fun x => f x >>= k) Q) : RunI c ms bd I ((p >>= f) >>= k) Q := fun σ hσ => .assoc (h σ hσ)

theorem RunI.pure_bind {a : α} {k : α → Prog (TpuEff nD τ sig (Elt Ideal) (Λ₀ Ideal) .tc) β} {Q : β → St Ideal → Prop}
    (h : RunI c ms bd I (k a) Q) : RunI c ms bd I (pure a >>= k) Q := h

/-- A load whose value nothing is known of. -/
theorem RunI.load_any (b : Bf) {r : LoadRect (sh b)} {hl : (ms b).view.LoadsAt r}
    {k : (r.shape.Idx → Elt Ideal (el b)) → Prog (TpuEff nD τ sig (Elt Ideal) (Λ₀ Ideal) .tc) β} {Q : β → St Ideal → Prop}
    (h : ∀ v, RunI c ms bd I (k v) Q) : RunI c ms bd I (Prog.lift (.load (ms b) r hl) >>= k) Q :=
  fun σ hσ => .load b (h _ σ hσ)

/-- A load of a buffer that has not changed. -/
theorem RunI.load_same {B : Blk} {σ₀ : St Ideal} {n pn : ℕ} (b : Bf) (h1 : b ≠ .y) (h2 : b ≠ .p) {r : LoadRect (sh b)} {hl : (ms b).view.LoadsAt r}
    {k : (r.shape.Idx → Elt Ideal (el b)) → Prog (TpuEff nD τ sig (Elt Ideal) (Λ₀ Ideal) .tc) β} {Q : β → St Ideal → Prop}
    (h : RunI c ms bd (Inv B σ₀ n pn) (k fun x => σ₀ b (r.idx x)) Q) :
    RunI c ms bd (Inv B σ₀ n pn) (Prog.lift (.load (ms b) r hl) >>= k) Q :=
  fun σ hσ => .load b (by rw [hσ.same b h1 h2]; exact h σ hσ)

/-- A counted loop, then the rest. -/
theorem RunI.bind_loop {n : ℕ} {l : Scf.Loop n} {hok : l.OK} {init : α} {body : Fin l.trips → α → Prog (TpuEff nD τ sig (Elt Ideal) (Λ₀ Ideal) .tc) α}
    {k : α → Prog (TpuEff nD τ sig (Elt Ideal) (Λ₀ Ideal) .tc) β} {Q : β → St Ideal → Prop} (J : ℕ → α → St Ideal → Prop)
    (h0 : ∀ σ, I σ → J 0 init σ) (hb : ∀ (t : Fin l.trips) (a : α), RunI c ms bd (J t.val a) (body t a) (J (t.val + 1)))
    (hk : ∀ a, RunI c ms bd (J l.trips a) (k a) Q) : RunI c ms bd I (Scf.Loop.for l hok init body >>= k) Q :=
  fun σ hσ => Run.bind (Run.loop J (h0 σ hσ) (fun t a σ' h => hb t a σ' h) fun a σ' h => h) fun a σ' h => hk a σ' h

/-- A counted loop of no trips, then the rest. -/
theorem RunI.bind_loop_zero {n : ℕ} {l : Scf.Loop n} {hok : l.OK} {init : α} {body : Fin l.trips → α → Prog (TpuEff nD τ sig (Elt Ideal) (Λ₀ Ideal) .tc) α}
    {k : α → Prog (TpuEff nD τ sig (Elt Ideal) (Λ₀ Ideal) .tc) β} {Q : β → St Ideal → Prop} (hz : l.trips ≤ 0)
    (hk : RunI c ms bd I (k init) Q) : RunI c ms bd I (Scf.Loop.for l hok init body >>= k) Q :=
  fun σ hσ => Run.bind (R := fun a σ' => a = init ∧ I σ') (.loop_zero hz ⟨rfl, hσ⟩) fun a σ' h => by rw [h.1]; exact hk σ' h.2

/-- One part, then the rest. -/
theorem RunI.bind {p : Prog (TpuEff nD τ sig (Elt Ideal) (Λ₀ Ideal) .tc) α} {k : α → Prog (TpuEff nD τ sig (Elt Ideal) (Λ₀ Ideal) .tc) β}
    {R : α → St Ideal → Prop} {Q : β → St Ideal → Prop} (h : RunI c ms bd I p R) (h' : ∀ a, RunI c ms bd (R a) (k a) Q) :
    RunI c ms bd I (p >>= k) Q := fun σ hσ => (h σ hσ).bind fun a σ' h => h' a σ' h

/-- A load of rows `o …` of the expanded key scales. -/
theorem RunI.load_ks {B : Blk} {σ₀ : St Ideal} (hE : Exp B σ₀) {n pn o : ℕ} {off : Fin 2 → ℕ} (hoff : off = ![o, 0])
    {inb : ∀ a, off a + S8x128.size a ≤ S6144x128.size a} {hl : (ms .ksx).view.LoadsAt (Rect.unit (s := S6144x128) off S8x128.size inb).toLoadRect}
    {k : (S8x128.Idx → EReal) → Prog (TpuEff nD τ sig (Elt Ideal) (Λ₀ Ideal) .tc) β} {Q : β → St Ideal → Prop}
    (h : ∀ v : S8x128.Idx → EReal, (∀ x, v x = B.kx (o + (x 0).val)) → RunI c ms bd (Inv B σ₀ n pn) (k v) Q) :
    RunI c ms bd (Inv B σ₀ n pn) (Prog.lift (.load (ms .ksx) (Rect.unit (s := S6144x128) off S8x128.size inb).toLoadRect hl) >>= k) Q := by
  intro σ hσ
  refine .load .ksx (h _ (fun x => ?_) σ hσ)
  rw [hσ.same .ksx (by decide) (by decide), hE.ksx]
  subst hoff
  rw [unit_idx]
  rfl

/-- A store of rows `n …` of the scores. -/
theorem RunI.store_y {B : Blk} {σ₀ : St Ideal} {n pn o : ℕ} {off : Fin 2 → ℕ} (hoff : off = ![o, 0]) (ho : o = n)
    {inb : ∀ a, off a + S8x512.size a ≤ S6144x512.size a} {w : S8x512.Idx → EReal}
    {hx : ((ms .y).access (Rect.unit (s := S6144x512) off S8x512.size inb)).Stores Finset.univ}
    {hm : (Finset.univ : Finset (Rect.unit (s := S6144x512) off S8x512.size inb).shape.Idx) = Finset.univ ∨ ∀ a, (Rect.unit (s := S6144x512) off S8x512.size inb).stride a = 1}
    {k : PUnit → Prog (TpuEff nD τ sig (Elt Ideal) (Λ₀ Ideal) .tc) β} {Q : β → St Ideal → Prop}
    (hw : ∀ x, w x = B.Y (o + (x 0).val) (x 1).val)
    (h : RunI c ms bd (Inv B σ₀ (o + 8) pn) (k ⟨⟩) Q) :
    RunI c ms bd (Inv B σ₀ n pn) (Prog.lift (.store (ms .y) (Rect.unit (s := S6144x512) off S8x512.size inb) w Finset.univ hx hm) >>= k) Q := by
  intro σ hσ
  refine .store .y (h _ ⟨fun b h1 h2 => ?_, fun x hx => ?_, fun x hx => ?_⟩)
  · rw [← hσ.same b h1 h2]; exact Function.update_of_ne h1 _ _
  · unfold put; rw [Function.update_self]
    exact overlay_rows (N := 6144) (M := 512) (h := 8) hoff inb (σ .y) w B.Y (fun x hx => hσ.y x (by omega)) hw x hx
  · exact (congrFun (Function.update_of_ne (by decide) _ _) x).trans (hσ.p x hx)

/-- A store of rows `pn …` of the maxima. -/
theorem RunI.store_p {B : Blk} {σ₀ : St Ideal} {n pn o : ℕ} {off : Fin 2 → ℕ} (hoff : off = ![o, 0]) (ho : o = pn)
    {inb : ∀ a, off a + S8x512.size a ≤ S384x512.size a} {w : S8x512.Idx → EReal}
    {hx : ((ms .p).access (Rect.unit (s := S384x512) off S8x512.size inb)).Stores Finset.univ}
    {hm : (Finset.univ : Finset (Rect.unit (s := S384x512) off S8x512.size inb).shape.Idx) = Finset.univ ∨ ∀ a, (Rect.unit (s := S384x512) off S8x512.size inb).stride a = 1}
    {k : PUnit → Prog (TpuEff nD τ sig (Elt Ideal) (Λ₀ Ideal) .tc) β} {Q : β → St Ideal → Prop}
    (hw : ∀ x, w x = B.P (o + (x 0).val) (x 1).val)
    (h : RunI c ms bd (Inv B σ₀ n (o + 8)) (k ⟨⟩) Q) :
    RunI c ms bd (Inv B σ₀ n pn) (Prog.lift (.store (ms .p) (Rect.unit (s := S384x512) off S8x512.size inb) w Finset.univ hx hm) >>= k) Q := by
  intro σ hσ
  refine .store .p (h _ ⟨fun b h1 h2 => ?_, fun x hx => ?_, fun x hx => ?_⟩)
  · rw [← hσ.same b h1 h2]; exact Function.update_of_ne h2 _ _
  · exact (congrFun (Function.update_of_ne (by decide) _ _) x).trans (hσ.y x hx)
  · unfold put; rw [Function.update_self]
    exact overlay_rows (N := 384) (M := 512) (h := 8) hoff inb (σ .p) w B.P (fun x hx => hσ.p x (by omega)) hw x hx

/-- Rows `m …` of the products of chunk `o`, times the key scales, before the mask. -/
theorem tile_val {B : Blk} {o r m : ℕ} {A : FVec Ideal S512x512 .f32} {L : FVec Ideal S8x128 .f32} {hs hc}
    (hA : ∀ x, A x = B.acc (o + (x 0).val) (x 1).val) (hL : ∀ x, L x = B.kx (r + (x 0).val)) (hr : r = o + m) (x : S8x512.Idx) :
    mulf (F := Ideal) (φ := .f32) (extractStridedSlice S8x512 ![m, 0] A hs)
      (concatenate S8x512 1 [⟨S8x128, L⟩, ⟨S8x128, L⟩, ⟨S8x128, L⟩, ⟨S8x128, L⟩] hc) x = B.acc (r + (x 0).val) (x 1).val * B.kx (r + (x 0).val) := by
  have e := concat4_apply (h := 8) L (fun a => B.kx (r + a)) hL hc x
  show extractStridedSlice S8x512 ![m, 0] A hs x * concatenate S8x512 1 _ hc x = _
  rw [e]
  congr 1
  refine (hA _).trans ?_
  subst hr
  show B.acc (o + (m + (x 0).val)) (0 + (x 1).val) = _
  rw [Nat.zero_add, Nat.add_assoc]

/-- Below the diagonal chunk nothing is masked. -/
theorem tile_Y {B : Blk} {o r m t : ℕ} {A : FVec Ideal S512x512 .f32} {L : FVec Ideal S8x128 .f32} {hs hc}
    (hA : ∀ x, A x = B.acc (o + (x 0).val) (x 1).val) (ho : o = 512 * t) (ht : t < B.tq / 4) (hL : ∀ x, L x = B.kx (r + (x 0).val)) (hr : r = o + m) (hm : m ≤ 504) (x : S8x512.Idx) :
    mulf (F := Ideal) (φ := .f32) (extractStridedSlice S8x512 ![m, 0] A hs)
      (concatenate S8x512 1 [⟨S8x128, L⟩, ⟨S8x128, L⟩, ⟨S8x128, L⟩, ⟨S8x128, L⟩] hc) x = B.Y (r + (x 0).val) (x 1).val := by
  have h0 : (x 0).val < 8 := (x 0).isLt
  rw [tile_val hA hL hr x, Blk.Y, if_pos (by omega)]

theorem cast_val {w : FVec Ideal S8x512 .f32} {h : S8x512.ShapeCasts S8x512} {G : ℕ → ℕ → EReal} {o : ℕ}
    (hw : ∀ x, w x = G (o + (x 0).val) (x 1).val) (x : S8x512.Idx) : shapeCast S8x512 w h x = G (o + (x 0).val) (x 1).val := by
  rw [shapeCast_self]; exact hw x

/-- A running maximum of tiles that are 8 rows apart. -/
def IsMax (B : Blk) (r n : ℕ) (M : FVec Ideal S8x512 .f32) : Prop :=
  ∀ x : S8x512.Idx, M x = runMax (fun n => B.Y (r + 8 * n + (x 0).val) (x 1).val) n

theorem isMax_zero {B : Blk} {r r' : ℕ} {M : FVec Ideal S8x512 .f32} (h : ∀ x, M x = B.Y (r' + (x 0).val) (x 1).val) (hr : r' = r) : IsMax B r 0 M :=
  fun x => by rw [h x, hr]; rfl

theorem isMax_succ {B : Blk} {r r' n : ℕ} {M T : FVec Ideal S8x512 .f32} (hM : IsMax B r n M) (h : ∀ x, T x = B.Y (r' + (x 0).val) (x 1).val)
    (hr : r' = r + 8 * (n + 1)) : IsMax B r (n + 1) (maximumf (F := Ideal) (φ := .f32) M T) :=
  fun x => by
    show max (M x) (T x) = _
    rw [hM x, h x, hr]; rfl

theorem isMax_cast {B : Blk} {o : ℕ} {M : FVec Ideal S8x512 .f32} {h : S8x512.ShapeCasts S8x512} (hM : IsMax B (16 * o) 15 M)
    (ho : o % 8 = 0) (x : S8x512.Idx) :
    shapeCast S8x512 M h x = B.P (o + (x 0).val) (x 1).val := by
  have h0 : (x 0).val < 8 := (x 0).isLt
  rw [shapeCast_self, hM x, Blk.P]
  have e1 : 128 * ((o + (x 0).val) / 8) = 16 * o := by omega
  have e2 : (o + (x 0).val) % 8 = (x 0).val := by omega
  rw [e1, e2]

end Entmax.KernelIdeal
end
-- ==== Proof.Scores.lean ====
/-
  The scores of a grid point, chunk by chunk of 512 keys: the chunks below the diagonal, of which nothing is masked, and the
  start of the one on the diagonal.
-/
module

public import proofs.«01_k».proof.Proof.Tiles
public import Idealize.ShloMosaic.Lib.MatmulPlain
public import Idealize.ShloMosaic.Lib.IdealHost

@[expose] public section

noncomputable section

namespace Entmax.KernelIdeal

open Idealize.ShloMosaic Idealize.ShloMosaic.TcCoe Cert.KernelIdeal
open Idealize.SL.Sem

/-- The products of 512 keys and the 512 rows. -/
theorem acc_val {B : Blk} {o : ℕ} {K Q : FVec Ideal S512x160 .fp8e4m3} (hK : ∀ x, K x = B.k (o + (x 0).val) (x 1).val)
    (hQ : ∀ x, Q x = B.q (x 0).val (x 1).val) (x : S512x512.Idx) :
    matmul (F := Ideal) dot_S512x160_S512x160_S512x512_1_1_0_0_n_n none K Q (constant S512x512 .f32 0x00000000#32) x = B.acc (o + (x 0).val) (x 1).val := by
  rw [ValueIdx.eq_ix2 x]
  refine (Ideal.matmul_transposedRhs_apply (M := 512) (K := 160) (N := 512) none K Q _ (x 0) (x 1)).trans ?_
  show Ideal.ofBits .f32 0x00000000#32 + _ = _
  rw [Ideal.ofBits_zero_f32, zero_add]
  unfold Blk.acc
  exact Finset.sum_congr rfl fun d _ => by rw [hK, hQ]

/-- The code of the rows, read from the window. -/
theorem rows_val {B : Blk} {w : FVec Ideal S1x4x128x160 .fp8e4m3} {h1 : S1x4x128x160.ShapeCasts S4x128x160} {h2 : S4x128x160.ShapeCasts S512x160}
    (hw : ∀ x, w x = B.q (128 * (x 1).val + (x 2).val) (x 3).val) (x : S512x160.Idx) :
    shapeCast S512x160 (shapeCast S4x128x160 w h1) h2 x = B.q (x 0).val (x 1).val := by
  have h0 : (x 0).val < 512 := (x 0).isLt
  have h3 : (x 1).val < 160 := (x 1).isLt
  rw [shapeCast_apply _ h2 x (ValueIdx.ix3 (⟨(x 0).val / 128, by omega⟩ : Fin 4) (⟨(x 0).val % 128, by omega⟩ : Fin 128) (x 1)) (by
    rw [Shape.rowMajor_val_two, Shape.rowMajor_val_three]
    show ((x 0).val / 128 * 128 + (x 0).val % 128) * 160 + (x 1).val = (x 0).val * 160 + (x 1).val
    omega)]
  rw [shapeCast_apply _ h1 _ (ValueIdx.ix4 (0 : Fin 1) (⟨(x 0).val / 128, by omega⟩ : Fin 4) (⟨(x 0).val % 128, by omega⟩ : Fin 128) (x 1)) (by
    rw [Shape.rowMajor_val_four, Shape.rowMajor_val_three]
    show ((0 * 4 + (x 0).val / 128) * 128 + (x 0).val % 128) * 160 + (x 1).val = ((x 0).val / 128 * 128 + (x 0).val % 128) * 160 + (x 1).val
    omega)]
  rw [hw]
  show B.q (128 * ((x 0).val / 128) + (x 0).val % 128) (x 1).val = _
  congr 1
  omega

/-- The codes of the keys of a chunk, read from the window. -/
theorem keys_val {B : Blk} {o : ℕ} {w : FVec Ideal S1x1x512x160 .fp8e4m3} {h1 : S1x1x512x160.ShapeCasts S512x160}
    (hw : ∀ x, w x = B.k (o + (x 2).val) (x 3).val) (x : S512x160.Idx) :
    shapeCast S512x160 w h1 x = B.k (o + (x 0).val) (x 1).val := by
  rw [shapeCast_apply _ h1 x (ValueIdx.ix4 (0 : Fin 1) (0 : Fin 1) (x 0) (x 1)) (by
    rw [Shape.rowMajor_val_two, Shape.rowMajor_val_four]
    show ((0 * 1 + 0) * 512 + (x 0).val) * 160 + (x 1).val = (x 0).val * 160 + (x 1).val
    omega)]
  exact hw _

/-- Lane by lane reading of a row vector kept in five axes. -/
theorem lane_val {φ : FTy} {f : ℕ → EReal} {w : FVec Ideal S1x1x1x1x512 φ} {h1 : S1x1x1x1x512.ShapeCasts S1x512}
    (hw : ∀ x, w x = f (x 4).val) (x : S1x512.Idx) : shapeCast S1x512 w h1 x = f (x 1).val := by
  have h0 : (x 0).val < 1 := (x 0).isLt
  rw [shapeCast_apply _ h1 x (ValueIdx.ix5 (0 : Fin 1) (0 : Fin 1) (0 : Fin 1) (0 : Fin 1) (x 1)) (by
    rw [Shape.rowMajor_val_two, Shape.rowMajor_val_five]
    show (((0 * 1 + 0) * 1 + 0) * 1 + 0) * 512 + (x 1).val = (x 0).val * 512 + (x 1).val
    omega)]
  exact hw _

theorem toInt_small (n : ℕ) (h : n < 1073741824) : (BitVec.ofNat 32 n).toInt = n := by
  rw [BitVec.toInt_eq_toNat_of_lt, BitVec.toNat_ofNat, Nat.mod_eq_of_lt (by omega)]
  rw [BitVec.toNat_ofNat, Nat.mod_eq_of_lt (by omega)]; omega

/-- The kernel's word for the place of lane `l` in its query block. -/
def laneWord (l : ℕ) : BitVec 32 :=
  let n : BitVec 32 := Scalar.select (Scalar.cmpi .eq 128#32 0#32) 1#32 128#32
  let r : BitVec 32 := IntOp.remsi .vector (BitVec.ofNat 32 l) n
  Scalar.select (IntOp.andi (IntOp.xori (IntOp.cmpi .slt r 0#32) (Scalar.cmpi .slt n 0#32)) (IntOp.cmpi .ne r 0#32)) (IntOp.addi r n) r

theorem laneWord_fin : ∀ l : Fin 512, laneWord l.val = BitVec.ofNat 32 (l.val % 128) := by decide +kernel

/-- A tile of the diagonal chunk, masked. -/
theorem masked_Y {i : grid0.Coords} {B : Blk} (hB : B.tq = tq i) {r m : ℕ} {T : FVec Ideal S8x512 .f32} {hi0 hi1 hb}
    (hT : ∀ x, T x = B.acc (r + (x 0).val) (x 1).val * B.kx (r + (x 0).val)) (hr : r = 512 * ch i + m) (hm : m ≤ 504) (x : S8x512.Idx) :
    select (cmpi .sle (addi (broadcast S8x512 (Scalar.addi (Scalar.muli (chunkWord (i 2).val) 512#32) (BitVec.ofNat 32 m))) (iota .tc S8x512 32 [0] hi0))
        (addi (broadcast S8x512 (Scalar.muli (BitVec.ofNat 32 (i 2).val) 128#32))
          (select (andi (xori (cmpi .slt (remsi (iota .tc S8x512 32 [1] hi1) (broadcast S8x512 (Scalar.select (Scalar.cmpi .eq 128#32 0#32) 1#32 128#32))) (broadcast S8x512 0#32))
              (broadcastTo S8x512 (broadcast S8x512 (Scalar.cmpi .slt (Scalar.select (Scalar.cmpi .eq 128#32 0#32) 1#32 128#32) 0#32)) hb))
              (cmpi .ne (remsi (iota .tc S8x512 32 [1] hi1) (broadcast S8x512 (Scalar.select (Scalar.cmpi .eq 128#32 0#32) 1#32 128#32))) (broadcast S8x512 0#32)))
            (addi (remsi (iota .tc S8x512 32 [1] hi1) (broadcast S8x512 (Scalar.select (Scalar.cmpi .eq 128#32 0#32) 1#32 128#32))) (broadcast S8x512 (Scalar.select (Scalar.cmpi .eq 128#32 0#32) 1#32 128#32)))
            (remsi (iota .tc S8x512 32 [1] hi1) (broadcast S8x512 (Scalar.select (Scalar.cmpi .eq 128#32 0#32) 1#32 128#32))))))
      T (broadcast S8x512 (Scalar.ofBits (F := Ideal) .f32 0xFF800000#32)) x = B.Y (r + (x 0).val) (x 1).val := by
  have h0 : (x 0).val < 8 := (x 0).isLt
  have h1 : (x 1).val < 512 := (x 1).isLt
  have hc := ch_lt i
  have ht := tq_lt i
  have eL : IntOp.addi (Scalar.addi (Scalar.muli (chunkWord (i 2).val) 512#32) (BitVec.ofNat 32 m)) (BitVec.ofNat 32 (0 * 8 + (x 0).val)) = BitVec.ofNat 32 (r + (x 0).val) := by
    rw [chunkWord_eq, hr]
    show BitVec.ofNat 32 (ch i) * BitVec.ofNat 32 512 + BitVec.ofNat 32 m + _ = _
    rw [← BitVec.ofNat_mul, ← BitVec.ofNat_add, ← BitVec.ofNat_add]
    congr 1; omega
  have eR : IntOp.addi (Scalar.muli (BitVec.ofNat 32 (i 2).val) 128#32) (laneWord (0 * 512 + (x 1).val)) = BitVec.ofNat 32 (128 * B.tq + (x 1).val % 128) := by
    rw [Nat.zero_mul, Nat.zero_add, show laneWord (x 1).val = _ from laneWord_fin ⟨(x 1).val, h1⟩, hB]
    show BitVec.ofNat 32 (tq i) * BitVec.ofNat 32 128 + BitVec.ofNat 32 ((x 1).val % 128) = _
    rw [← BitVec.ofNat_mul, ← BitVec.ofNat_add, Nat.mul_comm]
  show Scalar.select (IntOp.cmpi .sle (IntOp.addi (Scalar.addi (Scalar.muli (chunkWord (i 2).val) 512#32) (BitVec.ofNat 32 m)) (BitVec.ofNat 32 (0 * 8 + (x 0).val)))
    (IntOp.addi (Scalar.muli (BitVec.ofNat 32 (i 2).val) 128#32) (laneWord (0 * 512 + (x 1).val)))) (T x) (Ideal.ofBits .f32 0xFF800000#32) = _
  rw [eL, eR, hT x, Blk.Y]
  show Scalar.select (BitVec.ofBool ((BitVec.ofNat 32 (r + (x 0).val)).sle (BitVec.ofNat 32 (128 * B.tq + (x 1).val % 128)))) _ _ = _
  have es : (BitVec.ofNat 32 (r + (x 0).val)).sle (BitVec.ofNat 32 (128 * B.tq + (x 1).val % 128)) = decide (r + (x 0).val ≤ 128 * B.tq + (x 1).val % 128) := by
    rw [BitVec.sle_eq_decide, toInt_small _ (by omega), toInt_small _ (by omega)]
    simp only [Nat.cast_le]
  rw [es]
  by_cases h : r + (x 0).val ≤ 128 * B.tq + (x 1).val % 128
  · rw [if_pos h, decide_eq_true h]; rfl
  · rw [if_neg h, decide_eq_false h]
    show Ideal.ofBits .f32 0xFF800000#32 = ⊥
    simp [Ideal.ofBits, Ideal.ieee]

variable {c : Dev nD} {ms : Mems sig} {bd : Option ℕ}

/-- A load of the codes of a chunk of 512 keys. -/
theorem RunI.load_k {B : Blk} {σ₀ : St Ideal} (hW : Win B σ₀) {β : Type} {n pn o : ℕ} {off : Fin 4 → ℕ} (hoff : off = ![0, 0, o, 0])
    {inb : ∀ a, off a + S1x1x512x160.size a ≤ S1x1x6144x160.size a} {hl : (ms .k).view.LoadsAt (Rect.unit (s := S1x1x6144x160) off S1x1x512x160.size inb).toLoadRect}
    {k : (S1x1x512x160.Idx → EReal) → Prog (TpuEff nD τ sig (Elt Ideal) (Λ₀ Ideal) .tc) β} {Q : β → St Ideal → Prop}
    (h : ∀ v : S1x1x512x160.Idx → EReal, (∀ x, v x = B.k (o + (x 2).val) (x 3).val) → RunI c ms bd (Inv B σ₀ n pn) (k v) Q) :
    RunI c ms bd (Inv B σ₀ n pn) (Prog.lift (.load (ms .k) (Rect.unit (s := S1x1x6144x160) off S1x1x512x160.size inb).toLoadRect hl) >>= k) Q := by
  intro σ hσ
  refine .load .k (h _ (fun x => ?_) σ hσ)
  rw [hσ.same .k (by decide) (by decide), hW.k]
  subst hoff
  rw [unit_idx, unit_idx]
  show B.k (o + _) (0 + _) = _
  rw [Nat.zero_add]

/-- The grid point's inputs are there, and rows below `n` chunks of the scores and of the maxima. -/
structure Sc (B : Blk) (n : ℕ) (σ : St Ideal) : Prop where
  win : Win B σ
  exp : Exp B σ
  y : ∀ x, (x 0).val < 512 * n → σ .y x = B.Y (x 0).val (x 1).val
  p : ∀ x, (x 0).val < 32 * n → σ .p x = B.P (x 0).val (x 1).val

theorem Inv.sc {B : Blk} {σ₀ σ : St Ideal} {n : ℕ} (hW : Win B σ₀) (hE : Exp B σ₀) (h : Inv B σ₀ (512 * n) (32 * n) σ) : Sc B n σ where
  win := ⟨fun x => by rw [h.same .q (by decide) (by decide)]; exact hW.q x, fun x => by rw [h.same .qs (by decide) (by decide)]; exact hW.qs x,
    fun x => by rw [h.same .k (by decide) (by decide)]; exact hW.k x, fun x => by rw [h.same .ks (by decide) (by decide)]; exact hW.ks x,
    fun x => by rw [h.same .vt (by decide) (by decide)]; exact hW.vt x, fun x => by rw [h.same .vs (by decide) (by decide)]; exact hW.vs x⟩
  exp := ⟨fun x => by rw [h.same .ksx (by decide) (by decide)]; exact hE.ksx x, fun x => by rw [h.same .vsx (by decide) (by decide)]; exact hE.vsx x,
    fun x => by rw [h.same .vtw (by decide) (by decide)]; exact hE.vtw x⟩
  y := h.y
  p := h.p

/-- The greatest score of a row. -/
def _root_.Entmax.Blk.M (B : Blk) (l : ℕ) : EReal := Finset.univ.sup fun j : Fin 384 => B.P j.val l

end Entmax.KernelIdeal
end
-- ==== Proof.Rows.lean ====
/-
  The mathematics of one row of the attention, over the extended reals: the moments of a row about a threshold, one Newton
  step, the refined step of a round, the rounds of a group of rows that stop together, and what the root gives. `Row.IsScaled`
  says that one row is another one multiplied by a positive real; the theorems at the end say that the root of the scaled
  row is the scaled root, and that the two results do not change.
-/
module

public import Idealize.ShloMosaic.PureOps.Ideal

@[expose] public section

noncomputable section

namespace Entmax

open Idealize.ShloMosaic

/-- A row: its scores, the maxima of its sixteens of scores, the slope `a` that stands for one, the number that a Newton
    step divides by where the first moment is not positive, the bracket of the root, the maximum of the scores, and the
    factor on the second moment. -/
structure Row where
  y : Fin 6144 → EReal
  p : Fin 384 → EReal
  a : EReal
  b : EReal
  lo : EReal
  hi : EReal
  m : EReal
  c2 : EReal

/-- The first moment above a threshold. -/
def mom1 {κ : Type} [Fintype κ] (f : κ → EReal) (t : EReal) : EReal := ∑ k, max (f k - t) 0

/-- The second moment above a threshold. -/
def mom2 {κ : Type} [Fintype κ] (f : κ → EReal) (t : EReal) : EReal := ∑ k, max (f k - t) 0 * max (f k - t) 0

namespace Row

/-- A Newton step from `t`, from the moments `s1` and `s2`, kept in the bracket. -/
def newton (r : Row) (t s1 s2 : EReal) : EReal :=
  min r.hi (max r.lo (t + Ideal.div ((Ideal.sqrt s2 - r.a) * Ideal.sqrt s2) (if 0 < s1 then s1 else r.b)))

/-- A Newton step on the maxima of the sixteens. -/
def poolStep (r : Row) (t : EReal) : EReal := r.newton t (mom1 r.p t) (mom2 r.p t)

/-- The root of `sum of squares of what the maxima leave out`. -/
def mg (r : Row) (t : EReal) : EReal := Ideal.sqrt (max (mom2 r.y t - mom2 r.p t) 0)

/-- How fast that changes. -/
def md (r : Row) (t : EReal) : EReal :=
  if 0 < r.mg t then Ideal.div (max (mom1 r.y t - mom1 r.p t) 0) (r.mg t) else 0

/-- What is left out at `new`, predicted from `t`. -/
def rest (r : Row) (t new : EReal) : EReal := max (r.mg t - (new - t) * r.md t) 0

/-- A Newton step on the maxima and that prediction. -/
def refine (r : Row) (t new : EReal) : EReal :=
  r.newton new (mom1 r.p new + r.rest t new * r.md t) (mom2 r.p new + r.rest t new * r.rest t new)

/-- The threshold after one round from `t`. -/
def next (r : Row) (t : EReal) : EReal := (r.refine t)^[3] (r.newton t (mom1 r.y t) (mom2 r.y t))

/-- How far the second moment is from one at `new`, beyond what rounding may explain. -/
def over (r : Row) (t new : EReal) : EReal :=
  max (mom2 r.y new * r.c2 - Ideal.ofBits .f32 0x3F800000#32) (-(mom2 r.y new * r.c2 - Ideal.ofBits .f32 0x3F800000#32))
    - (Ideal.ofBits .f32 0x37800000#32
      + Ideal.ofBits .f32 0x34800000#32 * max (max new (-new)) (max r.m (-r.m)) * mom1 r.y t * r.c2)

end Row

/-- One round of a group of rows: as long as some row is beyond its tolerance all move. -/
def groupRound {G : Type} [Fintype G] (rs : G → Row) (s : EReal × (G → EReal)) : EReal × (G → EReal) :=
  if 0 < s.1 then (Finset.univ.sup fun g => (rs g).over (s.2 g) ((rs g).next (s.2 g)), fun g => (rs g).next (s.2 g)) else s

/-- The thresholds of a group: six Newton steps on the maxima, then at most six rounds. -/
def roots {G : Type} [Fintype G] (rs : G → Row) : G → EReal :=
  ((groupRound rs)^[6] (Ideal.ofBits .f32 0x3F800000#32, fun g => (rs g).poolStep^[6] (rs g).lo)).2

/-! ### Multiplying by a positive real -/

section Scale

variable {q : ℝ} (hq : 0 < q)

include hq

theorem q_pos : (0 : EReal) < (q : EReal) := by exact_mod_cast hq

theorem q_add (x y : EReal) : (q : EReal) * (x + y) = q * x + q * y :=
  EReal.left_distrib_of_nonneg_of_ne_top (q_pos hq).le (EReal.coe_ne_top q) x y

theorem q_neg (x : EReal) : (q : EReal) * (-x) = -(q * x) := by rw [mul_neg]

theorem q_sub (x y : EReal) : (q : EReal) * (x - y) = q * x - q * y := by
  rw [sub_eq_add_neg, sub_eq_add_neg, q_add hq, mul_neg]

theorem q_mono : Monotone fun x : EReal => (q : EReal) * x := fun _ _ h => mul_le_mul_of_nonneg_left h (q_pos hq).le

theorem q_max (x y : EReal) : (q : EReal) * max x y = max (q * x) (q * y) := (q_mono hq).map_max

theorem q_min (x y : EReal) : (q : EReal) * min x y = min (q * x) (q * y) := (q_mono hq).map_min

theorem q_sum {κ : Type} (s : Finset κ) (f : κ → EReal) : (q : EReal) * ∑ k ∈ s, f k = ∑ k ∈ s, (q : EReal) * f k := by
  classical
  induction s using Finset.induction_on with
  | empty => simp
  | insert a s ha ih => rw [Finset.sum_insert ha, Finset.sum_insert ha, q_add hq, ih]

theorem q_bot : (q : EReal) * ⊥ = ⊥ := EReal.coe_mul_bot_of_pos hq

theorem q_sup {κ : Type} (s : Finset κ) (f : κ → EReal) : (q : EReal) * s.sup f = s.sup fun k => (q : EReal) * f k := by
  classical
  induction s using Finset.induction_on with
  | empty => simpa using q_bot hq
  | insert a s ha ih => rw [Finset.sup_insert, Finset.sup_insert, ← ih]; exact q_max hq _ _

theorem q_gt (x : EReal) : 0 < (q : EReal) * x ↔ 0 < x := by
  have hinv : ((q⁻¹ : ℝ) : EReal) * (q : EReal) = 1 := by
    rw [← EReal.coe_mul, inv_mul_cancel₀ hq.ne']; rfl
  constructor
  · intro h
    by_contra hx
    have := q_mono hq (not_lt.mp hx)
    simp only [mul_zero] at this
    exact absurd h (not_lt.mpr this)
  · intro h
    by_contra hx
    have := q_mono (inv_pos.mpr hq) (not_lt.mp hx)
    simp only [mul_zero, ← mul_assoc, hinv, one_mul] at this
    exact absurd h (not_lt.mpr this)

theorem q_sqrt (x : EReal) : Ideal.sqrt ((q : EReal) * (q : EReal) * x) = q * Ideal.sqrt x := by
  induction x using EReal.rec with
  | bot => rw [mul_assoc, q_bot hq, q_bot hq, Ideal.sqrt_bot, q_bot hq]
  | top => rw [mul_assoc, EReal.coe_mul_top_of_pos hq, EReal.coe_mul_top_of_pos hq, Ideal.sqrt_top, EReal.coe_mul_top_of_pos hq]
  | coe x =>
    rw [← EReal.coe_mul, ← EReal.coe_mul, Ideal.sqrt_coe, Ideal.sqrt_coe]
    have hqq : 0 < q * q := mul_pos hq hq
    by_cases hx : x < 0
    · rw [if_pos hx, if_pos (mul_neg_of_pos_of_neg hqq hx), q_bot hq]
    · rw [if_neg hx, if_neg (not_lt.mpr (mul_nonneg hqq.le (not_lt.mp hx))), Real.sqrt_mul hqq.le, Real.sqrt_mul_self hq.le,
        EReal.coe_mul]

theorem q_inv (y : EReal) : ((q : EReal) * y)⁻¹ = ((q⁻¹ : ℝ) : EReal) * y⁻¹ := by
  rw [EReal.mul_inv, EReal.coe_inv]

theorem q_qinv : (q : EReal) * ((q⁻¹ : ℝ) : EReal) = 1 := by
  rw [← EReal.coe_mul, mul_inv_cancel₀ hq.ne']; rfl

theorem q_div (x : EReal) {y : EReal} (hy : 0 < y) : Ideal.div ((q : EReal) * x) ((q : EReal) * y) = Ideal.div x y := by
  unfold Ideal.div
  rw [if_neg hy.ne', if_neg ((q_gt hq y).mpr hy).ne', q_inv hq, mul_mul_mul_comm, mul_comm x, mul_comm ((q : EReal) * _),
    q_qinv hq, mul_one, mul_comm]

theorem q_div_left (x : EReal) {y : EReal} (hy : 0 < y) : Ideal.div ((q : EReal) * x) y = q * Ideal.div x y := by
  unfold Ideal.div
  rw [if_neg hy.ne', if_neg hy.ne', mul_assoc]

theorem q_div2 (x : EReal) {y : EReal} (hy : 0 < y) : Ideal.div ((q : EReal) * ((q : EReal) * x)) ((q : EReal) * y) = q * Ideal.div x y := by
  rw [q_div hq _ hy, q_div_left hq _ hy]

/-- Moments scale with the row. -/
theorem q_mom1 {κ : Type} [Fintype κ] (f : κ → EReal) (t : EReal) : mom1 (fun k => (q : EReal) * f k) (q * t) = q * mom1 f t := by
  unfold mom1
  rw [q_sum hq]
  refine Finset.sum_congr rfl fun k _ => ?_
  rw [q_max hq, q_sub hq, mul_zero]

theorem q_mom2 {κ : Type} [Fintype κ] (f : κ → EReal) (t : EReal) : mom2 (fun k => (q : EReal) * f k) (q * t) = q * q * mom2 f t := by
  unfold mom2
  rw [mul_assoc, q_sum hq, q_sum hq]
  refine Finset.sum_congr rfl fun k _ => ?_
  have e : max ((q : EReal) * f k - q * t) 0 = q * max (f k - t) 0 := by rw [q_max hq, q_sub hq, mul_zero]
  rw [e]
  ac_rfl

end Scale

/-- `z` is `r` multiplied by `q`. -/
structure Row.IsScaled (q : ℝ) (r z : Row) : Prop where
  pos : 0 < q
  y : z.y = fun k => (q : EReal) * r.y k
  p : z.p = fun k => (q : EReal) * r.p k
  a : z.a = q * r.a
  b : z.b = q * r.b
  b_pos : 0 < r.b
  lo : z.lo = q * r.lo
  hi : z.hi = q * r.hi
  m : z.m = q * r.m
  c2 : r.c2 = q * q * z.c2

namespace Row.IsScaled

variable {q : ℝ} {r z : Row} (h : Row.IsScaled q r z)
include h

theorem newton (t s1 s2 : EReal) : z.newton (q * t) (q * s1) (q * q * s2) = q * r.newton t s1 s2 := by
  have hq := h.pos
  unfold Row.newton
  rw [h.lo, h.hi, h.a, h.b, q_sqrt hq, ← q_sub hq, q_min hq, q_max hq, q_add hq]
  congr 3
  have hd : (if 0 < (q : EReal) * s1 then (q : EReal) * s1 else q * r.b) = q * (if 0 < s1 then s1 else r.b) := by
    by_cases hs : 0 < s1
    · rw [if_pos hs, if_pos ((q_gt hq _).mpr hs)]
    · rw [if_neg hs, if_neg (fun h' => hs ((q_gt hq _).mp h'))]
  have hpos : 0 < (if 0 < s1 then s1 else r.b) := by
    by_cases hs : 0 < s1
    · rw [if_pos hs]; exact hs
    · rw [if_neg hs]; exact h.b_pos
  rw [hd, ← q_div2 hq _ hpos]
  congr 1
  ac_rfl

theorem poolStep (t : EReal) : z.poolStep (q * t) = q * r.poolStep t := by
  unfold Row.poolStep
  rw [h.p, q_mom1 h.pos, q_mom2 h.pos, h.newton]

theorem mg (t : EReal) : z.mg (q * t) = q * r.mg t := by
  have hq := h.pos
  unfold Row.mg
  rw [h.y, h.p, q_mom2 hq, q_mom2 hq, ← q_sqrt hq, mul_assoc, mul_assoc, mul_assoc, q_max hq, q_max hq, q_sub hq, q_sub hq, mul_zero, mul_zero]

theorem md (t : EReal) : z.md (q * t) = r.md t := by
  have hq := h.pos
  unfold Row.md
  rw [h.mg]
  by_cases hs : 0 < r.mg t
  · rw [if_pos hs, if_pos ((q_gt hq _).mpr hs), h.y, h.p, q_mom1 hq, q_mom1 hq, ← q_div hq _ hs, q_max hq, q_sub hq, mul_zero]
  · rw [if_neg hs, if_neg (fun h' => hs ((q_gt hq _).mp h'))]

theorem rest (t new : EReal) : z.rest (q * t) (q * new) = q * r.rest t new := by
  have hq := h.pos
  unfold Row.rest
  rw [h.mg, h.md, q_max hq, q_sub hq, mul_zero, ← mul_assoc, q_sub hq]

theorem refine (t new : EReal) : z.refine (q * t) (q * new) = q * r.refine t new := by
  have hq := h.pos
  unfold Row.refine
  have e1 : ∀ u v w : EReal, (q : EReal) * u + q * v * w = q * (u + v * w) := fun u v w => by rw [q_add hq, mul_assoc]
  have e2 : ∀ u v : EReal, (q : EReal) * q * u + q * v * (q * v) = q * q * (u + v * v) := fun u v => by
    rw [mul_assoc, mul_assoc (q : EReal) q (u + v * v), q_add hq, q_add hq, mul_assoc, mul_left_comm v]
  rw [h.rest, h.md, h.p, q_mom1 hq, q_mom2 hq, e1, e2, h.newton]

theorem next (t : EReal) : z.next (q * t) = q * r.next t := by
  have hq := h.pos
  unfold Row.next
  have e : ∀ n x, (z.refine (q * t))^[n] (q * x) = q * (r.refine t)^[n] x := by
    intro n
    induction n with
    | zero => intro x; rfl
    | succ n ih => intro x; rw [Function.iterate_succ_apply, Function.iterate_succ_apply, h.refine, ih]
  rw [← e, h.y, q_mom1 hq, q_mom2 hq, h.newton]

theorem poolIter (n : ℕ) (x : EReal) : z.poolStep^[n] (q * x) = q * r.poolStep^[n] x := by
  induction n generalizing x with
  | zero => rfl
  | succ n ih => rw [Function.iterate_succ_apply, Function.iterate_succ_apply, h.poolStep, ih]

theorem over (t new : EReal) : z.over (q * t) (q * new) = r.over t new := by
  have hq := h.pos
  unfold Row.over
  have e1 : mom2 z.y (q * new) * z.c2 = mom2 r.y new * r.c2 := by
    rw [h.y, q_mom2 hq, h.c2, mul_comm ((q : EReal) * q), mul_assoc]
  have e2 : max (max ((q : EReal) * new) (-(q * new))) (max z.m (-z.m)) = q * max (max new (-new)) (max r.m (-r.m)) := by
    rw [h.m, q_max hq, q_max hq, q_max hq, q_neg hq, q_neg hq]
  have e3 : ∀ A M f c : EReal, A * ((q : EReal) * M) * (q * f) * c = A * M * f * (q * q * c) := fun A M f c => by
    rw [mul_left_comm A, mul_assoc (q : EReal), mul_left_comm (A * M), ← mul_assoc (q : EReal), mul_comm ((q : EReal) * q), mul_assoc]
  rw [e1, e2, h.y, q_mom1 hq, e3, ← h.c2]

end Row.IsScaled

/-- The thresholds of a group of scaled rows are the scaled thresholds. -/
theorem roots_scaled {G : Type} [Fintype G] {q : G → ℝ} {rs zs : G → Row} (h : ∀ g, Row.IsScaled (q g) (rs g) (zs g)) (g : G) :
    roots zs g = (q g : EReal) * roots rs g := by
  have step : ∀ s : EReal × (G → EReal), groupRound zs (s.1, fun g => (q g : EReal) * s.2 g)
      = ((groupRound rs s).1, fun g => (q g : EReal) * (groupRound rs s).2 g) := by
    intro s
    unfold groupRound
    by_cases hs : 0 < s.1
    · simp only [if_pos hs, (h _).next, (h _).over]
    · simp only [if_neg hs]
  have it : ∀ n (s : EReal × (G → EReal)), (groupRound zs)^[n] (s.1, fun g => (q g : EReal) * s.2 g)
      = (((groupRound rs)^[n] s).1, fun g => (q g : EReal) * ((groupRound rs)^[n] s).2 g) := by
    intro n
    induction n with
    | zero => intro s; rfl
    | succ n ih => intro s; rw [Function.iterate_succ_apply, Function.iterate_succ_apply, step, ih]
  unfold roots
  have e : (fun g => (zs g).poolStep^[6] (zs g).lo) = fun g => (q g : EReal) * (rs g).poolStep^[6] (rs g).lo := by
    funext g; rw [(h g).lo, (h g).poolIter]
  rw [e]
  exact congrFun (congrArg Prod.snd (it 6 (Ideal.ofBits .f32 0x3F800000#32, fun g => (rs g).poolStep^[6] (rs g).lo))) g

/-- What a row gives for one column of `v`: the sum over the keys of `v` times the weight. -/
def mix (r : Row) (t : EReal) (vs v : Fin 6144 → EReal) : EReal :=
  ∑ k, v k * (max (r.y k - t) 0 * max (r.y k - t) 0 * vs k)

/-- The mix of a scaled row. -/
theorem mix_scaled {q : ℝ} {r z : Row} (h : Row.IsScaled q r z) (t : EReal) (vs v : Fin 6144 → EReal) :
    mix z (q * t) vs v = mix r t vs v * (q * q) := by
  have hq := h.pos
  unfold mix
  rw [mul_comm (∑ k, _), mul_assoc, q_sum hq, q_sum hq]
  refine Finset.sum_congr rfl fun k _ => ?_
  have e : max (z.y k - q * t) 0 = q * max (r.y k - t) 0 := by rw [h.y, q_max hq, q_sub hq, mul_zero]
  rw [e]
  ac_rfl

end Entmax

end
-- ==== Proof.Sums.lean ====
/-
  Moments of the 512 rows of a grid point, as the kernel forms them: eight running sums per lane, one for each place in a
  tile, added up at the end. Here the rows (`Blk.row`) and the result of a grid point (`Blk.out`) are stated too, and the
  rules that follow loads of scores and maxima that are already there.
-/
module

public import proofs.«01_k».proof.Proof.Scores
public import proofs.«01_k».proof.Proof.Rows

@[expose] public section

noncomputable section

namespace Entmax

open Idealize.ShloMosaic Idealize.ShloMosaic.TcCoe

namespace Blk

variable (B : Blk)

/-- The slope that stands for one in the scores without the scale of the row. -/
def inv (l : ℕ) : EReal := Ideal.div (Ideal.ofBits .f32 0x3F800000#32) (B.qs l)

/-- How many keys a row sees. -/
def vis (l : ℕ) : EReal := (((128 * B.tq + l % 128 + 1 : ℕ) : ℝ) : EReal)

/-- Row `l` of the grid point. -/
def row (l : Fin 512) : Row where
  y k := B.Y k.val l.val
  p j := B.P j.val l.val
  a := B.inv l.val
  b := Ideal.ofBits .f32 0x3F800000#32
  lo := B.M l.val - B.inv l.val
  hi := B.M l.val - B.inv l.val * Ideal.rsqrt (B.vis l.val)
  m := B.M l.val
  c2 := B.qs l.val * B.qs l.val

/-- The values weighed at the thresholds `t`. -/
def out (t : Fin 512 → EReal) (d : ℕ) (l : Fin 512) : EReal :=
  mix (B.row l) (t l) (fun k => B.vs k.val) (fun k => B.vt d k.val)

end Blk

/-- What is above a threshold. -/
def one (f : ℕ → ℕ → EReal) (t : Fin 512 → EReal) (k : ℕ) (l : Fin 512) : EReal := max (f k l.val - t l) 0

/-- Its square. -/
def two (f : ℕ → ℕ → EReal) (t : Fin 512 → EReal) (k : ℕ) (l : Fin 512) : EReal := max (f k l.val - t l) 0 * max (f k l.val - t l) 0

theorem sum_blocks (F : ℕ → EReal) (n : ℕ) : ∑ a ∈ Finset.range 8, ∑ j ∈ Finset.range n, F (8 * j + a) = ∑ k ∈ Finset.range (8 * n), F k := by
  rw [Finset.sum_comm]
  induction n with
  | zero => rfl
  | succ n ih => rw [Finset.sum_range_succ, ih, Nat.mul_succ, Finset.sum_range_add]

theorem sum_to (F : ℕ → EReal) (n N : ℕ) (hn : n ≤ N) (h : ∀ k, n ≤ k → F k = 0) : ∑ k ∈ Finset.range n, F k = ∑ k : Fin N, F k.val := by
  rw [Finset.sum_range fun k => F k]
  rw [← Finset.sum_range (n := n) F, ← Finset.sum_range (n := N) F]
  exact Finset.sum_subset (Finset.range_mono hn) fun k _ hk => h k (not_lt.mp fun hlt => hk (Finset.mem_range.mpr hlt))

end Entmax

namespace Entmax.KernelIdeal

open Idealize.ShloMosaic Idealize.ShloMosaic.TcCoe Cert.KernelIdeal
open Idealize.SL.Sem

/-- A running sum of tiles, lane by lane and place by place. -/
def IsSum (F : ℕ → Fin 512 → EReal) (n : ℕ) (A : FVec Ideal S8x512 .f32) : Prop :=
  ∀ x : S8x512.Idx, A x = ∑ j ∈ Finset.range n, F (8 * j + (x 0).val) (x 1)

/-- A vector of 512 lanes. -/
def IsRow (t : Fin 512 → EReal) (T : FVec Ideal S1x512 .f32) : Prop := ∀ x : S1x512.Idx, T x = t (x 1)

theorem isSum_zero {F : ℕ → Fin 512 → EReal} : IsSum F 0 (broadcast S8x512 (Scalar.ofBits (F := Ideal) .f32 0x00000000#32)) := fun x => by
  rw [Finset.range_zero, Finset.sum_empty]
  exact Ideal.ofBits_zero_f32

theorem above_val {f : ℕ → ℕ → EReal} {t : Fin 512 → EReal} {v : FVec Ideal S8x512 .f32} {T : FVec Ideal S1x512 .f32} {o n : ℕ} {hb}
    (hT : IsRow t T) (hv : ∀ x, v x = f (o + (x 0).val) (x 1).val) (ho : o = 8 * n) (x : S8x512.Idx) :
    maximumf (F := Ideal) (φ := .f32) (subf v (broadcastTo S8x512 T hb)) (broadcast S8x512 (Scalar.ofBits (F := Ideal) .f32 0x00000000#32)) x = one f t (8 * n + (x 0).val) (x 1) := by
  show max (v x - T _) (Ideal.ofBits .f32 0x00000000#32) = _
  rw [Ideal.ofBits_zero_f32, hv x, hT, ho]
  rfl

theorem isSum_one {f : ℕ → ℕ → EReal} {t : Fin 512 → EReal} {M v : FVec Ideal S8x512 .f32} {T : FVec Ideal S1x512 .f32} {o n : ℕ} {hb}
    (hT : IsRow t T) (hM : IsSum (one f t) n M) (hv : ∀ x, v x = f (o + (x 0).val) (x 1).val) (ho : o = 8 * n) :
    IsSum (one f t) (n + 1) (addf (F := Ideal) (φ := .f32) M
      (maximumf (F := Ideal) (φ := .f32) (subf v (broadcastTo S8x512 T hb)) (broadcast S8x512 (Scalar.ofBits (F := Ideal) .f32 0x00000000#32)))) := fun x => by
  rw [Finset.sum_range_succ, ← hM x, ← above_val (hb := hb) hT hv ho x]
  rfl

theorem isSum_two {f : ℕ → ℕ → EReal} {t : Fin 512 → EReal} {M v : FVec Ideal S8x512 .f32} {T : FVec Ideal S1x512 .f32} {o n : ℕ} {hb}
    (hT : IsRow t T) (hM : IsSum (two f t) n M) (hv : ∀ x, v x = f (o + (x 0).val) (x 1).val) (ho : o = 8 * n) :
    IsSum (two f t) (n + 1) (addf (F := Ideal) (φ := .f32) M
      (mulf (F := Ideal) (φ := .f32) (maximumf (F := Ideal) (φ := .f32) (subf v (broadcastTo S8x512 T hb)) (broadcast S8x512 (Scalar.ofBits (F := Ideal) .f32 0x00000000#32)))
        (maximumf (F := Ideal) (φ := .f32) (subf v (broadcastTo S8x512 T hb)) (broadcast S8x512 (Scalar.ofBits (F := Ideal) .f32 0x00000000#32))))) := fun x => by
  have e := above_val (hb := hb) hT hv ho x
  rw [Finset.sum_range_succ, ← hM x]
  show M x + _ * _ = M x + _
  rw [e]
  rfl

/-- A lane's vector made of a vector over the lanes alone. -/
theorem cast_row {W : FVec Ideal S512 .f32} {h : S512.ShapeCasts S1x512} (x : S1x512.Idx) :
    shapeCast S1x512 W h x = W (ValueIdx.ix1 (x 1)) := by
  have h0 : (x 0).val < 1 := (x 0).isLt
  refine shapeCast_apply _ h x _ ?_
  rw [Shape.rowMajor_val_two, Shape.rowMajor_val_one]
  show (x 1).val = (x 0).val * 512 + (x 1).val
  omega

/-- The eight places of a tile added up. -/
theorem isSum_total {F : ℕ → Fin 512 → EReal} {t : Fin 512 → EReal} {n N : ℕ} {M : FVec Ideal S8x512 .f32} (hM : IsSum F n M) (hN : 8 * n ≤ N) (h0 : ∀ k l, 8 * n ≤ k → F k l = 0) {hr hc} :
    IsRow (fun l => ∑ k : Fin N, F k.val l)
      (shapeCast S1x512 (multiReduction (F := Ideal) (φ := .f32) .add [0] S512 M 0x00000000#32 hr (.inl rfl) rfl) hc) := fun x => by
  rw [cast_row]
  show Ideal.reduceAdd hr M _ = ∑ k : Fin N, F k.val (x 1)
  unfold Ideal.reduceAdd
  rw [Shape.Reduces.sum_filter_drop_single hr]
  rw [← sum_to (fun k => F k (x 1)) (8 * n) N hN fun k hk => h0 k _ hk]
  rw [← sum_blocks (fun k => F k (x 1)) n]
  rw [Finset.sum_range fun a => ∑ j ∈ Finset.range n, F (8 * j + a) (x 1)]
  refine Finset.sum_congr rfl fun a _ => ?_
  exact hM _

variable {c : Dev nD} {ms : Mems sig} {bd : Option ℕ} {α β : Type} {I : St Ideal → Prop}

/-- A load of rows `o …` of the scores. -/
theorem RunI.load_y {B : Blk} {n o : ℕ} (hI : ∀ σ, I σ → Sc B n σ) {off : Fin 2 → ℕ} (hoff : off = ![o, 0]) (ho : o + 8 ≤ 512 * n)
    {inb : ∀ a, off a + S8x512.size a ≤ S6144x512.size a} {hl : (ms .y).view.LoadsAt (Rect.unit (s := S6144x512) off S8x512.size inb).toLoadRect}
    {k : (S8x512.Idx → EReal) → Prog (TpuEff nD τ sig (Elt Ideal) (Λ₀ Ideal) .tc) β} {Q : β → St Ideal → Prop}
    (h : ∀ v : S8x512.Idx → EReal, (∀ x, v x = B.Y (o + (x 0).val) (x 1).val) → RunI c ms bd I (k v) Q) :
    RunI c ms bd I (Prog.lift (.load (ms .y) (Rect.unit (s := S6144x512) off S8x512.size inb).toLoadRect hl) >>= k) Q := by
  intro σ hσ
  refine .load .y (h _ (fun x => ?_) σ hσ)
  have h0 : (x 0).val < 8 := (x 0).isLt
  subst hoff
  have e0 := unit_idx (s := S6144x512) ![o, 0] S8x512.size inb x 0
  have e1 := unit_idx (s := S6144x512) ![o, 0] S8x512.size inb x 1
  rw [(hI σ hσ).y _ (by rw [e0]; show o + (x 0).val < _; omega), e0, e1]
  show B.Y (o + _) (0 + _) = _
  rw [Nat.zero_add]

/-- A load of rows `o …` of the maxima. -/
theorem RunI.load_p {B : Blk} {n o : ℕ} (hI : ∀ σ, I σ → Sc B n σ) {off : Fin 2 → ℕ} (hoff : off = ![o, 0]) (ho : o + 8 ≤ 32 * n)
    {inb : ∀ a, off a + S8x512.size a ≤ S384x512.size a} {hl : (ms .p).view.LoadsAt (Rect.unit (s := S384x512) off S8x512.size inb).toLoadRect}
    {k : (S8x512.Idx → EReal) → Prog (TpuEff nD τ sig (Elt Ideal) (Λ₀ Ideal) .tc) β} {Q : β → St Ideal → Prop}
    (h : ∀ v : S8x512.Idx → EReal, (∀ x, v x = B.P (o + (x 0).val) (x 1).val) → RunI c ms bd I (k v) Q) :
    RunI c ms bd I (Prog.lift (.load (ms .p) (Rect.unit (s := S384x512) off S8x512.size inb).toLoadRect hl) >>= k) Q := by
  intro σ hσ
  refine .load .p (h _ (fun x => ?_) σ hσ)
  have h0 : (x 0).val < 8 := (x 0).isLt
  subst hoff
  have e0 := unit_idx (s := S384x512) ![o, 0] S8x512.size inb x 0
  have e1 := unit_idx (s := S384x512) ![o, 0] S8x512.size inb x 1
  rw [(hI σ hσ).p _ (by rw [e0]; show o + (x 0).val < _; omega), e0, e1]
  show B.P (o + _) (0 + _) = _
  rw [Nat.zero_add]

/-- A counted loop that leaves the state as it was. -/
theorem RunI.bind_calc {n : ℕ} {l : Scf.Loop n} {hok : l.OK} {init : α} {body : Fin l.trips → α → Prog (TpuEff nD τ sig (Elt Ideal) (Λ₀ Ideal) .tc) α}
    {k : α → Prog (TpuEff nD τ sig (Elt Ideal) (Λ₀ Ideal) .tc) β} {Q : β → St Ideal → Prop} (J : ℕ → α → Prop)
    (h0 : J 0 init) (hb : ∀ (t : Fin l.trips) (a : α), J t.val a → RunI c ms bd I (body t a) fun a' σ => J (t.val + 1) a' ∧ I σ)
    (hk : ∀ a, J l.trips a → RunI c ms bd I (k a) Q) : RunI c ms bd I (Scf.Loop.for l hok init body >>= k) Q :=
  fun σ hσ => Run.bind (Run.loop (fun t a σ' => J t a ∧ I σ') ⟨h0, hσ⟩ (fun t a σ' h => hb t a h.1 σ' h.2) fun a σ' h => h) fun a σ' h => hk a h.1 σ' h.2

/-- Beyond the diagonal chunk nothing counts. -/
theorem Y_beyond {B : Blk} {i : grid0.Coords} (hB : B.tq = tq i) {k : ℕ} (l : ℕ) (hk : 512 * (ch i + 1) ≤ k) : B.Y k l = ⊥ := by
  have := Nat.mod_lt l (show 128 > 0 by decide)
  unfold Blk.Y
  rw [if_neg]
  rw [hB]
  unfold ch at hk
  omega

theorem P_beyond {B : Blk} {i : grid0.Coords} (hB : B.tq = tq i) {j : ℕ} (l : ℕ) (hj : 32 * (ch i + 1) ≤ j) : B.P j l = ⊥ := by
  unfold Blk.P
  rw [runMax_eq, Finset.sup_eq_bot_iff]
  intro n hn
  exact Y_beyond hB l (by omega)

theorem one_bot {f : ℕ → ℕ → EReal} {t : Fin 512 → EReal} {k : ℕ} {l : Fin 512} (h : f k l.val = ⊥) : one f t k l = 0 := by
  unfold one; rw [h, EReal.bot_sub, max_eq_right bot_le]

theorem two_bot {f : ℕ → ℕ → EReal} {t : Fin 512 → EReal} {k : ℕ} {l : Fin 512} (h : f k l.val = ⊥) : two f t k l = 0 := by
  unfold two; rw [h, EReal.bot_sub, max_eq_right bot_le, mul_zero]

end Entmax.KernelIdeal
end
-- ==== Proof.Moments.lean ====
/-
  The arithmetic of a Newton step on all 512 lanes at once.
-/
module

public import proofs.«01_k».proof.Proof.Sums

@[expose] public section

noncomputable section

namespace Entmax.KernelIdeal

open Idealize.ShloMosaic Idealize.ShloMosaic.TcCoe Cert.KernelIdeal

/-- The lane vectors that stay the same through the root finding. -/
structure Vecs (B : Blk) (v28 v2600 v2603 v33 v2576 : FVec Ideal S1x512 .f32) : Prop where
  a : IsRow (fun l => (B.row l).a) v28
  lo : IsRow (fun l => (B.row l).lo) v2600
  hi : IsRow (fun l => (B.row l).hi) v2603
  c2 : IsRow (fun l => (B.row l).c2) v33
  m : IsRow (fun l => (B.row l).m) v2576

theorem select_ogt {α : Type} (x y : EReal) (a b : α) : Scalar.select (BitVec.ofBool (decide (y < x))) a b = if y < x then a else b := by
  by_cases h : y < x
  · rw [if_pos h, decide_eq_true h]; rfl
  · rw [if_neg h, decide_eq_false h]; rfl

/-- What a Newton step divides. -/
theorem num_row {B : Blk} {s2 : Fin 512 → EReal} {v28 S2 : FVec Ideal S1x512 .f32} (ha : IsRow (fun l => (B.row l).a) v28) (h2 : IsRow s2 S2) :
    IsRow (fun l => (Ideal.sqrt (s2 l) - (B.row l).a) * Ideal.sqrt (s2 l)) (mulf (F := Ideal) (φ := .f32) (subf (sqrt S2) v28) (sqrt S2)) := fun x => by
  show (Ideal.sqrt (S2 x) - v28 x) * Ideal.sqrt (S2 x) = _
  rw [h2 x, ha x]

/-- A Newton step. -/
theorem newton_row {B : Blk} {t s1 s2 : Fin 512 → EReal} {lo hi T S1 N : FVec Ideal S1x512 .f32} (hlo : IsRow (fun l => (B.row l).lo) lo)
    (hhi : IsRow (fun l => (B.row l).hi) hi) (hT : IsRow t T) (h1 : IsRow s1 S1) (hN : IsRow (fun l => (Ideal.sqrt (s2 l) - (B.row l).a) * Ideal.sqrt (s2 l)) N) :
    IsRow (fun l => (B.row l).newton (t l) (s1 l) (s2 l))
      (minimumf (F := Ideal) (φ := .f32) hi (maximumf (F := Ideal) (φ := .f32) lo (addf (F := Ideal) (φ := .f32) T (divf (F := Ideal) (φ := .f32) N
        (select (cmpf .ogt S1 (broadcast S1x512 (Scalar.ofBits (F := Ideal) .f32 0x00000000#32))) S1 (broadcast S1x512 (Scalar.ofBits (F := Ideal) .f32 0x3F800000#32))))))) := fun x => by
  show min (hi x) (max (lo x) (T x + Ideal.div (N x) (Scalar.select (BitVec.ofBool (decide (Ideal.ofBits .f32 0x00000000#32 < S1 x))) (S1 x) (Ideal.ofBits .f32 0x3F800000#32)))) = _
  rw [select_ogt, Ideal.ofBits_zero_f32, hhi x, hlo x, hT x, h1 x, hN x]
  rfl

/-- The root of what the maxima leave out of the second moment. -/
theorem mg_row {B : Blk} {t : Fin 512 → EReal} {F2 P2 : FVec Ideal S1x512 .f32} (h2 : IsRow (fun l => mom2 (B.row l).y (t l)) F2) (hp : IsRow (fun l => mom2 (B.row l).p (t l)) P2) :
    IsRow (fun l => (B.row l).mg (t l)) (sqrt (F := Ideal) (φ := .f32) (maximumf (subf F2 P2) (broadcast S1x512 (Scalar.ofBits (F := Ideal) .f32 0x00000000#32)))) := fun x => by
  show Ideal.sqrt (max (F2 x - P2 x) (Ideal.ofBits .f32 0x00000000#32)) = _
  rw [h2 x, hp x, Ideal.ofBits_zero_f32]; rfl

/-- How fast that changes. -/
theorem md_row {B : Blk} {t : Fin 512 → EReal} {F1 P1 G : FVec Ideal S1x512 .f32} (h1 : IsRow (fun l => mom1 (B.row l).y (t l)) F1) (hp : IsRow (fun l => mom1 (B.row l).p (t l)) P1)
    (hg : IsRow (fun l => (B.row l).mg (t l)) G) :
    IsRow (fun l => (B.row l).md (t l)) (select (cmpf (F := Ideal) (φ := .f32) .ogt G (broadcast S1x512 (Scalar.ofBits (F := Ideal) .f32 0x00000000#32)))
      (divf (F := Ideal) (φ := .f32) (maximumf (subf F1 P1) (broadcast S1x512 (Scalar.ofBits (F := Ideal) .f32 0x00000000#32)))
        (select (cmpf (F := Ideal) (φ := .f32) .ogt G (broadcast S1x512 (Scalar.ofBits (F := Ideal) .f32 0x00000000#32))) G (broadcast S1x512 (Scalar.ofBits (F := Ideal) .f32 0x3F800000#32))))
      (broadcast S1x512 (Scalar.ofBits (F := Ideal) .f32 0x00000000#32))) := fun x => by
  show Scalar.select (BitVec.ofBool (decide (Ideal.ofBits .f32 0x00000000#32 < G x)))
    (Ideal.div (max (F1 x - P1 x) (Ideal.ofBits .f32 0x00000000#32)) (Scalar.select (BitVec.ofBool (decide (Ideal.ofBits .f32 0x00000000#32 < G x))) (G x) (Ideal.ofBits .f32 0x3F800000#32)))
    (Ideal.ofBits .f32 0x00000000#32) = _
  rw [select_ogt, select_ogt, Ideal.ofBits_zero_f32, h1 x, hp x, hg x]
  by_cases h : 0 < (B.row (x 1)).mg (t (x 1))
  · rw [if_pos h, if_pos h]; exact (if_pos h).symm
  · rw [if_neg h]; exact (if_neg h).symm

/-- What is left out at the new threshold, as predicted. -/
theorem rest_row {B : Blk} {t u : Fin 512 → EReal} {T U G D : FVec Ideal S1x512 .f32} (hT : IsRow t T) (hU : IsRow u U)
    (hg : IsRow (fun l => (B.row l).mg (t l)) G) (hd : IsRow (fun l => (B.row l).md (t l)) D) :
    IsRow (fun l => (B.row l).rest (t l) (u l)) (maximumf (F := Ideal) (φ := .f32) (subf G (mulf (subf U T) D)) (broadcast S1x512 (Scalar.ofBits (F := Ideal) .f32 0x00000000#32))) := fun x => by
  show max (G x - (U x - T x) * D x) (Ideal.ofBits .f32 0x00000000#32) = _
  rw [hT x, hU x, hg x, hd x, Ideal.ofBits_zero_f32]; rfl

theorem add_row {f g : Fin 512 → EReal} {A C : FVec Ideal S1x512 .f32} (hA : IsRow f A) (hC : IsRow g C) : IsRow (fun l => f l + g l) (addf (F := Ideal) (φ := .f32) A C) := fun x => by
  show A x + C x = _
  rw [hA x, hC x]

theorem mul_row {f g : Fin 512 → EReal} {A C : FVec Ideal S1x512 .f32} (hA : IsRow f A) (hC : IsRow g C) : IsRow (fun l => f l * g l) (mulf (F := Ideal) (φ := .f32) A C) := fun x => by
  show A x * C x = _
  rw [hA x, hC x]

/-- How far a row is beyond its tolerance. -/
theorem over_row {B : Blk} {t u : Fin 512 → EReal} {U S F1 C2 m : FVec Ideal S1x512 .f32} (hU : IsRow u U) (hS : IsRow (fun l => mom2 (B.row l).y (u l)) S)
    (h1 : IsRow (fun l => mom1 (B.row l).y (t l)) F1) (hc : IsRow (fun l => (B.row l).c2) C2) (hm : IsRow (fun l => (B.row l).m) m) :
    IsRow (fun l => (B.row l).over (t l) (u l))
      (subf (F := Ideal) (φ := .f32) (absf (subf (mulf S C2) (broadcast S1x512 (Scalar.ofBits (F := Ideal) .f32 0x3F800000#32))))
        (addf (broadcast S1x512 (Scalar.ofBits (F := Ideal) .f32 0x37800000#32))
          (mulf (mulf (mulf (broadcast S1x512 (Scalar.ofBits (F := Ideal) .f32 0x34800000#32)) (maximumf (absf U) (absf m))) F1) C2))) := fun x => by
  show max (S x * C2 x - Ideal.ofBits .f32 0x3F800000#32) (-(S x * C2 x - Ideal.ofBits .f32 0x3F800000#32))
    - (Ideal.ofBits .f32 0x37800000#32 + Ideal.ofBits .f32 0x34800000#32 * max (max (U x) (-(U x))) (max (m x) (-(m x))) * F1 x * C2 x) = _
  rw [hU x, hS x, h1 x, hc x, hm x]; rfl

/-- The greatest of all lanes. -/
theorem max_lanes {f : Fin 512 → EReal} {A : FVec Ideal S1x512 .f32} (hA : IsRow f A) {h1 hr h2} {hp} :
    extractAt ![0, 0, 0] (shapeCast S1x1x1 (multiReduction (F := Ideal) (φ := .f32) .maximumf [1, 2] S1 (shapeCast S1x1x512 A h1) 0xFF800000#32 hr (.inl rfl) rfl) h2) hp
      = Finset.univ.sup f := by
  have hb : (FloatOps.ofBits (F := Ideal) .f32 0xFF800000#32 : EReal) = ⊥ := by
    show Ideal.ofBits .f32 0xFF800000#32 = ⊥
    simp [Ideal.ofBits, Ideal.ieee]
  show shapeCast S1x1x1 _ h2 _ = _
  rw [shapeCast_apply _ h2 _ (ValueIdx.ix1 (0 : Fin 1)) (by rw [Shape.rowMajor_val_one, Shape.rowMajor_val_three]; rfl)]
  haveI : Std.Commutative (FloatOps.maximumf (F := Ideal) (φ := .f32)) := ⟨fun a b => max_comm a b⟩
  haveI : Std.Associative (FloatOps.maximumf (F := Ideal) (φ := .f32)) := ⟨fun a b c => max_assoc a b c⟩
  rw [(multiReduction_maximumf_eq_fold (F := Ideal) (φ := .f32) (shapeCast S1x1x512 A h1) 0xFF800000#32 hr (.inl rfl) rfl _ :), hb]
  have hall : (Finset.univ.filter fun i => hr.drop i = ValueIdx.ix1 (0 : Fin 1)) = Finset.univ := by
    refine Finset.filter_true_of_mem fun i _ => ?_
    funext a
    apply Fin.ext
    have h1 : (hr.drop i a).val < 1 := by match a with | 0 => exact (hr.drop i 0).isLt
    have h2 : ((ValueIdx.ix1 (0 : Fin 1) : S1.Idx) a).val < 1 := by match a with | 0 => exact (ValueIdx.ix1 (0 : Fin 1) 0).isLt
    omega
  rw [hall]
  show Finset.univ.sup (shapeCast S1x1x512 A h1) = _
  have hv : ∀ x : S1x1x512.Idx, shapeCast S1x1x512 A h1 x = f (x 2) := fun x => by
    have h0 : (x 0).val < 1 := (x 0).isLt
    have h1' : (x 1).val < 1 := (x 1).isLt
    rw [shapeCast_apply _ h1 x (ValueIdx.ix2 (0 : Fin 1) (x 2)) (by
      rw [Shape.rowMajor_val_two, Shape.rowMajor_val_three]
      show 0 * 512 + (x 2).val = ((x 0).val * 1 + (x 1).val) * 512 + (x 2).val
      omega)]
    exact hA _
  apply le_antisymm
  · refine Finset.sup_le fun x _ => ?_
    rw [hv x]
    exact Finset.le_sup (f := f) (Finset.mem_univ _)
  · refine Finset.sup_le fun l _ => ?_
    have := hv (ValueIdx.ix3 (0 : Fin 1) (0 : Fin 1) l)
    calc f l = shapeCast S1x1x512 A h1 (ValueIdx.ix3 (0 : Fin 1) (0 : Fin 1) l) := this.symm
      _ ≤ _ := Finset.le_sup (f := shapeCast S1x1x512 A h1) (Finset.mem_univ _)

end Entmax.KernelIdeal
end
-- ==== Proof.Weigh.lean ====
/-
  The weights of a chunk of keys: the squares of what is above the thresholds, times the scales of the values, sixteen keys
  at a time; and the running sums of these squares.
-/
module

public import proofs.«01_k».proof.Proof.Moments

@[expose] public section

noncomputable section

namespace Entmax

open Idealize.ShloMosaic Idealize.ShloMosaic.TcCoe

/-- The weight of key `k` in row `l` at the thresholds `u`, times the scale of the value. -/
def Blk.wt (B : Blk) (u : Fin 512 → EReal) (k l : ℕ) : EReal := if h : l < 512 then two B.Y u k ⟨l, h⟩ * B.vs k else 0

theorem Blk.wt_fin (B : Blk) (u : Fin 512 → EReal) (k : ℕ) (l : Fin 512) : B.wt u k l.val = two B.Y u k l * B.vs k := dif_pos l.isLt

/-- Two tiles, one below the other. -/
theorem pair_val {α : Type} {A A' : (⟨2, ![8, 512]⟩ : Shape).Idx → α} {G : ℕ → ℕ → α} {r a a' : ℕ}
    (hA : ∀ x, A x = G (a + (x 0).val) (x 1).val) (hA' : ∀ x, A' x = G (a' + (x 0).val) (x 1).val) (ha : a = r) (ha' : a' = r + 8)
    (hc : Shape.Concatenates (([⟨⟨2, ![8, 512]⟩, A⟩, ⟨⟨2, ![8, 512]⟩, A'⟩] : List ((s : Shape) × (s.Idx → α))).map (·.1)) ⟨2, ![16, 512]⟩ 0)
    (x : (⟨2, ![16, 512]⟩ : Shape).Idx) :
    concatenate ⟨2, ![16, 512]⟩ 0 [⟨⟨2, ![8, 512]⟩, A⟩, ⟨⟨2, ![8, 512]⟩, A'⟩] hc x = G (r + (x 0).val) (x 1).val := by
  subst ha ha'
  rw [concatenate_cons_apply]
  simp only [concatenateAt_cons, concatenateAt_singleton, hA, hA']
  split_ifs with h
  · rfl
  · have h' : 8 ≤ (x 0).val := not_lt.mp h
    show G (a + 8 + ((x 0).val - 8)) (x 1).val = _
    congr 1; omega

end Entmax

namespace Entmax.KernelIdeal

open Idealize.ShloMosaic Idealize.ShloMosaic.TcCoe Cert.KernelIdeal
open Idealize.SL.Sem

variable {c : Dev nD} {ms : Mems sig} {bd : Option ℕ} {α β : Type} {I : St Ideal → Prop}

/-- A buffer that holds neither inputs nor scores may change. -/
theorem Sc.put {B : Blk} {n : ℕ} {σ : St Ideal} (h : Sc B n σ) (b : Bf) (hb : b = .w ∨ b = .acc ∨ b = .o ∨ b = .tau)
    (X : (sh b).Idx → Elt Ideal (el b)) : Sc B n (Function.update σ b X) := by
  have hne : ∀ b', b' ≠ .w → b' ≠ .acc → b' ≠ .o → b' ≠ .tau → Function.update σ b X b' = σ b' := fun b' h1 h2 h3 h4 =>
    Function.update_of_ne (by rcases hb with rfl | rfl | rfl | rfl <;> assumption) _ _
  have e : ∀ b' x, b' ≠ .w → b' ≠ .acc → b' ≠ .o → b' ≠ .tau → Function.update σ b X b' x = σ b' x := fun b' x h1 h2 h3 h4 => congrFun (hne b' h1 h2 h3 h4) x
  exact {
    win := ⟨fun x => (e .q x (by decide) (by decide) (by decide) (by decide)).trans (h.win.q x), fun x => (e .qs x (by decide) (by decide) (by decide) (by decide)).trans (h.win.qs x),
      fun x => (e .k x (by decide) (by decide) (by decide) (by decide)).trans (h.win.k x), fun x => (e .ks x (by decide) (by decide) (by decide) (by decide)).trans (h.win.ks x),
      fun x => (e .vt x (by decide) (by decide) (by decide) (by decide)).trans (h.win.vt x), fun x => (e .vs x (by decide) (by decide) (by decide) (by decide)).trans (h.win.vs x)⟩
    exp := ⟨fun x => (e .ksx x (by decide) (by decide) (by decide) (by decide)).trans (h.exp.ksx x), fun x => (e .vsx x (by decide) (by decide) (by decide) (by decide)).trans (h.exp.vsx x),
      fun x => (e .vtw x (by decide) (by decide) (by decide) (by decide)).trans (h.exp.vtw x)⟩
    y := fun x hx => (e .y x (by decide) (by decide) (by decide) (by decide)).trans (h.y x hx)
    p := fun x hx => (e .p x (by decide) (by decide) (by decide) (by decide)).trans (h.p x hx) }

/-- The state while chunk `t` is weighed: the accumulator holds the chunks before it, the weights of the first `n` keys of
    the chunk are there. -/
structure Wt (B : Blk) (N : ℕ) (u : Fin 512 → EReal) (t n : ℕ) (σ : St Ideal) : Prop where
  sc : Sc B N σ
  acc : ∀ x, σ .acc x = ∑ k ∈ Finset.range (512 * t), B.vt (x 0).val k * B.wt u k (x 1).val
  w : ∀ x, (x 0).val < n → σ .w x = B.wt u (512 * t + (x 0).val) (x 1).val

theorem w_tile {B : Blk} {u : Fin 512 → EReal} {v : FVec Ideal S8x512 .f32} {T : FVec Ideal S1x512 .f32} {L : FVec Ideal S8x128 .f32} {o : ℕ} {hb hc}
    (hT : IsRow u T) (hv : ∀ x, v x = B.Y (o + (x 0).val) (x 1).val) (hL : ∀ x, L x = B.vs (o + (x 0).val)) (x : S8x512.Idx) :
    mulf (F := Ideal) (φ := .f32) (mulf (F := Ideal) (φ := .f32) (maximumf (F := Ideal) (φ := .f32) (subf v (broadcastTo S8x512 T hb)) (broadcast S8x512 (Scalar.ofBits (F := Ideal) .f32 0x00000000#32)))
        (maximumf (F := Ideal) (φ := .f32) (subf v (broadcastTo S8x512 T hb)) (broadcast S8x512 (Scalar.ofBits (F := Ideal) .f32 0x00000000#32))))
      (concatenate S8x512 1 [⟨S8x128, L⟩, ⟨S8x128, L⟩, ⟨S8x128, L⟩, ⟨S8x128, L⟩] hc) x = B.wt u (o + (x 0).val) (x 1).val := by
  have e := concat4_apply (h := 8) L (fun a => B.vs (o + a)) hL hc x
  have e' : maximumf (F := Ideal) (φ := .f32) (subf v (broadcastTo S8x512 T hb)) (broadcast S8x512 (Scalar.ofBits (F := Ideal) .f32 0x00000000#32)) x
      = one B.Y u (o + (x 0).val) (x 1) := by
    show max (v x - T _) (Ideal.ofBits .f32 0x00000000#32) = _
    rw [Ideal.ofBits_zero_f32, hv x, hT]
    rfl
  show maximumf (F := Ideal) (φ := .f32) _ _ x * maximumf (F := Ideal) (φ := .f32) _ _ x * concatenate S8x512 1 _ hc x = _
  rw [e, e']
  exact (Blk.wt_fin B u (o + (x 0).val) (x 1)).symm

theorem cast_pair {w : FVec Ideal S16x512 .f32} {h : S16x512.ShapeCasts S16x512} {hb} {G : ℕ → ℕ → EReal} {o : ℕ}
    (hw : ∀ x, w x = G (o + (x 0).val) (x 1).val) (x : S16x512.Idx) : shapeCast S16x512 (truncf (F := Ideal) (φ := .f32) .bf16 w hb) h x = G (o + (x 0).val) (x 1).val := by
  rw [shapeCast_self]; exact hw x

/-- A load of rows `o …` of the expanded scales of the values. -/
theorem RunI.load_vs {B : Blk} {n o : ℕ} (hI : ∀ σ, I σ → Sc B n σ) {off : Fin 2 → ℕ} (hoff : off = ![o, 0])
    {inb : ∀ a, off a + S8x128.size a ≤ S6144x128.size a} {hl : (ms .vsx).view.LoadsAt (Rect.unit (s := S6144x128) off S8x128.size inb).toLoadRect}
    {k : (S8x128.Idx → EReal) → Prog (TpuEff nD τ sig (Elt Ideal) (Λ₀ Ideal) .tc) β} {Q : β → St Ideal → Prop}
    (h : ∀ v : S8x128.Idx → EReal, (∀ x, v x = B.vs (o + (x 0).val)) → RunI c ms bd I (k v) Q) :
    RunI c ms bd I (Prog.lift (.load (ms .vsx) (Rect.unit (s := S6144x128) off S8x128.size inb).toLoadRect hl) >>= k) Q := by
  intro σ hσ
  refine .load .vsx (h _ (fun x => ?_) σ hσ)
  rw [(hI σ hσ).exp.vsx]
  subst hoff
  rw [unit_idx]
  rfl

/-- A store of sixteen rows of the weights. -/
theorem RunI.store_w {B : Blk} {N : ℕ} {u : Fin 512 → EReal} {t n o r : ℕ} {off : Fin 2 → ℕ} (hoff : off = ![o, 0]) (ho : o = n) (hr : r = 512 * t + o)
    {inb : ∀ a, off a + S16x512.size a ≤ S512x512.size a} {w : S16x512.Idx → EReal}
    {hx : ((ms .w).access (Rect.unit (s := S512x512) off S16x512.size inb)).Stores Finset.univ}
    {hm : (Finset.univ : Finset (Rect.unit (s := S512x512) off S16x512.size inb).shape.Idx) = Finset.univ ∨ ∀ a, (Rect.unit (s := S512x512) off S16x512.size inb).stride a = 1}
    {k : PUnit → Prog (TpuEff nD τ sig (Elt Ideal) (Λ₀ Ideal) .tc) β} {Q : β → St Ideal → Prop}
    (hw : ∀ x, w x = B.wt u (r + (x 0).val) (x 1).val)
    (h : RunI c ms bd (Wt B N u t (o + 16)) (k ⟨⟩) Q) :
    RunI c ms bd (Wt B N u t n) (Prog.lift (.store (ms .w) (Rect.unit (s := S512x512) off S16x512.size inb) w Finset.univ hx hm) >>= k) Q := by
  intro σ hσ
  refine .store .w (h _ ⟨hσ.sc.put .w (by decide) _, fun x => ?_, fun x hx => ?_⟩)
  · exact (congrFun (Function.update_of_ne (by decide) _ _) x).trans (hσ.acc x)
  · unfold put; rw [Function.update_self]
    exact overlay_rows (N := 512) (M := 512) (h := 16) hoff inb (σ .w) w (fun k l => B.wt u (512 * t + k) l) (fun x hx => hσ.w x (by omega))
      (fun x => by rw [hw x, hr, Nat.add_assoc]) x hx

set_option maxHeartbeats 1000000 in
/-- The weights of a chunk. -/
theorem part152_run (i : grid0.Coords) {B : Blk} (hB : B.tq = tq i) (hms : ∀ b, (ms b).IsWhole)
    {v28 v2600 v2603 v33 v2576 T U : FVec Ideal S1x512 .f32} {u : Fin 512 → EReal} (hU : IsRow u U) (n c0 c1 : BitVec 32) (e : EReal)
    (k : Fin (k0_t16_loop i).trips) {A : FVec Ideal S8x512 .f32} (hA : IsSum (two B.Y u) (64 * k.val) A) :
    RunI c ms bd (Wt B (ch i + 1) u k.val 0) (k0_part152 i (broadcast S8x512 (Scalar.ofBits (F := Ideal) .f32 0x00000000#32)) (ms .y) (hms .y) (ms .p) (hms .p) v28 v2600 v2603 (ms .acc) (hms .acc)
        (ms .vsx) (hms .vsx) (ms .w) (hms .w) (ms .vtw) (hms .vtw) v33 v2576 n e T U c0 c1 k A)
      (fun r σ => Wt B (ch i + 1) u k.val 512 σ ∧ IsSum (two B.Y u) (64 * (k.val + 1)) r.2) := by
  have hk : k.val < ch i + 1 := Nat.lt_of_lt_of_eq k.isLt (t16_trips i)
  refine RunI.assoc ?_
  iterate 700 first
    | (with_reducible refine RunI.load_y (fun _ => Wt.sc) (off25_eq i k _ _) (by omega) ?_; intro v hv)
    | (with_reducible refine RunI.load_vs (fun _ => Wt.sc) (off26_eq i k _ _) ?_; intro v hv)
    | with_reducible refine RunI.pure_bind ?_
    | (with_reducible refine RunI.store_w (r := 512 * k.val + _) rfl (by omega) rfl (cast_pair (pair_val (w_tile hU (by assumption) (by assumption)) (w_tile hU (by assumption) (by assumption)) (by omega) (by omega) _)) ?_)
    | (with_reducible refine RunI.load_any _ ?_; intro _)
    | (refine RunI.assoc ?_)
    | skip
  refine RunI.ret fun σ hσ => ⟨hσ, ?_⟩
  show IsSum _ (64 * k.val + 64) _
  iterate 64 refine isSum_two hU ?_ (by assumption) (by omega)
  exact hA

end Entmax.KernelIdeal
end
-- ==== Proof.Round2.lean ====
/-
  The second half of a round: the Newton step, its three refinements on the maxima, the values weighed at the new thresholds,
  and how far the rows are from their tolerances.
-/
module

public import proofs.«01_k».proof.Proof.Weigh

@[expose] public section

noncomputable section

namespace Entmax.KernelIdeal

open Idealize.ShloMosaic Idealize.ShloMosaic.TcCoe Cert.KernelIdeal
open Idealize.SL.Sem

variable {c : Dev nD} {ms : Mems sig} {bd : Option ℕ} {α β : Type} {I : St Ideal → Prop}

/-- A load of which something is known. -/
theorem RunI.load_of (b : Bf) {r : LoadRect (sh b)} {hl : (ms b).view.LoadsAt r} (P : (r.shape.Idx → Elt Ideal (el b)) → Prop)
    {k : (r.shape.Idx → Elt Ideal (el b)) → Prog (TpuEff nD τ sig (Elt Ideal) (Λ₀ Ideal) .tc) β} {Q : β → St Ideal → Prop}
    (hP : ∀ σ, I σ → P (fun x => σ b (r.idx x))) (h : ∀ v, P v → RunI c ms bd I (k v) Q) : RunI c ms bd I (Prog.lift (.load (ms b) r hl) >>= k) Q :=
  fun σ hσ => .load b (h _ (hP σ hσ) σ hσ)

/-- A store. -/
theorem RunI.store_of (b : Bf) {r : Rect (sh b)} {w : r.shape.Idx → Elt Ideal (el b)} {hx : ((ms b).access r).Stores Finset.univ}
    {hm : (Finset.univ : Finset r.shape.Idx) = Finset.univ ∨ ∀ a, r.stride a = 1} (J : St Ideal → Prop)
    {k : PUnit → Prog (TpuEff nD τ sig (Elt Ideal) (Λ₀ Ideal) .tc) β} {Q : β → St Ideal → Prop}
    (hJ : ∀ σ, I σ → J (put σ b r w)) (h : RunI c ms bd J (k ⟨⟩) Q) : RunI c ms bd I (Prog.lift (.store (ms b) r w Finset.univ hx hm) >>= k) Q :=
  fun σ hσ => .store b (h _ (hJ σ hσ))

/-- A whole matrix read. -/
theorem whole_idx {N M : ℕ} (inb : ∀ a, (![0, 0] : Fin 2 → ℕ) a + (![N, M] : Fin 2 → ℕ) a ≤ (⟨2, ![N, M]⟩ : Shape).size a)
    (x : (⟨2, ![N, M]⟩ : Shape).Idx) : (Rect.unit (s := ⟨2, ![N, M]⟩) ![0, 0] ![N, M] inb).toLoadRect.idx x = x := by
  funext a
  apply Fin.ext
  rw [unit_idx]
  match a with
  | 0 => exact Nat.zero_add _
  | 1 => exact Nat.zero_add _

/-- The values of a chunk weighed, and added to those before it. -/
theorem weigh_val {B : Blk} {u : Fin 512 → EReal} {t : ℕ} {A V : Vec Ideal S160x512 .f32} {W : Vec Ideal S512x512 .bf16} {h}
    (hA : ∀ x, A x = ∑ k ∈ Finset.range (512 * t), B.vt (x 0).val k * B.wt u k (x 1).val)
    (hV : ∀ x, V x = B.vt (x 0).val (512 * t + (x 1).val)) (hW : ∀ x, W x = B.wt u (512 * t + (x 0).val) (x 1).val) (x : S160x512.Idx) :
    shapeCast S160x512 (addf (F := Ideal) (φ := .f32) A (matmul (F := Ideal) (φ₁ := .bf16) (φ₂ := .bf16) dot_S160x512_S512x512_S160x512_1_0_0_1_n_n none V W (constant S160x512 .f32 0x00000000#32))) h x
      = ∑ k ∈ Finset.range (512 * (t + 1)), B.vt (x 0).val k * B.wt u k (x 1).val := by
  rw [shapeCast_self, Nat.mul_succ, Finset.sum_range_add]
  show A x + matmul (F := Ideal) (φ₁ := .bf16) (φ₂ := .bf16) dot_S160x512_S512x512_S160x512_1_0_0_1_n_n none V W (constant S160x512 .f32 0x00000000#32) x = _
  rw [hA x]
  congr 1
  have e := Ideal.matmul_plain_apply (M := 160) (K := 512) (N := 512) (φ₁ := .bf16) (φ₂ := .bf16) none V W (constant S160x512 .f32 0x00000000#32) (x 0) (x 1)
  refine (congrArg _ (ValueIdx.eq_ix2 (n0 := 160) (n1 := 512) x)).trans (e.trans ?_)
  show Ideal.ofBits .f32 0x00000000#32 + _ = _
  rw [Ideal.ofBits_zero_f32, zero_add, Finset.sum_range fun j => B.vt (x 0).val (512 * t + j) * B.wt u (512 * t + j) (x 1).val]
  exact Finset.sum_congr rfl fun d _ => by rw [hV, hW]

/-- All chunks up to the diagonal one give the weighed values. -/
theorem out_val {i : grid0.Coords} {B : Blk} (hB : B.tq = tq i) (u : Fin 512 → EReal) (d : ℕ) (l : Fin 512) :
    ∑ k ∈ Finset.range (512 * (ch i + 1)), B.vt d k * B.wt u k l.val = B.out u d l := by
  have hc := ch_lt i
  rw [sum_to _ _ 6144 (by omega)]
  · unfold Blk.out mix
    exact Finset.sum_congr rfl fun k _ => by rw [Blk.wt_fin]; rfl
  · intro k hk
    rw [Blk.wt_fin, two_bot (Y_beyond hB l.val hk), zero_mul, mul_zero]

/-- The new thresholds, the values weighed at them, and whether to go on. -/
theorem part179_run (i : grid0.Coords) {B : Blk} (hB : B.tq = tq i) (hms : ∀ b, (ms b).IsWhole) (hI : ∀ σ, I σ → Sc B (ch i + 1) σ)
    {v28 v2600 v2603 v33 v2576 T F1 G D N : FVec Ideal S1x512 .f32} (hV : Vecs B v28 v2600 v2603 v33 v2576) {t : Fin 512 → EReal} (hT : IsRow t T) (n : BitVec 32) (e : EReal)
    (hF1 : IsRow (fun l => mom1 (B.row l).y (t l)) F1) (hG : IsRow (fun l => (B.row l).mg (t l)) G) (hD : IsRow (fun l => (B.row l).md (t l)) D)
    (hN : IsRow (fun l => (Ideal.sqrt (mom2 (B.row l).y (t l)) - (B.row l).a) * Ideal.sqrt (mom2 (B.row l).y (t l))) N) :
    RunI c ms bd I (k0_part179 i (broadcast S8x512 (Scalar.ofBits (F := Ideal) .f32 0x00000000#32)) (ms .y) (hms .y) (ms .p) (hms .p) v28 v2600 v2603 (ms .acc) (hms .acc)
        (ms .vsx) (hms .vsx) (ms .w) (hms .w) (ms .vtw) (hms .vtw) v33 v2576 n e T (Scalar.addi (chunkWord (i 2).val) 1#32) F1 G D N (Scalar.ofBits (F := Ideal) .f32 0x00000000#32))
      (fun r σ => Sc B (ch i + 1) σ ∧ (∀ x, σ .acc x = B.out (fun l => (B.row l).next (t l)) (x 0).val (x 1)) ∧ IsRow (fun l => (B.row l).next (t l)) r.1 ∧
        r.2.1 = Scalar.addi n 1#32 ∧ ∀ hp, extractAt ![0, 0, 0] r.2.2 hp = Finset.univ.sup fun l => (B.row l).over (t l) ((B.row l).next (t l))) := by
  have hc := ch_lt i
  have h0 := newton_row hV.lo hV.hi hT hF1 hN
  refine RunI.bind_calc (fun k U => IsRow (fun l => ((B.row l).refine (t l))^[k] ((B.row l).newton (t l) (mom1 (B.row l).y (t l)) (mom2 (B.row l).y (t l)))) U) h0 (fun k U hU => ?_) fun U hU => ?_
  · obtain ⟨u, hu⟩ : ∃ u : Fin 512 → EReal, u = fun l => ((B.row l).refine (t l))^[k.val] ((B.row l).newton (t l) (mom1 (B.row l).y (t l)) (mom2 (B.row l).y (t l))) := ⟨_, rfl⟩
    rw [← hu] at hU
    refine RunI.bind_calc (fun j a => IsSum (one B.P u) (4 * j) a.1 ∧ IsSum (two B.P u) (4 * j) a.2) ⟨isSum_zero, isSum_zero⟩ (fun j a ha => ?_) fun b hb => ?_
    · have hk : j.val < ch i + 1 := Nat.lt_of_lt_of_eq j.isLt (t14_trips i)
      obtain ⟨h1, h2⟩ := ha
      iterate 10 first
        | (with_reducible refine RunI.load_p hI (off23_eq i j _) (by omega) ?_; intro v hv)
        | with_reducible refine RunI.pure_bind ?_
        | skip
      refine RunI.ret fun σ hσ => ⟨⟨?_, ?_⟩, hσ⟩
      · show IsSum _ (4 * j.val + 4) _
        iterate 4 refine isSum_one hU ?_ (by assumption) (by omega)
        exact h1
      · show IsSum _ (4 * j.val + 4) _
        iterate 4 refine isSum_two hU ?_ (by assumption) (by omega)
        exact h2
    refine RunI.bind_loop_zero (Gen.k0_t15_abs i).2.1 ?_
    rw [t14_trips] at hb
    refine RunI.ret fun σ hσ => ⟨?_, hσ⟩
    have hP1 := fun {hr hc} => isSum_total (t := u) (N := 384) hb.1 (by omega) (fun k l hk => one_bot (P_beyond hB l.val (by omega))) (hr := hr) (hc := hc)
    have hP2 := fun {hr hc} => isSum_total (t := u) (N := 384) hb.2 (by omega) (fun k l hk => two_bot (P_beyond hB l.val (by omega))) (hr := hr) (hc := hc)
    have hR := rest_row hT hU hG hD
    have e : (fun l => ((B.row l).refine (t l))^[k.val + 1] ((B.row l).newton (t l) (mom1 (B.row l).y (t l)) (mom2 (B.row l).y (t l)))) = fun l => (B.row l).refine (t l) (u l) := by
      funext l
      rw [hu, Function.iterate_succ_apply']
    rw [e]
    exact newton_row hV.lo hV.hi hU (add_row hP1 (mul_row hR hD)) (num_row hV.a (add_row hP2 (mul_row hR hR)))
  rw [t13_trips] at hU
  refine RunI.load_any _ ?_
  intro _
  refine RunI.store_of .acc (Wt B (ch i + 1) (fun l => (B.row l).next (t l)) 0 0) (fun σ hσ => ⟨(hI σ hσ).put .acc (by decide) _, fun x => ?_, fun x h => absurd h (Nat.not_lt_zero _)⟩) ?_
  · unfold put; rw [Function.update_self]
    refine overlay_whole _ (by decide) (by decide) _ _ x (· = _) fun y hy => ?_
    rw [shapeCast_self]
    exact Ideal.ofBits_zero_f32
  refine RunI.bind_loop (fun k A σ => Wt B (ch i + 1) (fun l => (B.row l).next (t l)) k 0 σ ∧ IsSum (two B.Y (fun l => (B.row l).next (t l))) (64 * k) A)
    (fun σ h => ⟨h, isSum_zero⟩) (fun k A => ?_) fun A => ?_
  · have hk : k.val < ch i + 1 := Nat.lt_of_lt_of_eq k.isLt (t16_trips i)
    intro σ hσ
    refine RunI.bind (I := Wt B (ch i + 1) (fun l => (B.row l).next (t l)) k.val 0) (part152_run i hB hms hU _ _ _ _ k hσ.2) (fun r => ?_) σ hσ.1
    refine RunI.load_of .acc (fun v => ∀ x, v x = ∑ j ∈ Finset.range (512 * k.val), B.vt (x 0).val j * B.wt (fun l => (B.row l).next (t l)) j (x 1).val) (fun σ h x => ?_) fun A' hA' => ?_
    · exact (congrArg (σ .acc) (whole_idx (N := 160) (M := 512) _ x)).trans (h.1.acc x)
    refine RunI.load_of .vtw (fun v => ∀ x, v x = B.vt (x 0).val (512 * k.val + (x 1).val)) (fun σ h x => ?_) fun V hV' => ?_
    · refine (h.1.sc.exp.vtw _).trans ?_
      rw [unit_idx, unit_idx]
      show B.vt (k0_off27 i k 0 + (x 0).val) (k0_off27 i k 1 + (x 1).val) = _
      have e0 : k0_off27 i k 0 = 0 := congrFun (off27_eq i k) 0
      have e1 : k0_off27 i k 1 = 512 * k.val := congrFun (off27_eq i k) 1
      rw [e0, e1, Nat.zero_add]
    refine RunI.load_of .w (fun v => ∀ x, v x = B.wt (fun l => (B.row l).next (t l)) (512 * k.val + (x 0).val) (x 1).val) (fun σ h x => ?_) fun W hW => ?_
    · exact (congrArg (σ .w) (whole_idx (N := 512) (M := 512) _ x)).trans (h.1.w x (x 0).isLt)
    refine RunI.load_any _ ?_
    intro _
    refine RunI.store_of .acc (fun σ => Wt B (ch i + 1) (fun l => (B.row l).next (t l)) (k.val + 1) 0 σ ∧ IsSum (two B.Y (fun l => (B.row l).next (t l))) (64 * (k.val + 1)) r.2)
      (fun σ h => ⟨⟨h.1.sc.put .acc (by decide) _, fun x => ?_, fun x h => absurd h (Nat.not_lt_zero _)⟩, h.2⟩) ?_
    · unfold put; rw [Function.update_self]
      refine overlay_whole _ (by decide) (by decide) _ _ x (· = _) fun y hy => ?_
      have e0 : x = y := by funext a; exact Fin.ext (hy a)
      rw [e0]
      exact weigh_val hA' hV' hW y
    exact RunI.ret fun σ h => h
  rw [t16_trips]
  refine RunI.bind_loop_zero (Gen.k0_t17_abs i).2.1 ?_
  refine RunI.ret fun σ h => ?_
  have hS := fun {hr hc} => isSum_total (t := t) (N := 6144) h.2 (by omega) (fun k l hk => two_bot (Y_beyond hB l.val (by omega))) (hr := hr) (hc := hc)
  refine ⟨h.1.sc, fun x => ?_, ?_, rfl, fun hp => ?_⟩
  · rw [h.1.acc x]; exact out_val hB _ _ (x 1)
  · exact hU
  · exact max_lanes (over_row hU hS hF1 hV.c2 hV.m)

end Entmax.KernelIdeal
end
-- ==== Proof.Expand.lean ====
/-
  The start of a grid point: at the first query block of a group the scales of the keys and of the values are laid out along
  the rows of two matrices, and the codes of the values are kept; then the codes and scales of the rows are read.
-/
module

public import proofs.«01_k».proof.Proof.Round2

@[expose] public section

noncomputable section

namespace Entmax.KernelIdeal

open Idealize.ShloMosaic Idealize.ShloMosaic.TcCoe Cert.KernelIdeal
open Idealize.SL.Sem

variable {c : Dev nD} {ms : Mems sig} {bd : Option ℕ}

/-- A row vector laid out along the rows of a matrix. -/
theorem spread_val {f : ℕ → EReal} {o : ℕ} {w : FVec Ideal S1x128 .f32} {h0 hb ht h1} (hw : ∀ x, w x = f (o + (x 1).val)) (x : S128x128.Idx) :
    shapeCast S128x128 (transpose S128x128 [1, 0] (broadcastTo S128x128 (shapeCast S1x128 w h0) hb) ht) h1 x = f (o + (x 0).val) := by
  rw [shapeCast_self, shapeCast_self]
  exact (hw _).trans rfl

theorem line_val {f : ℕ → EReal} {o : ℕ} {w : FVec Ideal S1x1x1x128 .f32} {h} (hw : ∀ x, w x = f (o + (x 3).val)) (x : S1x128.Idx) :
    shapeCast S1x128 w h x = f (o + (x 1).val) := by
  have h0 : (x 0).val < 1 := (x 0).isLt
  rw [shapeCast_apply _ h x (ValueIdx.ix4 (0 : Fin 1) (0 : Fin 1) (0 : Fin 1) (x 1)) (by
    rw [Shape.rowMajor_val_two, Shape.rowMajor_val_four]
    show ((0 * 1 + 0) * 1 + 0) * 128 + (x 1).val = (x 0).val * 128 + (x 1).val
    omega)]
  exact hw _

theorem first_block (i : grid0.Coords) : k0_cond1 i = 1#1 ↔ tq i = 0 := by
  have h : ∀ n : Fin 48, Scalar.cmpi .ne (Scalar.extui (Scalar.cmpi .eq (BitVec.ofNat 32 n.val) 0#32)) 0#32 = 1#1 ↔ n.val = 0 := by decide
  exact h (i 2)

/-- While the scales are laid out: the first `n` rows are there. -/
structure Lay (B : Blk) (n : ℕ) (σ : St Ideal) : Prop where
  win : Win B σ
  ksx : ∀ x, (x 0).val < n → σ .ksx x = B.kx (x 0).val
  vsx : ∀ x, (x 0).val < n → σ .vsx x = B.vs (x 0).val

theorem Win.put {B : Blk} {σ : St Ideal} (h : Win B σ) (b : Bf) (hb : b = .ksx ∨ b = .vsx ∨ b = .vtw)
    (X : (sh b).Idx → Elt Ideal (el b)) : Win B (Function.update σ b X) := by
  have e : ∀ b' x, b' ≠ .ksx → b' ≠ .vsx → b' ≠ .vtw → Function.update σ b X b' x = σ b' x := fun b' x h1 h2 h3 =>
    congrFun (Function.update_of_ne (by rcases hb with rfl | rfl | rfl <;> assumption) _ _) x
  exact ⟨fun x => (e .q x (by decide) (by decide) (by decide)).trans (h.q x), fun x => (e .qs x (by decide) (by decide) (by decide)).trans (h.qs x),
      fun x => (e .k x (by decide) (by decide) (by decide)).trans (h.k x), fun x => (e .ks x (by decide) (by decide) (by decide)).trans (h.ks x),
      fun x => (e .vt x (by decide) (by decide) (by decide)).trans (h.vt x), fun x => (e .vs x (by decide) (by decide) (by decide)).trans (h.vs x)⟩

/-- The values, kept in another format. -/
theorem values_val {B : Blk} {w : FVec Ideal S1x1x160x6144 .fp8e4m3} {h0 hb h1} (hw : ∀ x, w x = B.vt (x 2).val (x 3).val) (x : S160x6144.Idx) :
    shapeCast S160x6144 (extf (F := Ideal) (φ := .fp8e4m3) .bf16 (shapeCast S160x6144 w h0) hb) h1 x = B.vt (x 0).val (x 1).val := by
  rw [shapeCast_self]
  show shapeCast S160x6144 w h0 x = _
  rw [shapeCast_apply _ h0 x (ValueIdx.ix4 (0 : Fin 1) (0 : Fin 1) (x 0) (x 1)) (by
    rw [Shape.rowMajor_val_two, Shape.rowMajor_val_four]
    show ((0 * 1 + 0) * 160 + (x 0).val) * 6144 + (x 1).val = (x 0).val * 6144 + (x 1).val
    omega)]
  exact hw _

/-- A store of the whole of a buffer. -/
theorem overlay_all {s : Shape} {α : Type} {off : Fin s.rank → ℕ} (hoff : ∀ a, off a = 0) (inb : ∀ a, off a + s.size a ≤ s.size a)
    (f : s.Idx → α) (w : s.Idx → α) (x : s.Idx) {z : α} (h : w x = z) : (Rect.unit (s := s) off s.size inb).overlay f w x = z :=
  overlay_whole inb hoff (fun _ => rfl) f w x (· = z) fun y hy => by
    have e : x = y := funext fun a => Fin.ext (hy a)
    exact e ▸ h

/-- A load of the whole of a buffer of four axes. -/
theorem whole_val4 {s : Shape} {α : Type} (f : s.Idx → α) {off : Fin s.rank → ℕ} (hoff : ∀ a, off a = 0) (inb : ∀ a, off a + s.size a ≤ s.size a)
    (x : s.Idx) : f ((Rect.unit (s := s) off s.size inb).toLoadRect.idx x) = f x := by
  congr 1
  funext a
  apply Fin.ext
  rw [unit_idx, hoff, Nat.zero_add]

/-- After the first part the inputs are as they were, the expanded scales are there, and the rows have been read. -/
theorem expand_run (i : grid0.Coords) {B : Blk} (hms : ∀ b, (ms b).IsWhole) :
    RunI c ms bd (fun σ => Win B σ ∧ (tq i ≠ 0 → Exp B σ)) (k0_part39 i (ms .q) (hms .q) (ms .qs) (hms .qs) (ms .k) (hms .k) (ms .ks) (hms .ks)
      (ms .vt) (hms .vt) (ms .vs) (hms .vs) (ms .o) (hms .o) (ms .tau) (hms .tau) (ms .y) (hms .y) (ms .p) (hms .p)
      (ms .ksx) (hms .ksx) (ms .vsx) (hms .vsx) (ms .vtw) (hms .vtw) (ms .w) (hms .w) (ms .acc) (hms .acc))
      (fun r σ => (Win B σ ∧ Exp B σ) ∧ ∃ (v5 : FVec Ideal S512x160 .fp8e4m3) (v28 : FVec Ideal S1x512 .f32) (v29 : Vec Ideal S1x1x1x1x512 .f32),
        r = ⟨BitVec.ofNat 32 (i 2).val, v5, chunkWord (i 2).val, Scalar.addi (chunkWord (i 2).val) 1#32, v28, v29⟩ ∧
        (∀ x, v5 x = B.q (x 0).val (x 1).val) ∧ (∀ x, v28 x = Ideal.div (Ideal.ofBits .f32 0x3F800000#32) (B.qs (x 1).val)) ∧ ∀ x, v29 x = B.qs (x 4).val) := by
  delta k0_part39
  refine fun σ hσ => Run.dite (fun hp => ?_) fun hp => ?_
  rotate_left
  all_goals revert σ
  · suffices h : RunI c ms bd (fun σ => Win B σ ∧ Exp B σ) _ _ from fun σ hσ => h σ ⟨hσ.1, hσ.2 fun h => hp ((first_block i).mpr h)⟩
    refine RunI.load_of .q (fun v => ∀ x, v x = B.q (128 * (x 1).val + (x 2).val) (x 3).val) (fun σ h x => ?_) fun v hv => ?_
    · exact (whole_val4 (s := S1x4x128x160) (σ .q) (by decide) _ x).trans (h.1.q x)
    refine RunI.load_of .qs (fun v => ∀ x, v x = B.qs (x 4).val) (fun σ h x => ?_) fun u hu => ?_
    · exact (whole_val4 (s := S1x1x1x1x512) (σ .qs) (by decide) _ x).trans (h.1.qs x)
    refine RunI.load_of .qs (fun v => ∀ x, v x = B.qs (x 4).val) (fun σ h x => ?_) fun w hw => ?_
    · exact (whole_val4 (s := S1x1x1x1x512) (σ .qs) (by decide) _ x).trans (h.1.qs x)
    exact RunI.ret fun σ h => ⟨h, _, _, _, rfl, rows_val hv, fun x => congrArg (Ideal.div (Ideal.ofBits .f32 0x3F800000#32)) (lane_val hu x), hw⟩
  · suffices h : RunI c ms bd (fun σ => Win B σ) _ _ from fun σ hσ => h σ hσ.1
    refine RunI.bind_loop (fun t _ σ => Lay B (128 * t) σ) (fun σ h => ⟨h, fun x h => absurd h (Nat.not_lt_zero _), fun x h => absurd h (Nat.not_lt_zero _)⟩) (fun t _ => ?_) fun _ => ?_
    · refine RunI.load_of .ks (fun v => ∀ x, v x = B.ks (128 * t.val + (x 3).val)) (fun σ h x => ?_) fun v hv => ?_
      · refine (h.win.ks _).trans ?_
        rw [unit_idx, congrFun (off1_eq t) 3]
        rfl
      refine RunI.load_any _ ?_
      intro _
      refine RunI.store_of .ksx (fun σ => Win B σ ∧ (∀ x, (x 0).val < 128 * t.val + 128 → σ .ksx x = B.kx (x 0).val) ∧ ∀ x, (x 0).val < 128 * t.val → σ .vsx x = B.vs (x 0).val)
        (fun σ h => ⟨h.win.put .ksx (by decide) _, fun x hx => ?_, fun x hx => (congrFun (Function.update_of_ne (by decide) _ _) x).trans (h.vsx x hx)⟩) ?_
      · unfold put; rw [Function.update_self]
        refine overlay_rows (N := 6144) (M := 128) (h := 128) (off2_eq t) _ (σ .ksx) _ (fun k _ => B.kx k) (fun x hx => h.ksx x hx) (fun x => ?_) x hx
        refine spread_val (f := B.kx) (o := 128 * t.val) (fun y => ?_) x
        show shapeCast S1x128 v _ y * Ideal.ofBits .f32 0x3D21E89B#32 = _
        rw [line_val hv]; rfl
      refine RunI.load_of .vs (fun v => ∀ x, v x = B.vs (128 * t.val + (x 3).val)) (fun σ h x => ?_) fun v hv => ?_
      · refine (h.1.vs _).trans ?_
        rw [unit_idx, congrFun (off1_eq t) 3]
        rfl
      refine RunI.load_any _ ?_
      intro _
      refine RunI.store_of .vsx (fun σ => Lay B (128 * (t.val + 1)) σ)
        (fun σ h => ⟨h.1.put .vsx (by decide) _, fun x hx => (congrFun (Function.update_of_ne (by decide) _ _) x).trans (h.2.1 x hx), fun x hx => ?_⟩) ?_
      · unfold put; rw [Function.update_self]
        refine overlay_rows (N := 6144) (M := 128) (h := 128) (off2_eq t) _ (σ .vsx) _ (fun k _ => B.vs k) (fun x hx => h.2.2 x hx) (fun x => ?_) x hx
        exact spread_val (f := B.vs) (o := 128 * t.val) (line_val hv) x
      exact RunI.ret fun σ h => h
    rw [t1_trips]
    refine RunI.load_of .vt (fun v => ∀ x, v x = B.vt (x 2).val (x 3).val) (fun σ h x => ?_) fun v hv => ?_
    · exact (whole_val4 (s := S1x1x160x6144) (σ .vt) (by decide) _ x).trans (h.win.vt x)
    refine RunI.load_any _ ?_
    intro _
    refine RunI.store_of .vtw (fun σ => Win B σ ∧ Exp B σ)
      (fun σ h => ⟨h.win.put .vtw (by decide) _, fun x => (congrFun (Function.update_of_ne (by decide) _ _) x).trans (h.ksx x (x 0).isLt),
        fun x => (congrFun (Function.update_of_ne (by decide) _ _) x).trans (h.vsx x (x 0).isLt), fun x => ?_⟩) ?_
    · unfold put; rw [Function.update_self]
      exact overlay_all (s := S160x6144) (off := ![0, 0]) (by decide) _ (σ .vtw) _ x (values_val hv x)
    refine RunI.load_of .q (fun v => ∀ x, v x = B.q (128 * (x 1).val + (x 2).val) (x 3).val) (fun σ h x => ?_) fun v hv => ?_
    · exact (whole_val4 (s := S1x4x128x160) (σ .q) (by decide) _ x).trans (h.1.q x)
    refine RunI.load_of .qs (fun v => ∀ x, v x = B.qs (x 4).val) (fun σ h x => ?_) fun u hu => ?_
    · exact (whole_val4 (s := S1x1x1x1x512) (σ .qs) (by decide) _ x).trans (h.1.qs x)
    refine RunI.load_of .qs (fun v => ∀ x, v x = B.qs (x 4).val) (fun σ h x => ?_) fun w hw => ?_
    · exact (whole_val4 (s := S1x1x1x1x512) (σ .qs) (by decide) _ x).trans (h.1.qs x)
    exact RunI.ret fun σ h => ⟨h, _, _, _, rfl, rows_val hv, fun x => congrArg (Ideal.div (Ideal.ofBits .f32 0x3F800000#32)) (lane_val hu x), hw⟩

end Entmax.KernelIdeal
end
-- ==== Proof.Round1.lean ====
/-
  The first half of a round: the two moments of the scores and of the maxima about the threshold.
-/
module

public import proofs.«01_k».proof.Proof.Moments

@[expose] public section

noncomputable section

namespace Entmax.KernelIdeal

open Idealize.ShloMosaic Idealize.ShloMosaic.TcCoe Cert.KernelIdeal
open Idealize.SL.Sem

variable {c : Dev nD} {ms : Mems sig} {bd : Option ℕ}

/-- The moments of a round, and the state as it was. -/
theorem part178_run (i : grid0.Coords) {B : Blk} (hB : B.tq = tq i) (hms : ∀ b, (ms b).IsWhole) {I : St Ideal → Prop} (hI : ∀ σ, I σ → Sc B (ch i + 1) σ)
    {v28 v2600 v2603 v33 v2576 T : FVec Ideal S1x512 .f32} (hV : Vecs B v28 v2600 v2603 v33 v2576) {t : Fin 512 → EReal} (hT : IsRow t T) (n : BitVec 32) (e : EReal) :
    RunI c ms bd I (k0_part178 i (broadcast S8x512 (Scalar.ofBits (F := Ideal) .f32 0x00000000#32)) (ms .y) (hms .y) (ms .p) (hms .p) v28 v2600 v2603 (ms .acc) (hms .acc)
        (ms .vsx) (hms .vsx) (ms .w) (hms .w) (ms .vtw) (hms .vtw) v33 v2576 n e T (Scalar.addi (chunkWord (i 2).val) 1#32))
      (fun r σ => I σ ∧ IsRow (fun l => mom1 (B.row l).y (t l)) r.1 ∧ IsRow (fun l => (B.row l).mg (t l)) r.2.1 ∧ IsRow (fun l => (B.row l).md (t l)) r.2.2.1 ∧
        IsRow (fun l => (Ideal.sqrt (mom2 (B.row l).y (t l)) - (B.row l).a) * Ideal.sqrt (mom2 (B.row l).y (t l))) r.2.2.2.1 ∧
        r.2.2.2.2 = Scalar.ofBits (F := Ideal) .f32 0x00000000#32) := by
  have hc := ch_lt i
  refine RunI.bind_calc (fun k a => IsSum (one B.Y t) (64 * k) a.1 ∧ IsSum (two B.Y t) (64 * k) a.2) ⟨isSum_zero, isSum_zero⟩ (fun k a ha => ?_) fun a ha => ?_
  · have hk : k.val < ch i + 1 := Nat.lt_of_lt_of_eq k.isLt (t9_trips i)
    obtain ⟨h1, h2⟩ := ha
    refine RunI.assoc ?_
    iterate 200 first
      | (with_reducible refine RunI.load_y hI (off19_eq i k _) (by omega) ?_; intro v hv)
      | with_reducible refine RunI.pure_bind ?_
      | (refine RunI.assoc ?_)
      | skip
    refine RunI.ret fun σ hσ => ⟨⟨?_, ?_⟩, hσ⟩
    · show IsSum _ (64 * k.val + 64) _
      iterate 64 refine isSum_one hT ?_ (by assumption) (by omega)
      exact h1
    · show IsSum _ (64 * k.val + 64) _
      iterate 64 refine isSum_two hT ?_ (by assumption) (by omega)
      exact h2
  refine RunI.bind_loop_zero (Gen.k0_t10_abs i).2.1 ?_
  rw [t9_trips] at ha
  refine RunI.bind_calc (fun k a => IsSum (one B.P t) (4 * k) a.1 ∧ IsSum (two B.P t) (4 * k) a.2) ⟨isSum_zero, isSum_zero⟩ (fun k a ha => ?_) fun b hb => ?_
  · have hk : k.val < ch i + 1 := Nat.lt_of_lt_of_eq k.isLt (t11_trips i)
    obtain ⟨h1, h2⟩ := ha
    iterate 10 first
      | (with_reducible refine RunI.load_p hI (off21_eq i k _) (by omega) ?_; intro v hv)
      | with_reducible refine RunI.pure_bind ?_
      | skip
    refine RunI.ret fun σ hσ => ⟨⟨?_, ?_⟩, hσ⟩
    · show IsSum _ (4 * k.val + 4) _
      iterate 4 refine isSum_one hT ?_ (by assumption) (by omega)
      exact h1
    · show IsSum _ (4 * k.val + 4) _
      iterate 4 refine isSum_two hT ?_ (by assumption) (by omega)
      exact h2
  refine RunI.bind_loop_zero (Gen.k0_t12_abs i).2.1 ?_
  rw [t11_trips] at hb
  refine RunI.ret fun σ hσ => ?_
  have hF1 := fun {hr hc} => isSum_total (t := t) (N := 6144) ha.1 (by omega) (fun k l hk => one_bot (Y_beyond hB l.val (by omega))) (hr := hr) (hc := hc)
  have hF2 := fun {hr hc} => isSum_total (t := t) (N := 6144) ha.2 (by omega) (fun k l hk => two_bot (Y_beyond hB l.val (by omega))) (hr := hr) (hc := hc)
  have hP1 := fun {hr hc} => isSum_total (t := t) (N := 384) hb.1 (by omega) (fun k l hk => one_bot (P_beyond hB l.val (by omega))) (hr := hr) (hc := hc)
  have hP2 := fun {hr hc} => isSum_total (t := t) (N := 384) hb.2 (by omega) (fun k l hk => two_bot (P_beyond hB l.val (by omega))) (hr := hr) (hc := hc)
  refine ⟨hσ, ?_, ?_, ?_, ?_, rfl⟩
  · exact hF1
  · exact mg_row hF2 hP2
  · exact md_row hF1 hP1 (mg_row hF2 hP2)
  · exact num_row hV.a hF2

end Entmax.KernelIdeal
end
-- ==== Proof.While.lean ====
/-
  The rounds of a grid point: at most six, as long as some row is beyond its tolerance.
-/
module

public import proofs.«01_k».proof.Proof.Round1
public import proofs.«01_k».proof.Proof.Round2

@[expose] public section

noncomputable section

namespace Entmax.KernelIdeal

open Idealize.ShloMosaic Idealize.ShloMosaic.TcCoe Cert.KernelIdeal
open Idealize.SL.Sem

variable {c : Dev nD} {ms : Mems sig}

theorem slt_six : ∀ j : Fin 7, Scalar.cmpi .slt (BitVec.ofNat 32 j.val) 6#32 = BitVec.ofBool (decide (j.val < 6)) := by decide

theorem goes_on (j : ℕ) (hj : j ≤ 6) (e : EReal) :
    Scalar.andi (Scalar.cmpi .slt (BitVec.ofNat 32 j) 6#32) (Scalar.cmpf (F := Ideal) (φ := .f32) .ogt e (Scalar.ofBits (F := Ideal) .f32 0x00000000#32)) = 1#1 ↔ j < 6 ∧ 0 < e := by
  rw [slt_six ⟨j, by omega⟩]
  show BitVec.ofBool (decide (j < 6)) &&& BitVec.ofBool (decide (Ideal.ofBits .f32 0x00000000#32 < e)) = 1#1 ↔ _
  rw [Ideal.ofBits_zero_f32]
  by_cases h1 : j < 6 <;> by_cases h2 : 0 < e <;> simp [h1, h2]

/-- The rounds that are left after `6 - n`, from the state `s` of the group. -/
theorem while_run (i : grid0.Coords) {B : Blk} (hB : B.tq = tq i) (hms : ∀ b, (ms b).IsWhole)
    {v28 v2600 v2603 v33 v2576 : FVec Ideal S1x512 .f32} (hV : Vecs B v28 v2600 v2603 v33 v2576) :
    ∀ (n j : ℕ) (s : EReal × (Fin 512 → EReal)) (T : FVec Ideal S1x512 .f32), j + n = 6 → IsRow s.2 T →
      RunI c ms (some n) (fun σ => Sc B (ch i + 1) σ ∧ ((j < 6 ∧ 0 < s.1) ∨ ∀ x, σ .acc x = B.out s.2 (x 0).val (x 1)))
        (cc0_while1 i (broadcast S8x512 (Scalar.ofBits (F := Ideal) .f32 0x00000000#32)) (ms .y) (hms .y) (ms .p) (hms .p) v28 v2600 v2603 (ms .acc) (hms .acc)
          (ms .vsx) (hms .vsx) (ms .w) (hms .w) (ms .vtw) (hms .vtw) v33 v2576 (BitVec.ofNat 32 j) s.1 T)
        (fun r σ => Sc B (ch i + 1) σ ∧ IsRow ((groupRound B.row)^[n] s).2 r.2.2 ∧ ∀ x, σ .acc x = B.out ((groupRound B.row)^[n] s).2 (x 0).val (x 1)) := by
  intro n
  induction n with
  | zero =>
    intro j s T hj hT σ hσ
    refine Run.ite (fun hc => ?_) fun _ => .ret ⟨hσ.1, hT, ?_⟩
    · exact absurd ((goes_on j (by omega) s.1).mp hc).1 (by omega)
    · rcases hσ.2 with h | h
      · omega
      · exact h
  | succ n ih =>
    intro j s T hj hT σ hσ
    refine Run.ite (fun hc => ?_) fun hc => .ret ?_
    · have h := (goes_on j (by omega) s.1).mp hc
      have e : groupRound B.row s = (Finset.univ.sup fun g => (B.row g).over (s.2 g) ((B.row g).next (s.2 g)), fun g => (B.row g).next (s.2 g)) := if_pos h.2
      refine RunI.bind (part178_run i hB hms (I := Sc B (ch i + 1)) (fun _ h => h) hV hT _ _) (fun r => ?_) σ hσ.1
      rintro σ ⟨hσ, h1, h2, h3, h4, h5⟩
      rcases r with ⟨r1, r2, r3, r4, r5⟩
      replace h5 : r5 = _ := h5
      subst h5
      refine RunI.bind (part179_run i hB hms (I := Sc B (ch i + 1)) (fun _ h => h) hV hT _ _ h1 h2 h3 h4) (fun r => ?_) σ hσ
      rcases r with ⟨q1, q2, q3⟩
      rintro σ ⟨hσ, ha, hr, hj', hm⟩
      replace hj' : q2 = _ := hj'
      subst hj'
      have hs := ih (j + 1) (groupRound B.row s) q1 (by omega) (by rw [e]; exact hr) σ ⟨hσ, .inr (by rw [e]; exact ha)⟩
      have key : ∀ (w : BitVec 32) (v : EReal), w = BitVec.ofNat 32 (j + 1) → v = (groupRound B.row s).1 →
          Run c (defs₀ (F := Ideal)) ms (some n) (cc0_while1 i (broadcast S8x512 (Scalar.ofBits (F := Ideal) .f32 0x00000000#32)) (ms .y) (hms .y) (ms .p) (hms .p) v28 v2600 v2603 (ms .acc) (hms .acc)
            (ms .vsx) (hms .vsx) (ms .w) (hms .w) (ms .vtw) (hms .vtw) v33 v2576 w v q1) σ
            (fun r σ => Sc B (ch i + 1) σ ∧ IsRow ((groupRound B.row)^[n + 1] s).2 r.2.2 ∧ ∀ x, σ .acc x = B.out ((groupRound B.row)^[n + 1] s).2 (x 0).val (x 1)) := by
        rintro w v rfl rfl
        rw [Function.iterate_succ_apply]
        exact hs
      refine Run.call n (by rintro u ⟨⟩; omega) ?_
      exact key _ _ (BitVec.ofNat_add j 1).symm ((hm _).trans (by rw [e]))
    · have h : ¬ 0 < s.1 := fun h => hc ((goes_on j (by omega) s.1).mpr ⟨by omega, h⟩)
      have e : groupRound B.row s = s := if_neg h
      rw [Function.iterate_fixed e]
      refine ⟨hσ.1, hT, ?_⟩
      rcases hσ.2 with h' | h'
      · exact absurd h'.2 h
      · exact h'

end Entmax.KernelIdeal
end
-- ==== Proof.Newton.lean ====
/-
  The root finding of a grid point, once the scores are there: six Newton steps on the maxima of the sixteens, then the rounds.
-/
module

public import proofs.«01_k».proof.Proof.While

@[expose] public section

noncomputable section

namespace Entmax.KernelIdeal

open Idealize.ShloMosaic Idealize.ShloMosaic.TcCoe Cert.KernelIdeal
open Idealize.SL.Sem

variable {c : Dev nD} {ms : Mems sig}

/-- The number of keys that a row sees. -/
theorem vis_val (i : grid0.Coords) {B : Blk} (hB : B.tq = tq i) {hi1 hb} (x : S1x512.Idx) :
    sitofp (F := Ideal) .f32 (addi (addi (broadcast S1x512 (Scalar.muli (BitVec.ofNat 32 (i 2).val) 128#32))
          (select (andi (xori (cmpi .slt (remsi (iota .tc S1x512 32 [1] hi1) (broadcast S1x512 (Scalar.select (Scalar.cmpi .eq 128#32 0#32) 1#32 128#32))) (broadcast S1x512 0#32))
              (broadcastTo S1x512 (broadcast S1x512 (Scalar.cmpi .slt (Scalar.select (Scalar.cmpi .eq 128#32 0#32) 1#32 128#32) 0#32)) hb))
              (cmpi .ne (remsi (iota .tc S1x512 32 [1] hi1) (broadcast S1x512 (Scalar.select (Scalar.cmpi .eq 128#32 0#32) 1#32 128#32))) (broadcast S1x512 0#32)))
            (addi (remsi (iota .tc S1x512 32 [1] hi1) (broadcast S1x512 (Scalar.select (Scalar.cmpi .eq 128#32 0#32) 1#32 128#32))) (broadcast S1x512 (Scalar.select (Scalar.cmpi .eq 128#32 0#32) 1#32 128#32)))
            (remsi (iota .tc S1x512 32 [1] hi1) (broadcast S1x512 (Scalar.select (Scalar.cmpi .eq 128#32 0#32) 1#32 128#32)))))
        (broadcast S1x512 1#32)) x = B.vis (x 1).val := by
  have h1 : (x 1).val < 512 := (x 1).isLt
  have ht := tq_lt i
  show (((IntOp.addi (IntOp.addi (Scalar.muli (BitVec.ofNat 32 (i 2).val) 128#32) (laneWord (0 * 512 + (x 1).val))) 1#32).toInt : ℝ) : EReal) = _
  rw [Nat.zero_mul, Nat.zero_add, show laneWord (x 1).val = _ from laneWord_fin ⟨(x 1).val, h1⟩]
  have e : IntOp.addi (IntOp.addi (Scalar.muli (BitVec.ofNat 32 (i 2).val) 128#32) (BitVec.ofNat 32 ((x 1).val % 128))) 1#32 = BitVec.ofNat 32 (128 * B.tq + (x 1).val % 128 + 1) := by
    rw [hB]
    show BitVec.ofNat 32 (tq i) * BitVec.ofNat 32 128 + BitVec.ofNat 32 ((x 1).val % 128) + BitVec.ofNat 32 1 = _
    rw [← BitVec.ofNat_mul, ← BitVec.ofNat_add, ← BitVec.ofNat_add, Nat.mul_comm]
  have e' : IntOp.addi (IntOp.addi (Scalar.muli (BitVec.ofNat 32 (i 2).val) 128#32) (BitVec.ofNat 32 ((⟨(x 1).val, h1⟩ : Fin 512).val % 128))) 1#32 = BitVec.ofNat 32 (128 * B.tq + (x 1).val % 128 + 1) := e
  rw [e', toInt_small _ (by rw [hB]; omega)]
  rfl

/-- The thresholds, and the values weighed at them. -/
theorem part98_run (i : grid0.Coords) {B : Blk} (hB : B.tq = tq i) (hms : ∀ b, (ms b).IsWhole)
    {v28 v33 v2576 : FVec Ideal S1x512 .f32} (ha : IsRow (fun l => (B.row l).a) v28) (hc2 : IsRow (fun l => (B.row l).c2) v33) (hm : IsRow (fun l => (B.row l).m) v2576) :
    RunI c ms none (Sc B (ch i + 1)) (k0_part98 i (ms .q) (hms .q) (ms .qs) (hms .qs) (ms .k) (hms .k) (ms .ks) (hms .ks)
      (ms .vt) (hms .vt) (ms .vs) (hms .vs) (ms .o) (hms .o) (ms .tau) (hms .tau) (ms .y) (hms .y) (ms .p) (hms .p)
      (ms .ksx) (hms .ksx) (ms .vsx) (hms .vsx) (ms .vtw) (hms .vtw) (ms .w) (hms .w) (ms .acc) (hms .acc) (BitVec.ofNat 32 (i 2).val) (Scalar.addi (chunkWord (i 2).val) 1#32) v28 v33 v2576)
      (fun r σ => Sc B (ch i + 1) σ ∧ (∀ x, r.1 x = (roots B.row (x 1) - B.M (x 1).val) * B.qs (x 1).val) ∧
        ∀ x, σ .acc x = B.out (roots B.row) (x 0).val (x 1)) := by
  have hc := ch_lt i
  have hlo : IsRow (fun l => (B.row l).lo) (subf (F := Ideal) (φ := .f32) v2576 v28) := fun x => by
    show v2576 x - v28 x = _
    rw [hm x, ha x]; rfl
  have hhi : ∀ n : FVec Ideal S1x512 .f32, (∀ x, n x = B.vis (x 1).val) →
      IsRow (fun l => (B.row l).hi) (subf (F := Ideal) (φ := .f32) v2576 (mulf (F := Ideal) (φ := .f32) v28 (rsqrt (F := Ideal) (φ := .f32) n))) := fun n hn x => by
    show v2576 x - v28 x * Ideal.rsqrt (n x) = _
    rw [hm x, ha x, hn x]; rfl
  have hhi' := fun {hi1 hb} => hhi _ (vis_val i hB (hi1 := hi1) (hb := hb))
  refine RunI.bind_calc (fun k U => IsRow (fun l => (B.row l).poolStep^[k] (B.row l).lo) U) hlo (fun k U hU => ?_) fun U hU => ?_
  · obtain ⟨u, hu⟩ : ∃ u : Fin 512 → EReal, u = fun l => (B.row l).poolStep^[k.val] (B.row l).lo := ⟨_, rfl⟩
    rw [← hu] at hU
    refine RunI.bind_calc (fun j a => IsSum (one B.P u) (4 * j) a.1 ∧ IsSum (two B.P u) (4 * j) a.2) ⟨isSum_zero, isSum_zero⟩ (fun j a ha => ?_) fun b hb => ?_
    · have hk : j.val < ch i + 1 := Nat.lt_of_lt_of_eq j.isLt (t7_trips i)
      obtain ⟨h1, h2⟩ := ha
      iterate 10 first
        | (with_reducible refine RunI.load_p (fun _ h => h) (off17_eq i j _) (by omega) ?_; intro v hv)
        | with_reducible refine RunI.pure_bind ?_
        | skip
      refine RunI.ret fun σ hσ => ⟨⟨?_, ?_⟩, hσ⟩
      · show IsSum _ (4 * j.val + 4) _
        iterate 4 refine isSum_one hU ?_ (by assumption) (by omega)
        exact h1
      · show IsSum _ (4 * j.val + 4) _
        iterate 4 refine isSum_two hU ?_ (by assumption) (by omega)
        exact h2
    refine RunI.bind_loop_zero (Gen.k0_t8_abs i).2.1 ?_
    rw [t7_trips] at hb
    refine RunI.ret fun σ hσ => ⟨?_, hσ⟩
    have hP1 := fun {hr hc} => isSum_total (t := u) (N := 384) hb.1 (by omega) (fun k l hk => one_bot (P_beyond hB l.val (by omega))) (hr := hr) (hc := hc)
    have hP2 := fun {hr hc} => isSum_total (t := u) (N := 384) hb.2 (by omega) (fun k l hk => two_bot (P_beyond hB l.val (by omega))) (hr := hr) (hc := hc)
    have e : (fun l => (B.row l).poolStep^[k.val + 1] (B.row l).lo) = fun l => (B.row l).poolStep (u l) := by
      funext l
      rw [hu, Function.iterate_succ_apply']
    rw [e]
    exact newton_row hlo hhi' hU hP1 (num_row ha hP2)
  rw [t6_trips] at hU
  refine RunI.bind (R := fun r σ => Sc B (ch i + 1) σ ∧ IsRow (roots B.row) r.2.2 ∧ ∀ x, σ .acc x = B.out (roots B.row) (x 0).val (x 1)) (fun σ hσ => ?_) fun r => ?_
  · refine Run.call 6 (by rintro u ⟨⟩) ?_
    exact while_run (c := c) (ms := ms) i hB hms ⟨ha, hlo, hhi', hc2, hm⟩ 6 0 (Ideal.ofBits .f32 0x3F800000#32, fun g => (B.row g).poolStep^[6] (B.row g).lo) U rfl hU σ ⟨hσ, .inl ⟨by decide, by rw [Ideal.ofBits_one_f32]; exact zero_lt_one⟩⟩
  refine RunI.load_of .qs (fun v => ∀ x, v x = B.qs (x 4).val) (fun σ h x => ?_) fun q hq => ?_
  · refine (h.1.win.qs _).trans ?_
    rw [unit_idx]
    show B.qs (0 + _) = _
    rw [Nat.zero_add]
  refine RunI.load_any _ ?_
  intro _
  refine RunI.ret fun σ h => ⟨h.1, fun x => ?_, h.2.2⟩
  show (r.2.2 x - v2576 x) * shapeCast S1x512 q _ x = _
  rw [h.2.1 x, hm x, lane_val (φ := .f32) hq]
  rfl

end Entmax.KernelIdeal
end
-- ==== Proof.Masked.lean ====
/-
  The scores of a grid point: all chunks of keys up to the diagonal one, whose tiles are masked, and the greatest score of
  each row.
-/
module

public import proofs.«01_k».proof.Proof.Expand
public import proofs.«01_k».proof.Proof.Newton

@[expose] public section

noncomputable section

namespace Entmax.KernelIdeal

open Idealize.ShloMosaic Idealize.ShloMosaic.TcCoe Cert.KernelIdeal
open Idealize.SL.Sem

variable {c : Dev nD} {ms : Mems sig}

/-- A running maximum over rows of the pool. -/
def IsTop (f : ℕ → ℕ → EReal) (n : ℕ) (M : FVec Ideal S8x512 .f32) : Prop :=
  ∀ x : S8x512.Idx, M x = (Finset.range n).sup fun j => f (8 * j + (x 0).val) (x 1).val

theorem isTop_zero {f : ℕ → ℕ → EReal} : IsTop f 0 (broadcast S8x512 (Scalar.ofBits (F := Ideal) .f32 0xFF800000#32)) := fun x => by
  show Ideal.ofBits .f32 0xFF800000#32 = _
  simp [Ideal.ofBits, Ideal.ieee]

theorem isTop_succ {f : ℕ → ℕ → EReal} {n o : ℕ} {M T : FVec Ideal S8x512 .f32} (hM : IsTop f n M) (hT : ∀ x, T x = f (o + (x 0).val) (x 1).val)
    (ho : o = 8 * n) : IsTop f (n + 1) (maximumf (F := Ideal) (φ := .f32) M T) := fun x => by
  show max (M x) (T x) = _
  rw [hM x, hT x, ho, Finset.range_add_one, Finset.sup_insert, sup_comm]

/-- The greatest over the rows of eight running maxima. -/
theorem top_val {f : ℕ → ℕ → EReal} {n : ℕ} {M : FVec Ideal S8x512 .f32} (hM : IsTop f n M) {h1 hr} (x : S1x512.Idx) :
    shapeCast S1x512 (multiReduction (F := Ideal) (φ := .f32) .maximumf [0] S512 M 0xFF800000#32 hr (.inl rfl) rfl) h1 x
      = (Finset.range (8 * n)).sup fun j => f j (x 1).val := by
  have hb : (FloatOps.ofBits (F := Ideal) .f32 0xFF800000#32 : EReal) = ⊥ := by
    show Ideal.ofBits .f32 0xFF800000#32 = ⊥
    simp [Ideal.ofBits, Ideal.ieee]
  have h0 : (x 0).val < 1 := (x 0).isLt
  rw [shapeCast_apply _ h1 x (ValueIdx.ix1 (x 1)) (by
    rw [Shape.rowMajor_val_two, Shape.rowMajor_val_one]
    show (x 1).val = (x 0).val * 512 + (x 1).val
    omega)]
  haveI : Std.Commutative (FloatOps.maximumf (F := Ideal) (φ := .f32)) := ⟨fun a b => max_comm a b⟩
  haveI : Std.Associative (FloatOps.maximumf (F := Ideal) (φ := .f32)) := ⟨fun a b c => max_assoc a b c⟩
  rw [(multiReduction_maximumf_eq_fold (F := Ideal) (φ := .f32) M 0xFF800000#32 hr (.inl rfl) rfl _ :), hb]
  rw [hr.fold_filter_drop_single]
  show Finset.univ.sup _ = _
  apply le_antisymm
  · refine Finset.sup_le fun k _ => ?_
    show M (hr.lift (ValueIdx.ix1 (x 1)) k) ≤ _
    rw [hM]
    refine Finset.sup_le fun j hj => ?_
    have hk : ((hr.lift (ValueIdx.ix1 (x 1)) k) 0).val < 8 := ((hr.lift (ValueIdx.ix1 (x 1)) k) 0).isLt
    have hj' := Finset.mem_range.mp hj
    have h2 : ((hr.lift (ValueIdx.ix1 (x 1)) k) 1).val = (x 1).val := rfl
    rw [h2]
    exact Finset.le_sup (f := fun j => f j (x 1).val) (Finset.mem_range.mpr (by omega))
  · refine Finset.sup_le fun j hj => ?_
    have hj' := Finset.mem_range.mp hj
    have e := hM (hr.lift (ValueIdx.ix1 (x 1)) (⟨j % 8, by show _ < 8; omega⟩ : Fin (S8x512.size 0)))
    refine le_trans ?_ (Finset.le_sup (f := M ∘ hr.lift (ValueIdx.ix1 (x 1))) (Finset.mem_univ (⟨j % 8, by show _ < 8; omega⟩ : Fin (S8x512.size 0))))
    show _ ≤ M _
    rw [e]
    have h2 : ((hr.lift (ValueIdx.ix1 (x 1)) (⟨j % 8, by show _ < 8; omega⟩ : Fin (S8x512.size 0))) 1).val = (x 1).val := rfl
    have h3 : ((hr.lift (ValueIdx.ix1 (x 1)) (⟨j % 8, by show _ < 8; omega⟩ : Fin (S8x512.size 0))) 0).val = j % 8 := rfl
    rw [h2, h3]
    refine le_trans (le_of_eq ?_) (Finset.le_sup (f := fun i => f (8 * i + j % 8) (x 1).val) (Finset.mem_range.mpr (show j / 8 < n by omega)))
    show f j _ = f (8 * (j / 8) + j % 8) _
    rw [Nat.div_add_mod]

theorem sup_beyond {f : ℕ → EReal} {n N : ℕ} (hn : n ≤ N) (h : ∀ j, n ≤ j → f j = ⊥) :
    (Finset.range n).sup f = Finset.univ.sup fun j : Fin N => f j.val := by
  apply le_antisymm
  · refine Finset.sup_le fun j hj => ?_
    have hj' := Finset.mem_range.mp hj
    exact Finset.le_sup (f := fun j : Fin N => f j.val) (Finset.mem_univ (⟨j, by omega⟩ : Fin N))
  · refine Finset.sup_le fun j _ => ?_
    by_cases h' : n ≤ j.val
    · rw [h _ h']; exact bot_le
    · exact Finset.le_sup (f := f) (Finset.mem_range.mpr (by omega))

theorem top_eq {B : Blk} {i : grid0.Coords} (hB : B.tq = tq i) (l : ℕ) :
    ((Finset.range (8 * (4 * (ch i + 1)))).sup fun j => B.P j l) = B.M l := by
  have hc := ch_lt i
  exact sup_beyond (f := fun j => B.P j l) (N := 384) (by omega) fun j hj => P_beyond hB l (by omega)

theorem scale_val {B : Blk} {σ₀ : St Ideal} (hW : Win B σ₀) {inb h} (x : S1x512.Idx) :
    shapeCast S1x512 (fun x => σ₀ .qs ((Rect.unit (s := S1x1x1x1x512) ![0, 0, 0, 0, 0] S1x1x1x1x512.size inb).toLoadRect.idx x)) h x = B.qs (x 1).val :=
  lane_val (φ := .f32) (fun y => (whole_val4 (s := S1x1x1x1x512) (σ₀ .qs) (by decide) inb y).trans (hW.qs y)) x

set_option maxHeartbeats 4000000 in
/-- The computing part of the body: the thresholds of the rows, and the sums of the values that they weigh. -/
theorem part99_run (i : grid0.Coords) {B : Blk} (hB : B.tq = tq i) (hms : ∀ b, (ms b).IsWhole) :
    RunI c ms none (fun σ => Win B σ ∧ (tq i ≠ 0 → Exp B σ)) (k0_part99 i (ms .q) (hms .q) (ms .qs) (hms .qs) (ms .k) (hms .k) (ms .ks) (hms .ks)
      (ms .vt) (hms .vt) (ms .vs) (hms .vs) (ms .o) (hms .o) (ms .tau) (hms .tau) (ms .y) (hms .y) (ms .p) (hms .p)
      (ms .ksx) (hms .ksx) (ms .vsx) (hms .vsx) (ms .vtw) (hms .vtw) (ms .w) (hms .w) (ms .acc) (hms .acc))
      (fun r σ => Sc B (ch i + 1) σ ∧ (∀ x, r.1 x = B.qs (x 1).val * B.qs (x 1).val) ∧
        (∀ x, r.2.1 x = (roots B.row (x 1) - B.M (x 1).val) * B.qs (x 1).val) ∧
        ∀ x, σ .acc x = B.out (roots B.row) (x 0).val (x 1)) := by
  have hc := ch_lt i
  refine RunI.bind (expand_run i hms) ?_
  rintro a σ₀ ⟨⟨hW, hE⟩, v5, v28, v29, rfl, hv5, hv28, hv29⟩
  suffices h : RunI c ms none (Inv B σ₀ 0 0) _ _ from h σ₀ ⟨fun _ _ _ => rfl, fun x h => absurd h (Nat.not_lt_zero _), fun x h => absurd h (Nat.not_lt_zero _)⟩
  refine RunI.assoc ?_
  refine RunI.load_same .qs (by decide) (by decide) ?_
  refine RunI.assoc ?_
  refine RunI.bind_loop (fun t _ => Inv B σ₀ (512 * t) (32 * t)) (fun σ h => h) (fun t a => ?_) fun a => ?_
  · have ht : t.val < B.tq / 4 := by rw [hB]; exact Nat.lt_of_lt_of_eq t.isLt (t2_trips i)
    refine RunI.assoc ?_
    refine RunI.load_k hW (off3_eq i t) ?_
    intro K hK
    have hA := fun h1 => acc_val (keys_val (h1 := h1) hK) hv5
    repeat first
      | (with_reducible refine RunI.load_ks hE (off4_eq i t _) ?_; intro L hL)
      | with_reducible refine RunI.store_y (off5_eq i t _) (by omega) (cast_val (tile_Y (hA _) rfl ht (by assumption) rfl (by decide))) ?_
      | with_reducible refine RunI.pure_bind ?_
      | (with_reducible refine RunI.store_p (off6_eq i t _) (by omega) (isMax_cast (by
          iterate 15 refine isMax_succ ?_ (tile_Y (hA _) rfl ht (by assumption) rfl (by decide)) (by omega)
          exact isMax_zero (tile_Y (hA _) rfl ht (by assumption) rfl (by decide)) (by omega)) (by omega)) ?_)
      | (with_reducible refine RunI.load_any _ ?_; intro _)
      | (refine RunI.assoc ?_)
    refine RunI.ret fun σ h => ?_
    rw [Nat.mul_add, Nat.mul_add]
    exact h
  · refine RunI.assoc ?_
    refine RunI.bind_loop_zero (Gen.k0_t3_abs i).2.1 ?_
    rw [t2_trips]
    refine RunI.assoc ?_
    refine RunI.load_k hW (off11_eq i) ?_
    intro K hK
    have hA := fun h1 => acc_val (keys_val (h1 := h1) hK) hv5
    refine RunI.assoc ?_
    refine RunI.load_ks hE (off12_eq i _) ?_
    intro L hL
    repeat first
      | (with_reducible refine RunI.load_ks hE (off12_eq i _) ?_; intro L hL)
      | with_reducible refine RunI.store_y (off13_eq i _) (by omega) (cast_val (masked_Y hB (tile_val (hA _) (by assumption) rfl) rfl (by decide))) ?_
      | with_reducible refine RunI.pure_bind ?_
      | (with_reducible refine RunI.store_p (off14_eq i _) (by omega) (isMax_cast (by
          iterate 15 refine isMax_succ ?_ (masked_Y hB (tile_val (hA _) (by assumption) rfl) rfl (by decide)) (by omega)
          exact isMax_zero (masked_Y hB (tile_val (hA _) (by assumption) rfl) rfl (by decide)) (by omega)) (by omega)) ?_)
      | (with_reducible refine RunI.load_any _ ?_; intro _)
      | (refine RunI.assoc ?_)
    suffices h : RunI c ms none (Sc B (ch i + 1)) _ _ from fun σ hσ => h σ (Inv.sc hW hE (by convert hσ using 1 <;> omega))
    refine RunI.bind_calc (fun k M => IsTop B.P (4 * k) M) isTop_zero (fun k M hM => ?_) fun M hM => ?_
    · have hk : k.val < ch i + 1 := Nat.lt_of_lt_of_eq k.isLt (t4_trips i)
      iterate 10 first
        | (with_reducible refine RunI.load_p (fun _ h => h) (off15_eq i k _) (by omega) ?_; intro v hv)
        | with_reducible refine RunI.pure_bind ?_
        | skip
      refine RunI.ret fun σ hσ => ⟨?_, hσ⟩
      show IsTop _ (4 * k.val + 4) _
      iterate 4 refine isTop_succ ?_ (by assumption) (by omega)
      exact hM
    rw [t4_trips] at hM
    refine RunI.assoc ?_
    refine RunI.bind_loop_zero (Gen.k0_t5_abs i).2.1 ?_
    refine RunI.pure_bind ?_
    refine RunI.bind (part98_run i hB hms (fun x => (hv28 x).trans rfl) (fun x => ?_) fun x => (top_val hM x).trans (top_eq hB _)) ?_
    · exact congrArg₂ (fun a b : EReal => a * b) (lane_val hv29 x) (scale_val hW x)
    · intro r
      refine RunI.ret fun σ h => ⟨h.1, fun x => ?_, h.2.1, h.2.2⟩
      exact congrArg₂ (fun a b : EReal => a * b) (lane_val hv29 x) (scale_val hW x)

end Entmax.KernelIdeal
end
-- ==== Proof.Body.lean ====
/-
  The whole body at a grid point: what it leaves in the windows of the two results, and the scratch that it keeps.
-/
module

public import proofs.«01_k».proof.Proof.Masked

@[expose] public section

noncomputable section

namespace Entmax

/-- The output of a grid point, coordinate `d` of row `l`. -/
def Blk.res (B : Blk) (d l : ℕ) : EReal := B.out (roots B.row) d (Fin.ofNat 512 l) * (B.qs l * B.qs l)

/-- The relative threshold of row `l`. -/
def Blk.rel (B : Blk) (l : ℕ) : EReal := (roots B.row (Fin.ofNat 512 l) - B.M l) * B.qs l

theorem ofNat_val {n : ℕ} [NeZero n] (l : Fin n) : Fin.ofNat n l.val = l := Fin.ext (Nat.mod_eq_of_lt l.isLt)

end Entmax

namespace Entmax.KernelIdeal

open Idealize.ShloMosaic Idealize.ShloMosaic.TcCoe Cert.KernelIdeal
open Idealize.SL.Sem

variable {c : Dev nD} {ms : Mems sig}

/-- Four blocks of rows, one under another. -/
theorem stack_apply (L0 L1 L2 L3 : S160x128.Idx → EReal) (G : ℕ → ℕ → EReal)
    (h0 : ∀ x, L0 x = G (x 0).val (0 + (x 1).val)) (h1 : ∀ x, L1 x = G (x 0).val (128 + (x 1).val))
    (h2 : ∀ x, L2 x = G (x 0).val (256 + (x 1).val)) (h3 : ∀ x, L3 x = G (x 0).val (384 + (x 1).val))
    (hc : Shape.Concatenates (([⟨S160x128, L0⟩, ⟨S160x128, L1⟩, ⟨S160x128, L2⟩, ⟨S160x128, L3⟩] : List ((s : Shape) × (s.Idx → EReal))).map (·.1)) S640x128 0)
    (x : S640x128.Idx) :
    concatenate S640x128 0 [⟨S160x128, L0⟩, ⟨S160x128, L1⟩, ⟨S160x128, L2⟩, ⟨S160x128, L3⟩] hc x = G ((x 0).val % 160) (128 * ((x 0).val / 160) + (x 1).val) := by
  have hx : (x 0).val < 640 := (x 0).isLt
  rw [concatenate_cons_apply]
  simp only [concatenateAt_cons, concatenateAt_singleton, h0, h1, h2, h3]
  split_ifs with a1 a2 a3
  · have a1' : (x 0).val < 160 := a1
    show G (x 0).val (0 + (x 1).val) = _
    congr 1 <;> omega
  · have a1' : ¬ (x 0).val < 160 := a1
    have a2' : (x 0).val - 160 < 160 := a2
    show G ((x 0).val - 160) (128 + (x 1).val) = _
    congr 1 <;> omega
  · have a1' : ¬ (x 0).val < 160 := a1
    have a2' : ¬ (x 0).val - 160 < 160 := a2
    have a3' : (x 0).val - 160 - 160 < 160 := a3
    show G ((x 0).val - 160 - 160) (256 + (x 1).val) = _
    congr 1 <;> omega
  · have a1' : ¬ (x 0).val < 160 := a1
    have a2' : ¬ (x 0).val - 160 < 160 := a2
    have a3' : ¬ (x 0).val - 160 - 160 < 160 := a3
    show G ((x 0).val - 160 - 160 - 160) (384 + (x 1).val) = _
    congr 1 <;> omega

theorem res_val {G : ℕ → ℕ → EReal} {A : FVec Ideal S160x512 .f32} (hA : ∀ x, A x = G (x 0).val (x 1).val) {s0 s1 s2 s3 hc ht hb h1} (x : S1x128x640.Idx) :
    shapeCast S1x128x640 (truncf (F := Ideal) (φ := .f32) .bf16 (transpose S128x640 [1, 0]
      (concatenate S640x128 0 [⟨S160x128, extractStridedSlice S160x128 ![0, 0] A s0⟩, ⟨S160x128, extractStridedSlice S160x128 ![0, 128] A s1⟩,
        ⟨S160x128, extractStridedSlice S160x128 ![0, 256] A s2⟩, ⟨S160x128, extractStridedSlice S160x128 ![0, 384] A s3⟩] hc) ht) hb) h1 x
      = G ((x 2).val % 160) (128 * ((x 2).val / 160) + (x 1).val) := by
  have h0 : (x 0).val < 1 := (x 0).isLt
  rw [shapeCast_apply _ h1 x (ValueIdx.ix2 (x 1) (x 2)) (by
    rw [Shape.rowMajor_val_two, Shape.rowMajor_val_three]
    show (x 1).val * 640 + (x 2).val = ((x 0).val * 128 + (x 1).val) * 640 + (x 2).val
    omega)]
  have hs : ∀ {o : ℕ} (s : S160x512.Slices ![0, o] S160x128) (y : S160x128.Idx), extractStridedSlice S160x128 ![0, o] A s y = G (y 0).val (o + (y 1).val) := fun s y => by
    refine (hA _).trans ?_
    refine congrArg (G · _) (Nat.zero_add (y 0).val)
  exact stack_apply _ _ _ _ G (hs s0) (hs s1) (hs s2) (hs s3) hc _

/-- What the body does: the windows of the results at the grid point's values, and the expanded scales and values kept. -/
theorem attention_run (i : grid0.Coords) {B : Blk} (hB : B.tq = tq i) (hms : ∀ b, (ms b).IsWhole) :
    RunI c ms none (fun σ => Win B σ ∧ (tq i ≠ 0 → Exp B σ)) (cc0_entmax15_attention i (ms .q) (hms .q) (ms .qs) (hms .qs) (ms .k) (hms .k) (ms .ks) (hms .ks)
      (ms .vt) (hms .vt) (ms .vs) (hms .vs) (ms .o) (hms .o) (ms .tau) (hms .tau) (ms .y) (hms .y) (ms .p) (hms .p)
      (ms .ksx) (hms .ksx) (ms .vsx) (hms .vsx) (ms .vtw) (hms .vtw) (ms .w) (hms .w) (ms .acc) (hms .acc))
      (fun _ σ => Sc B (ch i + 1) σ ∧ (∀ x, σ .tau x = B.rel (x 4).val) ∧
        ∀ x, σ .o x = B.res ((x 2).val % 160) (128 * ((x 2).val / 160) + (x 1).val)) := by
  refine RunI.bind (part99_run i hB hms) ?_
  rintro ⟨v33, u, w⟩
  suffices h : ∀ (hv : ∀ x, v33 x = B.qs (x 1).val * B.qs (x 1).val) (hu : ∀ x, u x = (roots B.row (x 1) - B.M (x 1).val) * B.qs (x 1).val),
      RunI c ms none (fun σ => Sc B (ch i + 1) σ ∧ ∀ x, σ .acc x = B.out (roots B.row) (x 0).val (x 1)) _ _ from
    fun σ hσ => h hσ.2.1 hσ.2.2.1 σ ⟨hσ.1, hσ.2.2.2⟩
  intro hv hu
  refine RunI.store_of .tau (fun σ => Sc B (ch i + 1) σ ∧ (∀ x, σ .acc x = B.out (roots B.row) (x 0).val (x 1)) ∧ ∀ x, σ .tau x = B.rel (x 4).val)
    (fun σ h => ⟨h.1.put .tau (by decide) _, fun x => (congrFun (Function.update_of_ne (by decide) _ _) x).trans (h.2 x), fun x => ?_⟩) ?_
  · unfold put; rw [Function.update_self]
    refine overlay_all (s := S1x1x1x1x512) (off := ![0, 0, 0, 0, 0]) (by decide) _ (σ .tau) _ x ?_
    have a0 : (x 0).val < 1 := (x 0).isLt
    have a1 : (x 1).val < 1 := (x 1).isLt
    have a2 : (x 2).val < 1 := (x 2).isLt
    have a3 : (x 3).val < 1 := (x 3).isLt
    rw [shapeCast_apply u _ x (ValueIdx.ix2 (0 : Fin 1) (x 4)) (by
      rw [Shape.rowMajor_val_two, Shape.rowMajor_val_five]
      show 0 * 512 + (x 4).val = ((((x 0).val * 1 + (x 1).val) * 1 + (x 2).val) * 1 + (x 3).val) * 512 + (x 4).val
      omega)]
    refine (hu _).trans ?_
    unfold Blk.rel
    exact congrArg (fun l => (roots B.row l - B.M (x 4).val) * B.qs (x 4).val) (ofNat_val (n := 512) (x 4)).symm
  refine RunI.load_of .acc (fun v => ∀ x, v x = B.out (roots B.row) (x 0).val (x 1)) (fun σ h x => ?_) fun v hacc => ?_
  · exact (whole_val4 (s := S160x512) (σ .acc) (by decide) _ x).trans (h.2.1 x)
  refine RunI.load_any _ ?_
  intro _
  refine RunI.store_of .o (fun σ => Sc B (ch i + 1) σ ∧ (∀ x, σ .tau x = B.rel (x 4).val) ∧ ∀ x, σ .o x = B.res ((x 2).val % 160) (128 * ((x 2).val / 160) + (x 1).val))
    (fun σ h => ⟨h.1.put .o (by decide) _, fun x => (congrFun (Function.update_of_ne (by decide) _ _) x).trans (h.2.2 x), fun x => ?_⟩) ?_
  · unfold put; rw [Function.update_self]
    refine overlay_all (s := S1x128x640) (off := ![0, 0, 0]) (by decide) _ (σ .o) _ x ?_
    refine res_val (G := B.res) (fun y => ?_) x
    show v y * broadcastTo S160x512 v33 _ y = _
    rw [hacc y]
    refine (congrArg (B.out (roots B.row) (y 0).val (y 1) * ·) (hv _)).trans ?_
    unfold Blk.res
    exact congrArg (fun l => B.out (roots B.row) (y 0).val l * (B.qs (y 1).val * B.qs (y 1).val)) (ofNat_val (n := 512) (y 1)).symm
  exact RunI.ret fun σ h => h

end Entmax.KernelIdeal
end
-- ==== Proof.Args.lean ====
/-
  The six argument arrays by their plain coordinates, and the data of one grid point in them.
-/
module

public import proofs.«01_k».proof.Proof.Tiles

@[expose] public section

noncomputable section

namespace Entmax

open Idealize.ShloMosaic

/-- The codes and scales: batch, position, head, coordinate. -/
structure Args where
  q : ℕ → ℕ → ℕ → ℕ → EReal
  qs : ℕ → ℕ → ℕ → EReal
  k : ℕ → ℕ → ℕ → ℕ → EReal
  ks : ℕ → ℕ → ℕ → EReal
  v : ℕ → ℕ → ℕ → ℕ → EReal
  vs : ℕ → ℕ → ℕ → EReal

/-- The arrays read at plain coordinates. -/
def Args.of (q : (⟨4, ![2, 6144, 12, 160]⟩ : Shape).Idx → EReal) (qs : (⟨3, ![2, 6144, 12]⟩ : Shape).Idx → EReal)
    (k : (⟨4, ![2, 6144, 3, 160]⟩ : Shape).Idx → EReal) (ks : (⟨3, ![2, 6144, 3]⟩ : Shape).Idx → EReal)
    (v : (⟨4, ![2, 6144, 3, 160]⟩ : Shape).Idx → EReal) (vs : (⟨3, ![2, 6144, 3]⟩ : Shape).Idx → EReal) : Args where
  q b s h d := q (ValueIdx.ix4 (Fin.ofNat 2 b) (Fin.ofNat 6144 s) (Fin.ofNat 12 h) (Fin.ofNat 160 d))
  qs b s h := qs (ValueIdx.ix3 (Fin.ofNat 2 b) (Fin.ofNat 6144 s) (Fin.ofNat 12 h))
  k b s g d := k (ValueIdx.ix4 (Fin.ofNat 2 b) (Fin.ofNat 6144 s) (Fin.ofNat 3 g) (Fin.ofNat 160 d))
  ks b s g := ks (ValueIdx.ix3 (Fin.ofNat 2 b) (Fin.ofNat 6144 s) (Fin.ofNat 3 g))
  v b s g d := v (ValueIdx.ix4 (Fin.ofNat 2 b) (Fin.ofNat 6144 s) (Fin.ofNat 3 g) (Fin.ofNat 160 d))
  vs b s g := vs (ValueIdx.ix3 (Fin.ofNat 2 b) (Fin.ofNat 6144 s) (Fin.ofNat 3 g))

/-- The data of batch `b`, key head `g` and the query tile `t`: row `l` is query `128 t + l % 128` of head `4 g + l / 128`. -/
def Args.blk (A : Args) (b g t : ℕ) : Blk where
  tq := t
  q l d := A.q b (128 * t + l % 128) (4 * g + l / 128) d
  qs l := A.qs b (128 * t + l % 128) (4 * g + l / 128)
  k j d := A.k b j g d
  ks j := A.ks b j g
  vt d j := A.v b j g d
  vs j := A.vs b j g

/-- An index of four coordinates from the values of its coordinates. -/
theorem idx4 {n0 n1 n2 n3 : ℕ} [NeZero n0] [NeZero n1] [NeZero n2] [NeZero n3] (x : (⟨4, ![n0, n1, n2, n3]⟩ : Shape).Idx) {a b c d : ℕ}
    (h0 : (x 0).val = a) (h1 : (x 1).val = b) (h2 : (x 2).val = c) (h3 : (x 3).val = d) :
    x = ValueIdx.ix4 (Fin.ofNat n0 a) (Fin.ofNat n1 b) (Fin.ofNat n2 c) (Fin.ofNat n3 d) := by
  subst h0 h1 h2 h3
  refine funext fun e => ?_
  match e with
  | ⟨0, _⟩ => exact Fin.ext (Nat.mod_eq_of_lt (x 0).isLt).symm
  | ⟨1, _⟩ => exact Fin.ext (Nat.mod_eq_of_lt (x 1).isLt).symm
  | ⟨2, _⟩ => exact Fin.ext (Nat.mod_eq_of_lt (x 2).isLt).symm
  | ⟨3, _⟩ => exact Fin.ext (Nat.mod_eq_of_lt (x 3).isLt).symm

theorem idx3 {n0 n1 n2 : ℕ} [NeZero n0] [NeZero n1] [NeZero n2] (x : (⟨3, ![n0, n1, n2]⟩ : Shape).Idx) {a b c : ℕ}
    (h0 : (x 0).val = a) (h1 : (x 1).val = b) (h2 : (x 2).val = c) :
    x = ValueIdx.ix3 (Fin.ofNat n0 a) (Fin.ofNat n1 b) (Fin.ofNat n2 c) := by
  subst h0 h1 h2
  refine funext fun e => ?_
  match e with
  | ⟨0, _⟩ => exact Fin.ext (Nat.mod_eq_of_lt (x 0).isLt).symm
  | ⟨1, _⟩ => exact Fin.ext (Nat.mod_eq_of_lt (x 1).isLt).symm
  | ⟨2, _⟩ => exact Fin.ext (Nat.mod_eq_of_lt (x 2).isLt).symm

end Entmax
end
-- ==== Proof.Blocks.lean ====
/-
  The blocks of the six input windows of the kernel's call at a grid point, in the argument arrays.
-/
module

public import proofs.«01_k».proof.Proof.Args
public import proofs.«01_k».proof.Proof.FrameIdeal

@[expose] public section

noncomputable section

namespace Entmax.KernelIdeal

open Cert.KernelIdeal Cert.KernelIdeal.Gen
open Idealize.ShloMosaic Idealize.ShloMosaic.TcCoe

variable (m : (ℓ : Loc nD τ sig) → Buf (Elt Ideal) ℓ)

/-- The argument arrays of core `c`. -/
def A (c : Dev nD) : Args := .of (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

/-- The data of grid point `t`. -/
def B (c : Dev nD) (t : Fin (cfg0 (F := Ideal)).N) : Blk := (A m c).blk (grid0.coords t 0).val (grid0.coords t 1).val (grid0.coords t 2).val

theorem V_v0 (c : Dev nD) : V m c main_v0 = transpose S2x12x6144x160 [0, 2, 1, 3] (m ((c : Thread nD τ).loc main_arg0)) transposes_S2x6144x12x160_S2x12x6144x160_0_2_1_3 := by
  show StableHlo.after (hostOps0) (fun b => m (c, b)) _ = _
  unfold hostOps0
  after_results
theorem V_v1 (c : Dev nD) : V m c main_v1 = transpose S2x3x6144x160 [0, 2, 1, 3] (m ((c : Thread nD τ).loc main_arg2)) transposes_S2x6144x3x160_S2x3x6144x160_0_2_1_3 := by
  show StableHlo.after (hostOps0) (fun b => m (c, b)) _ = _
  unfold hostOps0
  after_results
theorem V_v2 (c : Dev nD) : V m c main_v2 = transpose S2x3x160x6144 [0, 2, 3, 1] (m ((c : Thread nD τ).loc main_arg4)) transposes_S2x6144x3x160_S2x3x160x6144_0_2_3_1 := by
  show StableHlo.after (hostOps0) (fun b => m (c, b)) _ = _
  unfold hostOps0
  after_results
theorem V_v5 (c : Dev nD) : V m c main_v5 = shapeCast S2x3x48x1x512 (transpose S2x3x48x4x128 [0, 3, 1, 4, 2]
      (shapeCast S2x48x128x3x4 (m ((c : Thread nD τ).loc main_arg1)) shapeCasts_S2x6144x12_S2x48x128x3x4) transposes_S2x48x128x3x4_S2x3x48x4x128_0_3_1_4_2)
      shapeCasts_S2x3x48x4x128_S2x3x48x1x512 := by
  show StableHlo.after (hostOps0) (fun b => m (c, b)) _ = _
  unfold hostOps0
  after_results
  rfl
theorem V_v7 (c : Dev nD) : V m c main_v7 = broadcastInDim S2x3x1x6144 ![0, 1, 3] bcast_S2x3x6144_S2x3x1x6144_0_1_3
    (transpose S2x3x6144 [0, 2, 1] (m ((c : Thread nD τ).loc main_arg3)) transposes_S2x6144x3_S2x3x6144_0_2_1) := by
  show StableHlo.after (hostOps0) (fun b => m (c, b)) _ = _
  unfold hostOps0
  after_results
theorem V_v9 (c : Dev nD) : V m c main_v9 = broadcastInDim S2x3x1x6144 ![0, 1, 3] bcast_S2x3x6144_S2x3x1x6144_0_1_3
    (transpose S2x3x6144 [0, 2, 1] (m ((c : Thread nD τ).loc main_arg5)) transposes_S2x6144x3_S2x3x6144_0_2_1) := by
  show StableHlo.after (hostOps0) (fun b => m (c, b)) _ = _
  unfold hostOps0
  after_results

/-- The block of window `w` at point `t`. -/
def iblk (c : Dev nD) (w : Fin (cfg0 (F := Ideal)).W) (t : Fin (cfg0 (F := Ideal)).N) : (((cfg0 (F := Ideal)).win w).xblock ((cfg0 (F := Ideal)).grid.coords t)).Idx → Elt Ideal ((cfg0 (F := Ideal)).win w).elt :=
  (((cfg0 (F := Ideal)).win w).blk t).view.read (Elt Ideal) (V m c (Pipeline.arrRef spec0 w))

theorem word (n : ℕ) (h : n < 48) : (BitVec.ofNat 32 n).toNat = n := by
  rw [BitVec.toNat_ofNat]; exact Nat.mod_eq_of_lt (by omega)

theorem c0_lt (t : Fin grid0.N) : (grid0.coords t 0).val < 2 := (grid0.coords t 0).isLt
theorem c1_lt (t : Fin grid0.N) : (grid0.coords t 1).val < 3 := (grid0.coords t 1).isLt
theorem c2_lt (t : Fin grid0.N) : (grid0.coords t 2).val < 48 := (grid0.coords t 2).isLt

theorem blk_q (c : Dev nD) (t : Fin (cfg0 (F := Ideal)).N) (x : S1x4x128x160.Idx) :
    iblk m c 0 t x = (B m c t).q (128 * (x 1).val + (x 2).val) (x 3).val := by
  have h0 : (x 0).val < 1 := (x 0).isLt
  have h1 : (x 1).val < 4 := (x 1).isLt
  have h2 : (x 2).val < 128 := (x 2).isLt
  show V m c main_v0 ((win0_0.rect t).emb x) = _
  rw [V_v0]
  show m ((c : Thread nD τ).loc main_arg0) _ = m ((c : Thread nD τ).loc main_arg0) _
  refine congrArg _ (idx4 (n0 := 2) (n1 := 6144) (n2 := 12) (n3 := 160) _ ?_ ?_ ?_ ?_)
  · show ((win0_0.rect t).emb x 0 : ℕ) = _
    rw [win0_0.rect_emb_val t x 0]
    show (BitVec.ofNat 32 (grid0.coords t 0).val).toNat * 1 + (x 0).val = _
    rw [word _ (by have := c0_lt t; omega)]; omega
  · show ((win0_0.rect t).emb x 2 : ℕ) = _
    rw [win0_0.rect_emb_val t x 2]
    show (BitVec.ofNat 32 (grid0.coords t 2).val).toNat * 128 + (x 2).val = _
    rw [word _ (c2_lt t)]; omega
  · show ((win0_0.rect t).emb x 1 : ℕ) = _
    rw [win0_0.rect_emb_val t x 1]
    show (BitVec.ofNat 32 (grid0.coords t 1).val).toNat * 4 + (x 1).val = _
    rw [word _ (by have := c1_lt t; omega)]; omega
  · show ((win0_0.rect t).emb x 3 : ℕ) = _
    rw [win0_0.rect_emb_val t x 3]
    show 0 * 160 + (x 3).val = _
    omega

theorem blk_qs (c : Dev nD) (t : Fin (cfg0 (F := Ideal)).N) (x : S1x1x1x1x512.Idx) :
    iblk m c 1 t x = (B m c t).qs (x 4).val := by
  have h0 : (x 0).val < 1 := (x 0).isLt
  have h1 : (x 1).val < 1 := (x 1).isLt
  have h2 : (x 2).val < 1 := (x 2).isLt
  have h3 : (x 3).val < 1 := (x 3).isLt
  have h4 : (x 4).val < 512 := (x 4).isLt
  have e0 : ((win0_1.rect t).emb x 0 : ℕ) = (grid0.coords t 0).val := by
    rw [win0_1.rect_emb_val t x 0]
    show (BitVec.ofNat 32 (grid0.coords t 0).val).toNat * 1 + (x 0).val = _
    rw [word _ (by have := c0_lt t; omega)]; omega
  have e1 : ((win0_1.rect t).emb x 1 : ℕ) = (grid0.coords t 1).val := by
    rw [win0_1.rect_emb_val t x 1]
    show (BitVec.ofNat 32 (grid0.coords t 1).val).toNat * 1 + (x 1).val = _
    rw [word _ (by have := c1_lt t; omega)]; omega
  have e2 : ((win0_1.rect t).emb x 2 : ℕ) = (grid0.coords t 2).val := by
    rw [win0_1.rect_emb_val t x 2]
    show (BitVec.ofNat 32 (grid0.coords t 2).val).toNat * 1 + (x 2).val = _
    rw [word _ (c2_lt t)]; omega
  have e3 : ((win0_1.rect t).emb x 3 : ℕ) = 0 := by
    rw [win0_1.rect_emb_val t x 3]
    show 0 * 1 + (x 3).val = _
    omega
  have e4 : ((win0_1.rect t).emb x 4 : ℕ) = (x 4).val := by
    rw [win0_1.rect_emb_val t x 4]
    show 0 * 512 + (x 4).val = _
    omega
  show V m c main_v5 ((win0_1.rect t).emb x) = _
  rw [V_v5]
  have hb := c0_lt t; have hg := c1_lt t; have ht := c2_lt t
  refine (shapeCast_apply _ _ _ (ValueIdx.ix5 (⟨(grid0.coords t 0).val, hb⟩ : Fin 2) (⟨(grid0.coords t 1).val, hg⟩ : Fin 3) (⟨(grid0.coords t 2).val, ht⟩ : Fin 48)
    (⟨(x 4).val / 128, by omega⟩ : Fin 4) (⟨(x 4).val % 128, by omega⟩ : Fin 128)) ?_).trans ?_
  · rw [Shape.rowMajor_val_five, Shape.rowMajor_val_five, e0, e1, e2, e3, e4]
    show ((((grid0.coords t 0).val * 3 + (grid0.coords t 1).val) * 48 + (grid0.coords t 2).val) * 4 + (x 4).val / 128) * 128 + (x 4).val % 128
      = ((((grid0.coords t 0).val * 3 + (grid0.coords t 1).val) * 48 + (grid0.coords t 2).val) * 1 + 0) * 512 + (x 4).val
    omega
  refine (shapeCast_apply _ _ _ (ValueIdx.ix3 (Fin.ofNat 2 (grid0.coords t 0).val) (Fin.ofNat 6144 (128 * (grid0.coords t 2).val + (x 4).val % 128))
    (Fin.ofNat 12 (4 * (grid0.coords t 1).val + (x 4).val / 128))) ?_).trans rfl
  rw [Shape.rowMajor_val_five, Shape.rowMajor_val_three]
  show ((grid0.coords t 0).val % 2 * 6144 + (128 * (grid0.coords t 2).val + (x 4).val % 128) % 6144) * 12 + (4 * (grid0.coords t 1).val + (x 4).val / 128) % 12
    = ((((grid0.coords t 0).val * 48 + (grid0.coords t 2).val) * 128 + (x 4).val % 128) * 3 + (grid0.coords t 1).val) * 4 + (x 4).val / 128
  omega

theorem blk_k (c : Dev nD) (t : Fin (cfg0 (F := Ideal)).N) (x : S1x1x6144x160.Idx) :
    iblk m c 2 t x = (B m c t).k (x 2).val (x 3).val := by
  have h0 : (x 0).val < 1 := (x 0).isLt
  have h1 : (x 1).val < 1 := (x 1).isLt
  show V m c main_v1 ((win0_2.rect t).emb x) = _
  rw [V_v1]
  show m ((c : Thread nD τ).loc main_arg2) _ = m ((c : Thread nD τ).loc main_arg2) _
  refine congrArg _ (idx4 (n0 := 2) (n1 := 6144) (n2 := 3) (n3 := 160) _ ?_ ?_ ?_ ?_)
  · show ((win0_2.rect t).emb x 0 : ℕ) = _
    rw [win0_2.rect_emb_val t x 0]
    show (BitVec.ofNat 32 (grid0.coords t 0).val).toNat * 1 + (x 0).val = _
    rw [word _ (by have := c0_lt t; omega)]; omega
  · show ((win0_2.rect t).emb x 2 : ℕ) = _
    rw [win0_2.rect_emb_val t x 2]
    show 0 * 6144 + (x 2).val = _
    omega
  · show ((win0_2.rect t).emb x 1 : ℕ) = _
    rw [win0_2.rect_emb_val t x 1]
    show (BitVec.ofNat 32 (grid0.coords t 1).val).toNat * 1 + (x 1).val = _
    rw [word _ (by have := c1_lt t; omega)]; omega
  · show ((win0_2.rect t).emb x 3 : ℕ) = _
    rw [win0_2.rect_emb_val t x 3]
    show 0 * 160 + (x 3).val = _
    omega

theorem blk_vt (c : Dev nD) (t : Fin (cfg0 (F := Ideal)).N) (x : S1x1x160x6144.Idx) :
    iblk m c 4 t x = (B m c t).vt (x 2).val (x 3).val := by
  have h0 : (x 0).val < 1 := (x 0).isLt
  have h1 : (x 1).val < 1 := (x 1).isLt
  show V m c main_v2 ((win0_4.rect t).emb x) = _
  rw [V_v2]
  show m ((c : Thread nD τ).loc main_arg4) _ = m ((c : Thread nD τ).loc main_arg4) _
  refine congrArg _ (idx4 (n0 := 2) (n1 := 6144) (n2 := 3) (n3 := 160) _ ?_ ?_ ?_ ?_)
  · show ((win0_4.rect t).emb x 0 : ℕ) = _
    rw [win0_4.rect_emb_val t x 0]
    show (BitVec.ofNat 32 (grid0.coords t 0).val).toNat * 1 + (x 0).val = _
    rw [word _ (by have := c0_lt t; omega)]; omega
  · show ((win0_4.rect t).emb x 3 : ℕ) = _
    rw [win0_4.rect_emb_val t x 3]
    show 0 * 6144 + (x 3).val = _
    omega
  · show ((win0_4.rect t).emb x 1 : ℕ) = _
    rw [win0_4.rect_emb_val t x 1]
    show (BitVec.ofNat 32 (grid0.coords t 1).val).toNat * 1 + (x 1).val = _
    rw [word _ (by have := c1_lt t; omega)]; omega
  · show ((win0_4.rect t).emb x 2 : ℕ) = _
    rw [win0_4.rect_emb_val t x 2]
    show 0 * 160 + (x 2).val = _
    omega

theorem blk_ks (c : Dev nD) (t : Fin (cfg0 (F := Ideal)).N) (x : S1x1x1x6144.Idx) :
    iblk m c 3 t x = (B m c t).ks (x 3).val := by
  have h0 : (x 0).val < 1 := (x 0).isLt
  have h1 : (x 1).val < 1 := (x 1).isLt
  show V m c main_v7 ((win0_3.rect t).emb x) = _
  rw [V_v7]
  show m ((c : Thread nD τ).loc main_arg3) _ = m ((c : Thread nD τ).loc main_arg3) _
  refine congrArg _ (idx3 (n0 := 2) (n1 := 6144) (n2 := 3) _ ?_ ?_ ?_)
  · show ((win0_3.rect t).emb x 0 : ℕ) = _
    rw [win0_3.rect_emb_val t x 0]
    show (BitVec.ofNat 32 (grid0.coords t 0).val).toNat * 1 + (x 0).val = _
    rw [word _ (by have := c0_lt t; omega)]; omega
  · show ((win0_3.rect t).emb x 3 : ℕ) = _
    rw [win0_3.rect_emb_val t x 3]
    show 0 * 6144 + (x 3).val = _
    omega
  · show ((win0_3.rect t).emb x 1 : ℕ) = _
    rw [win0_3.rect_emb_val t x 1]
    show (BitVec.ofNat 32 (grid0.coords t 1).val).toNat * 1 + (x 1).val = _
    rw [word _ (by have := c1_lt t; omega)]; omega

theorem blk_vs (c : Dev nD) (t : Fin (cfg0 (F := Ideal)).N) (x : S1x1x1x6144.Idx) :
    iblk m c 5 t x = (B m c t).vs (x 3).val := by
  have h0 : (x 0).val < 1 := (x 0).isLt
  have h1 : (x 1).val < 1 := (x 1).isLt
  show V m c main_v9 ((win0_5.rect t).emb x) = _
  rw [V_v9]
  show m ((c : Thread nD τ).loc main_arg5) _ = m ((c : Thread nD τ).loc main_arg5) _
  refine congrArg _ (idx3 (n0 := 2) (n1 := 6144) (n2 := 3) _ ?_ ?_ ?_)
  · show ((win0_5.rect t).emb x 0 : ℕ) = _
    rw [win0_5.rect_emb_val t x 0]
    show (BitVec.ofNat 32 (grid0.coords t 0).val).toNat * 1 + (x 0).val = _
    rw [word _ (by have := c0_lt t; omega)]; omega
  · show ((win0_5.rect t).emb x 3 : ℕ) = _
    rw [win0_5.rect_emb_val t x 3]
    show 0 * 6144 + (x 3).val = _
    omega
  · show ((win0_5.rect t).emb x 1 : ℕ) = _
    rw [win0_5.rect_emb_val t x 1]
    show (BitVec.ofNat 32 (grid0.coords t 1).val).toNat * 1 + (x 1).val = _
    rw [word _ (by have := c1_lt t; omega)]; omega

end Entmax.KernelIdeal
end
-- ==== Proof.KRun.lean ====
/-
  The kernel's run: what the two results hold at the end, in the argument arrays.
-/
module

public import proofs.«01_k».proof.Proof.Body
public import proofs.«01_k».proof.Proof.Blocks

@[expose] public section

noncomputable section

namespace Entmax.KRun

open Entmax.KernelIdeal hiding frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (ρ : Dev nD → PrngReg)

local notation "𝕄" => MM nD τ sig Ideal

/-- The data of the grid point numbered `n`. -/
def Bn (c : Dev nD) (n : ℕ) : Blk := (A m c).blk (n / 144 % 2) (n / 48 % 3) (n % 48)

theorem co0 (t : Fin (cfg0 (F := Ideal)).N) : (grid0.coords t 0).val = t.val / 144 % 2 := Pipeline.Grid.coords_val t 0 (by decide) rfl
theorem co1 (t : Fin (cfg0 (F := Ideal)).N) : (grid0.coords t 1).val = t.val / 48 % 3 := Pipeline.Grid.coords_val t 1 (by decide) rfl
theorem co2 (t : Fin (cfg0 (F := Ideal)).N) : (grid0.coords t 2).val = t.val % 48 := by
  rw [Pipeline.Grid.coords_val t 2 (S := 1) (B := 48) (by decide) rfl]; omega

theorem B_eq (c : Dev nD) (t : Fin (cfg0 (F := Ideal)).N) : B m c t = Bn m c t.val := by
  unfold B Bn; rw [co0, co1, co2]

/-- What scratch keeps from one grid point to the next of the same keys: the expanded scales and values. -/
def Kept (c : Dev nD) (n : ℕ) (σ : St Ideal) : Prop := n % 48 ≠ 0 → Exp (Bn m c n) σ

theorem kept_succ (c : Dev nD) (n : ℕ) (σ : St Ideal) (h : Exp (Bn m c n) σ) : Kept m c (n + 1) σ := fun hn => by
  have e0 : (n + 1) / 144 % 2 = n / 144 % 2 := by omega
  have e1 : (n + 1) / 48 % 3 = n / 48 % 3 := by omega
  unfold Bn; rw [e0, e1]
  exact ⟨h.ksx, h.vsx, h.vtw⟩

/-- The seven scratch buffers. -/
def scratch (c : Dev nD) (σ : St Ideal) : sProp 𝕄 :=
  iprop(owns (c : Thread nD τ) (Memref.whole cc0_scratch0) fullShare (σ .y) ∗ owns (c : Thread nD τ) (Memref.whole cc0_scratch1) fullShare (σ .p)
    ∗ owns (c : Thread nD τ) (Memref.whole cc0_scratch2) fullShare (σ .ksx) ∗ owns (c : Thread nD τ) (Memref.whole cc0_scratch3) fullShare (σ .vsx)
    ∗ owns (c : Thread nD τ) (Memref.whole cc0_scratch4) fullShare (σ .vtw) ∗ owns (c : Thread nD τ) (Memref.whole cc0_scratch5) fullShare (σ .w)
    ∗ owns (c : Thread nD τ) (Memref.whole cc0_scratch6) fullShare (σ .acc))

/-- The block of the first result at a grid point. -/
def outBlk (c : Dev nD) (t : Fin (cfg0 (F := Ideal)).N) : S1x128x640.Idx → EReal := fun x => (B m c t).res ((x 2).val % 160) (128 * ((x 2).val / 160) + (x 1).val)

/-- The block of the second result at a grid point. -/
def tauBlk (c : Dev nD) (t : Fin (cfg0 (F := Ideal)).N) : S1x1x1x1x512.Idx → EReal := fun x => (B m c t).rel (x 4).val

/-- The region's data: what each window's buffer holds after a grid point, and what scratch holds between them. -/
def vdats (_ : Fin 1) (c : Dev nD) : Dat τ (Elt Ideal) Unit ℕ (UR sig nD τ) ℕ (cfg0 (F := Ideal)) c where
  A w := V m c (Pipeline.arrRef spec0 w)
  after w t := match w with
    | 0 => iblk m c 0 t | 1 => iblk m c 1 t | 2 => iblk m c 2 t | 3 => iblk m c 3 t | 4 => iblk m c 4 t | 5 => iblk m c 5 t
    | 6 => outBlk m c t | 7 => tauBlk m c t
  Φ t := iprop(∃ σ : St Ideal, ⌜Kept m c t.val σ⌝ ∗ scratch c σ ∗ ∃ r, prngReg c r)
  q _ := fullShare
  owed _ := 0

theorem before_0 (c : Dev nD) (t : Fin (cfg0 (F := Ideal)).N) (d) : (vdats m 0 c).before 0 t d = iblk m c 0 t :=
  ((vdats m 0 c).before_in_eq_fetched 0 rfl (fun _ => rfl) (fun _ _ _ => rfl) (fun t => rfl) t d).trans rfl
theorem before_1 (c : Dev nD) (t : Fin (cfg0 (F := Ideal)).N) (d) : (vdats m 0 c).before 1 t d = iblk m c 1 t :=
  ((vdats m 0 c).before_in_eq_fetched 1 rfl (fun _ => rfl) (fun _ _ _ => rfl) (fun t => rfl) t d).trans rfl
theorem before_2 (c : Dev nD) (t : Fin (cfg0 (F := Ideal)).N) (d) : (vdats m 0 c).before 2 t d = iblk m c 2 t :=
  ((vdats m 0 c).before_in_eq_fetched 2 rfl (fun _ => rfl) (fun _ _ _ => rfl) (fun t => rfl) t d).trans rfl
theorem before_3 (c : Dev nD) (t : Fin (cfg0 (F := Ideal)).N) (d) : (vdats m 0 c).before 3 t d = iblk m c 3 t :=
  ((vdats m 0 c).before_in_eq_fetched 3 rfl (fun _ => rfl) (fun _ _ _ => rfl) (fun t => rfl) t d).trans rfl
theorem before_4 (c : Dev nD) (t : Fin (cfg0 (F := Ideal)).N) (d) : (vdats m 0 c).before 4 t d = iblk m c 4 t :=
  ((vdats m 0 c).before_in_eq_fetched 4 rfl (fun _ => rfl) (fun _ _ _ => rfl) (fun t => rfl) t d).trans rfl
theorem before_5 (c : Dev nD) (t : Fin (cfg0 (F := Ideal)).N) (d) : (vdats m 0 c).before 5 t d = iblk m c 5 t :=
  ((vdats m 0 c).before_in_eq_fetched 5 rfl (fun _ => rfl) (fun _ _ _ => rfl) (fun t => rfl) t d).trans rfl

/-- The staging buffers as the body finds them. -/
def found (c : Dev nD) (t : Fin (cfg0 (F := Ideal)).N) : sProp 𝕄 :=
  iprop((∃ d, owns (c : Thread nD τ) (mems Ideal t .q) fullShare ((vdats m 0 c).before 0 t d)) ∗ (∃ d, owns (c : Thread nD τ) (mems Ideal t .qs) fullShare ((vdats m 0 c).before 1 t d))
    ∗ (∃ d, owns (c : Thread nD τ) (mems Ideal t .k) fullShare ((vdats m 0 c).before 2 t d)) ∗ (∃ d, owns (c : Thread nD τ) (mems Ideal t .ks) fullShare ((vdats m 0 c).before 3 t d))
    ∗ (∃ d, owns (c : Thread nD τ) (mems Ideal t .vt) fullShare ((vdats m 0 c).before 4 t d)) ∗ (∃ d, owns (c : Thread nD τ) (mems Ideal t .vs) fullShare ((vdats m 0 c).before 5 t d))
    ∗ (∃ d, owns (c : Thread nD τ) (mems Ideal t .o) fullShare ((vdats m 0 c).before 6 t d)) ∗ (∃ d, owns (c : Thread nD τ) (mems Ideal t .tau) fullShare ((vdats m 0 c).before 7 t d)))

/-- The staging buffers as the body leaves them. -/
def left (c : Dev nD) (t : Fin (cfg0 (F := Ideal)).N) : sProp 𝕄 :=
  iprop(owns (c : Thread nD τ) (mems Ideal t .q) fullShare (iblk m c 0 t) ∗ owns (c : Thread nD τ) (mems Ideal t .qs) fullShare (iblk m c 1 t)
    ∗ owns (c : Thread nD τ) (mems Ideal t .k) fullShare (iblk m c 2 t) ∗ owns (c : Thread nD τ) (mems Ideal t .ks) fullShare (iblk m c 3 t)
    ∗ owns (c : Thread nD τ) (mems Ideal t .vt) fullShare (iblk m c 4 t) ∗ owns (c : Thread nD τ) (mems Ideal t .vs) fullShare (iblk m c 5 t)
    ∗ owns (c : Thread nD τ) (mems Ideal t .o) fullShare (outBlk m c t) ∗ owns (c : Thread nD τ) (mems Ideal t .tau) fullShare (tauBlk m c t))

theorem own_split (c : Dev nD) (t : Fin (cfg0 (F := Ideal)).N) (σ : St Ideal) (e0 : σ .q = iblk m c 0 t) (e1 : σ .qs = iblk m c 1 t) (e2 : σ .k = iblk m c 2 t) (e3 : σ .ks = iblk m c 3 t)
    (e4 : σ .vt = iblk m c 4 t) (e5 : σ .vs = iblk m c 5 t) (e6 : σ .o = outBlk m c t) (e7 : σ .tau = tauBlk m c t) :
    (own c (mems Ideal t) σ : sProp 𝕄) ⊢ iprop(left m c t ∗ scratch c σ) := by
  rw [own_eq, e0, e1, e2, e3, e4, e5, e6, e7]
  unfold left scratch
  iintro ⟨D0, D1, D2, D3, D4, D5, D6, D7, S⟩
  isplitr [S]
  · isplitl [D0]; · iexact D0
    isplitl [D1]; · iexact D1
    isplitl [D2]; · iexact D2
    isplitl [D3]; · iexact D3
    isplitl [D4]; · iexact D4
    isplitl [D5]; · iexact D5
    isplitl [D6]; · iexact D6
    iexact D7
  iexact S

theorem vsound (c : Dev nD) (t : Fin (cfg0 (F := Ideal)).N) :
    iprop((vdats m 0 c).Φ t.castSucc ∗ (vdats m 0 c).owesAt () t.castSucc ∗ found m c t)
      ⊢ wp frame (wpE (defs₀ (F := Ideal)) NatV (c : Thread nD τ) none) Set.univ (cc0_entmax15_attention (grid0.coords t) (mems Ideal t .q) (mems_whole Ideal t .q) (mems Ideal t .qs) (mems_whole Ideal t .qs) (mems Ideal t .k) (mems_whole Ideal t .k) (mems Ideal t .ks) (mems_whole Ideal t .ks) (mems Ideal t .vt) (mems_whole Ideal t .vt) (mems Ideal t .vs) (mems_whole Ideal t .vs) (mems Ideal t .o) (mems_whole Ideal t .o) (mems Ideal t .tau) (mems_whole Ideal t .tau) (mems Ideal t .y) (mems_whole Ideal t .y) (mems Ideal t .p) (mems_whole Ideal t .p) (mems Ideal t .ksx) (mems_whole Ideal t .ksx) (mems Ideal t .vsx) (mems_whole Ideal t .vsx) (mems Ideal t .vtw) (mems_whole Ideal t .vtw) (mems Ideal t .w) (mems_whole Ideal t .w) (mems Ideal t .acc) (mems_whole Ideal t .acc))
        (fun _ => iprop((vdats m 0 c).Φ t.succ ∗ (vdats m 0 c).owesAt () t.succ ∗ left m c t)) := by
  rw [show (vdats m 0 c).Φ t.succ = iprop(∃ σ : St Ideal, ⌜Kept m c (t.val + 1) σ⌝ ∗ scratch c σ ∗ ∃ r, prngReg c r) from rfl,
    show (vdats m 0 c).owesAt () t.succ = (vdats m 0 c).owesAt () t.castSucc from rfl,
    show (vdats m 0 c).Φ t.castSucc = iprop(∃ σ : St Ideal, ⌜Kept m c t.val σ⌝ ∗ scratch c σ ∗ ∃ r, prngReg c r) from rfl]
  unfold found
  iintro ⟨⟨%s, %hs, S, Hg⟩, HW, ⟨%d0, D0⟩, ⟨%d1, D1⟩, ⟨%d2, D2⟩, ⟨%d3, D3⟩, ⟨%d4, D4⟩, ⟨%d5, D5⟩, ⟨%d6, D6⟩, ⟨%d7, D7⟩⟩
  let σ : St Ideal := fun
    | .q => (vdats m 0 c).before 0 t d0 | .qs => (vdats m 0 c).before 1 t d1 | .k => (vdats m 0 c).before 2 t d2 | .ks => (vdats m 0 c).before 3 t d3
    | .vt => (vdats m 0 c).before 4 t d4 | .vs => (vdats m 0 c).before 5 t d5 | .o => (vdats m 0 c).before 6 t d6 | .tau => (vdats m 0 c).before 7 t d7
    | .y => s .y | .p => s .p | .ksx => s .ksx | .vsx => s .vsx | .vtw => s .vtw | .w => s .w | .acc => s .acc
  have hI : Win (B m c t) σ ∧ (tq (grid0.coords t) ≠ 0 → Exp (B m c t) σ) :=
    ⟨⟨fun x => (congrFun (before_0 m c t d0) x).trans (blk_q m c t x), fun x => (congrFun (before_1 m c t d1) x).trans (blk_qs m c t x),
      fun x => (congrFun (before_2 m c t d2) x).trans (blk_k m c t x), fun x => (congrFun (before_3 m c t d3) x).trans (blk_ks m c t x),
      fun x => (congrFun (before_4 m c t d4) x).trans (blk_vt m c t x), fun x => (congrFun (before_5 m c t d5) x).trans (blk_vs m c t x)⟩,
      fun h => by
        rw [B_eq]
        have h' := hs (by unfold tq at h; rwa [co2] at h)
        exact ⟨h'.ksx, h'.vsx, h'.vtw⟩⟩
  have hrun := attention_run (c := c) (ms := mems Ideal t) (grid0.coords t) (B := B m c t) rfl (mems_whole Ideal t) σ hI
  iapply wp_wand $$ [D0 D1 D2 D3 D4 D5 D6 D7 S]
  · iapply hrun.out
    rw [own_eq]
    unfold scratch
    isplitl [D0]; · iexact D0
    isplitl [D1]; · iexact D1
    isplitl [D2]; · iexact D2
    isplitl [D3]; · iexact D3
    isplitl [D4]; · iexact D4
    isplitl [D5]; · iexact D5
    isplitl [D6]; · iexact D6
    isplitl [D7]; · iexact D7
    iexact S
  iintro %u ⟨%σ', %hQ, H⟩
  obtain ⟨hsc, htau, ho⟩ := hQ
  ihave H' := (own_split m c t σ' (funext fun x => (hsc.win.q x).trans (blk_q m c t x).symm) (funext fun x => (hsc.win.qs x).trans (blk_qs m c t x).symm)
    (funext fun x => (hsc.win.k x).trans (blk_k m c t x).symm) (funext fun x => (hsc.win.ks x).trans (blk_ks m c t x).symm)
    (funext fun x => (hsc.win.vt x).trans (blk_vt m c t x).symm) (funext fun x => (hsc.win.vs x).trans (blk_vs m c t x).symm) (funext ho) (funext htau)) $$ H
  icases H' with ⟨D, S⟩
  isplitl [S Hg]
  · iexists σ'
    isplitr
    · ipureintro
      exact kept_succ m c t.val σ' (B_eq m c t ▸ hsc.exp)
    isplitl [S]; · iexact S
    iexact Hg
  isplitl [HW]; · iexact HW
  iexact D

theorem vobligation (c : Dev nD) : Pipeline.BodyObligationLoose (vdats m 0 c) (defs₀ (F := Ideal)) NatV () Set.univ := fun t => by
  rw [bigSep_W0]
  exact triple_restated (vsound m c t) (congrArg _ (defs₀_row t).symm) .rfl fun _ => by rw [bigSep_W0]; exact .rfl

end Entmax.KRun
end
-- ==== Proof.KResult.lean ====
/-
  The kernel's two results at the end of a run, in the argument arrays.
-/
module

public import proofs.«01_k».proof.Proof.KRun

@[expose] public section

noncomputable section

namespace Entmax.KRun

open Entmax.KernelIdeal hiding frame
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (ρ : Dev nD → PrngReg)

local notation "𝕄" => MM nD τ sig Ideal

/-- The first result: head `h` of the query at position `s` of batch `b` is in block `(b, h / 4, s / 128)`, row `128 (h % 4) + s % 128`. -/
def outArr (c : Dev nD) : S2x6144x1920.Idx → EReal := fun x =>
  ((A m c).blk (x 0).val ((x 2).val / 640) ((x 1).val / 128)).res ((x 2).val % 640 % 160) (128 * ((x 2).val % 640 / 160) + (x 1).val % 128)

/-- The second result as the call returns it: by block and row. -/
def tauArr (c : Dev nD) : S2x3x48x1x512.Idx → EReal := fun x =>
  ((A m c).blk (x 0).val (x 1).val (x 2).val).rel (x 4).val

theorem flushed_o (c : Dev nD) (t : Fin (cfg0 (F := Ideal)).N) :
    (vdats m 0 c).flushed 6 t = (((cfg0 (F := Ideal)).win 6).blk t).view.read (Elt Ideal) (outArr m c) := by
  refine funext fun (y : S1x128x640.Idx) => ?_
  have h0 : (y 0).val < 1 := (y 0).isLt
  have h1 : (y 1).val < 128 := (y 1).isLt
  have h2 : (y 2).val < 640 := (y 2).isLt
  have e0 : ((win0_6.rect t).emb y 0 : ℕ) = (grid0.coords t 0).val := by
    rw [win0_6.rect_emb_val t y 0]
    show (BitVec.ofNat 32 (grid0.coords t 0).val).toNat * 1 + (y 0).val = _
    rw [word _ (by have := c0_lt t; omega)]; omega
  have e1 : ((win0_6.rect t).emb y 1 : ℕ) = (grid0.coords t 2).val * 128 + (y 1).val := by
    rw [win0_6.rect_emb_val t y 1]
    show (BitVec.ofNat 32 (grid0.coords t 2).val).toNat * 128 + (y 1).val = _
    rw [word _ (c2_lt t)]
  have e2 : ((win0_6.rect t).emb y 2 : ℕ) = (grid0.coords t 1).val * 640 + (y 2).val := by
    rw [win0_6.rect_emb_val t y 2]
    show (BitVec.ofNat 32 (grid0.coords t 1).val).toNat * 640 + (y 2).val = _
    rw [word _ (by have := c1_lt t; omega)]
  show outBlk m c t y = ((A m c).blk ((win0_6.rect t).emb y 0).val (((win0_6.rect t).emb y 2).val / 640) (((win0_6.rect t).emb y 1).val / 128)).res
    (((win0_6.rect t).emb y 2).val % 640 % 160) (128 * (((win0_6.rect t).emb y 2).val % 640 / 160) + ((win0_6.rect t).emb y 1).val % 128)
  rw [e0, e1, e2]
  rw [show ((grid0.coords t 1).val * 640 + (y 2).val) / 640 = (grid0.coords t 1).val by omega, show ((grid0.coords t 2).val * 128 + (y 1).val) / 128 = (grid0.coords t 2).val by omega,
    show ((grid0.coords t 1).val * 640 + (y 2).val) % 640 = (y 2).val by omega, show ((grid0.coords t 2).val * 128 + (y 1).val) % 128 = (y 1).val by omega]
  rfl

theorem flushed_tau (c : Dev nD) (t : Fin (cfg0 (F := Ideal)).N) :
    (vdats m 0 c).flushed 7 t = (((cfg0 (F := Ideal)).win 7).blk t).view.read (Elt Ideal) (tauArr m c) := by
  refine funext fun (y : S1x1x1x1x512.Idx) => ?_
  have h0 : (y 0).val < 1 := (y 0).isLt
  have h1 : (y 1).val < 1 := (y 1).isLt
  have h2 : (y 2).val < 1 := (y 2).isLt
  have e0 : ((win0_7.rect t).emb y 0 : ℕ) = (grid0.coords t 0).val := by
    rw [win0_7.rect_emb_val t y 0]
    show (BitVec.ofNat 32 (grid0.coords t 0).val).toNat * 1 + (y 0).val = _
    rw [word _ (by have := c0_lt t; omega)]; omega
  have e1 : ((win0_7.rect t).emb y 1 : ℕ) = (grid0.coords t 1).val := by
    rw [win0_7.rect_emb_val t y 1]
    show (BitVec.ofNat 32 (grid0.coords t 1).val).toNat * 1 + (y 1).val = _
    rw [word _ (by have := c1_lt t; omega)]; omega
  have e2 : ((win0_7.rect t).emb y 2 : ℕ) = (grid0.coords t 2).val := by
    rw [win0_7.rect_emb_val t y 2]
    show (BitVec.ofNat 32 (grid0.coords t 2).val).toNat * 1 + (y 2).val = _
    rw [word _ (c2_lt t)]; omega
  have e4 : ((win0_7.rect t).emb y 4 : ℕ) = (y 4).val := by
    rw [win0_7.rect_emb_val t y 4]
    show 0 * 512 + (y 4).val = _
    omega
  show tauBlk m c t y = ((A m c).blk ((win0_7.rect t).emb y 0).val ((win0_7.rect t).emb y 1).val ((win0_7.rect t).emb y 2).val).rel ((win0_7.rect t).emb y 4).val
  rw [e0, e1, e2, e4]
  rfl

theorem N_eq : (cfg0 (F := Ideal)).N = 288 := by decide +kernel

/-- The grid point of batch `b`, key head `g` and query tile `t`. -/
def pt (b g t : ℕ) (hb : b < 2) (hg : g < 3) (ht : t < 48) : Fin (cfg0 (F := Ideal)).N := ⟨b * 144 + g * 48 + t, by rw [N_eq]; omega⟩

theorem pt_co (b g t : ℕ) (hb : b < 2) (hg : g < 3) (ht : t < 48) :
    (grid0.coords (pt b g t hb hg ht) 0).val = b ∧ (grid0.coords (pt b g t hb hg ht) 1).val = g ∧ (grid0.coords (pt b g t hb hg ht) 2).val = t := by
  rw [co0, co1, co2]
  unfold pt
  refine ⟨?_, ?_, ?_⟩ <;> dsimp only <;> omega

theorem final_o (c : Dev nD) : (vdats m 0 c).arrAt 6 (cfg0 (F := Ideal)).N = outArr m c :=
  (vdats m 0 c).arrAt_eq_of_cover 6 (outArr m c) (fun t _ => flushed_o m c t) fun (i : S2x6144x1920.Idx) => by
    have h0 : (i 0).val < 2 := (i 0).isLt
    have h1 : (i 1).val < 6144 := (i 1).isLt
    have h2 : (i 2).val < 1920 := (i 2).isLt
    have hb : (i 2).val / 640 < 3 := by omega
    have ht : (i 1).val / 128 < 48 := by omega
    obtain ⟨q0, q1, q2⟩ := pt_co (i 0).val ((i 2).val / 640) ((i 1).val / 128) h0 hb ht
    refine ⟨pt (i 0).val ((i 2).val / 640) ((i 1).val / 128) h0 hb ht, flush0_6 _, ?_⟩
    show i ∈ ((View.whole main_v10_0).slice (win0_6.rect (pt (i 0).val ((i 2).val / 640) ((i 1).val / 128) h0 hb ht))).set
    rw [View.set_slice_whole, Rect.mem_set_unit]
    intro a
    match a with
    | ⟨0, _⟩ =>
      show (BitVec.ofNat 32 (grid0.coords (pt _ _ _ h0 hb ht) 0).val).toNat * 1 ≤ (i 0).val ∧ (i 0).val < (BitVec.ofNat 32 (grid0.coords (pt _ _ _ h0 hb ht) 0).val).toNat * 1 + 1
      rw [q0, word _ (by omega)]; omega
    | ⟨1, _⟩ =>
      show (BitVec.ofNat 32 (grid0.coords (pt _ _ _ h0 hb ht) 2).val).toNat * 128 ≤ (i 1).val ∧ (i 1).val < (BitVec.ofNat 32 (grid0.coords (pt _ _ _ h0 hb ht) 2).val).toNat * 128 + 128
      rw [q2, word _ ht]; omega
    | ⟨2, _⟩ =>
      show (BitVec.ofNat 32 (grid0.coords (pt _ _ _ h0 hb ht) 1).val).toNat * 640 ≤ (i 2).val ∧ (i 2).val < (BitVec.ofNat 32 (grid0.coords (pt _ _ _ h0 hb ht) 1).val).toNat * 640 + 640
      rw [q1, word _ (by omega)]; omega

theorem final_tau (c : Dev nD) : (vdats m 0 c).arrAt 7 (cfg0 (F := Ideal)).N = tauArr m c :=
  (vdats m 0 c).arrAt_eq_of_cover 7 (tauArr m c) (fun t _ => flushed_tau m c t) fun (i : S2x3x48x1x512.Idx) => by
    have h0 : (i 0).val < 2 := (i 0).isLt
    have hb : (i 1).val < 3 := (i 1).isLt
    have ht : (i 2).val < 48 := (i 2).isLt
    have h3 : (i 3).val < 1 := (i 3).isLt
    have h4 : (i 4).val < 512 := (i 4).isLt
    obtain ⟨q0, q1, q2⟩ := pt_co (i 0).val (i 1).val (i 2).val h0 hb ht
    refine ⟨pt (i 0).val (i 1).val (i 2).val h0 hb ht, flush0_7 _, ?_⟩
    show i ∈ ((View.whole main_v10_1).slice (win0_7.rect (pt (i 0).val (i 1).val (i 2).val h0 hb ht))).set
    rw [View.set_slice_whole, Rect.mem_set_unit]
    intro a
    match a with
    | ⟨0, _⟩ =>
      show (BitVec.ofNat 32 (grid0.coords (pt _ _ _ h0 hb ht) 0).val).toNat * 1 ≤ (i 0).val ∧ (i 0).val < (BitVec.ofNat 32 (grid0.coords (pt _ _ _ h0 hb ht) 0).val).toNat * 1 + 1
      rw [q0, word _ (by omega)]; omega
    | ⟨1, _⟩ =>
      show (BitVec.ofNat 32 (grid0.coords (pt _ _ _ h0 hb ht) 1).val).toNat * 1 ≤ (i 1).val ∧ (i 1).val < (BitVec.ofNat 32 (grid0.coords (pt _ _ _ h0 hb ht) 1).val).toNat * 1 + 1
      rw [q1, word _ (by omega)]; omega
    | ⟨2, _⟩ =>
      show (BitVec.ofNat 32 (grid0.coords (pt _ _ _ h0 hb ht) 2).val).toNat * 1 ≤ (i 2).val ∧ (i 2).val < (BitVec.ofNat 32 (grid0.coords (pt _ _ _ h0 hb ht) 2).val).toNat * 1 + 1
      rw [q2, word _ (by omega)]; omega
    | ⟨3, _⟩ =>
      show 0 * 1 ≤ (i 3).val ∧ (i 3).val < 0 * 1 + 1
      omega
    | ⟨4, _⟩ =>
      show 0 * 512 ≤ (i 4).val ∧ (i 4).val < 0 * 512 + 512
      omega

theorem enter (c : Dev nD) : (Pipeline.ΦA spec0 c : sProp 𝕄) ⊢ (vdats m 0 c).Φ 0 := by
  rw [ΦA_eq, show (vdats m 0 c).Φ 0 = iprop(∃ σ : St Ideal, ⌜Kept m c 0 σ⌝ ∗ scratch c σ ∗ ∃ r, prngReg c r) from rfl]
  unfold scratch
  iintro ⟨⟨⟨%s0, S0⟩, ⟨%s1, S1⟩, ⟨%s2, S2⟩, ⟨%s3, S3⟩, ⟨%s4, S4⟩, ⟨%s5, S5⟩, ⟨%s6, S6⟩⟩, Hg⟩
  iexists (fun
    | .q => fun _ => (0 : EReal) | .qs => fun _ => (0 : EReal) | .k => fun _ => (0 : EReal) | .ks => fun _ => (0 : EReal) | .vt => fun _ => (0 : EReal)
    | .vs => fun _ => (0 : EReal) | .o => fun _ => (0 : EReal) | .tau => fun _ => (0 : EReal)
    | .y => s0 | .p => s1 | .ksx => s2 | .vsx => s3 | .vtw => s4 | .w => s5 | .acc => s6 : St Ideal)
  isplitr
  · ipureintro; exact fun h => absurd rfl h
  isplitr [Hg]
  · isplitl [S0]; · iexact S0
    isplitl [S1]; · iexact S1
    isplitl [S2]; · iexact S2
    isplitl [S3]; · iexact S3
    isplitl [S4]; · iexact S4
    isplitl [S5]; · iexact S5
    iexact S6
  iexact Hg

theorem leave (c : Dev nD) : (vdats m 0 c).Φ (Fin.last (cfg0 (F := Ideal)).N) ⊢ (Pipeline.ΦA spec0 c : sProp 𝕄) := by
  rw [ΦA_eq, show (vdats m 0 c).Φ (Fin.last (cfg0 (F := Ideal)).N) = iprop(∃ σ : St Ideal, ⌜Kept m c (cfg0 (F := Ideal)).N σ⌝ ∗ scratch c σ ∗ ∃ r, prngReg c r) from rfl]
  unfold scratch
  iintro ⟨%σ, -, ⟨S0, S1, S2, S3, S4, S5, S6⟩, Hg⟩
  isplitr [Hg]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  iexact Hg

set_option backward.isDefEq.respectTransparency.types false in
theorem vrun : θ_run defs (onTc (τ := τ) (main (F := Ideal))) (s₀ m ρ) (fun r =>
    Pipeline.FramePost (cfgs (F := Ideal)) (vdats m) (0 : Fin 1) (Pipeline.afterTail₀ (cfgs (F := Ideal)) (vdats m) (0 : Fin 1) (V0 m) [hostOps1]) r ∧ r.2.sem = fun _ => 0) :=
  Pipeline.θ_run_frame_around_track (cfgs (F := Ideal)) (vdats m) (0 : Fin 1) launch0 defs₀ NatV m ρ main
    (hbody := fun c => vobligation m c) (hshare := fun c => (vdats m 0 c).share_full fun _ => rfl)
    (howed := fun _ _ => rfl) (V₀ := V0 m) (opss := [hostOps1]) (hsub := sfx_sub) (hfresh := sfx_fresh) (hkeep := sfx_keeps)
    (hmain := hmain m NatV) (hA := fun _ _ => rfl) (hin := enter m) (hout := leave m) (Q' := _) (hQ' := fun _ h => h)

/-- The contents at the end of the region. -/
abbrev W1 (c : Dev nD) : Valuation τ sig (Elt Ideal) :=
  Pipeline.withArrays spec0 c (V0 m c) fun w => (vdats m 0 c).arrAt w (cfg0 (F := Ideal)).N

theorem spec_inj : Function.Injective (Pipeline.arrRef spec0) := by decide +kernel

theorem after_tau (c : Dev nD) : StableHlo.after (hostOps1 (F := Ideal)) (W1 m c) (Proc.devRef .tc main_v13)
    = shapeCast S2x6144x12 (transpose S2x48x128x3x4 [0, 2, 4, 1, 3] (shapeCast S2x3x48x4x128 (tauArr m c) shapeCasts_S2x3x48x1x512_S2x3x48x4x128)
        transposes_S2x3x48x4x128_S2x48x128x3x4_0_2_4_1_3) shapeCasts_S2x48x128x3x4_S2x6144x12 := by
  unfold hostOps1
  after_results
  have e : W1 m c (Proc.devRef .tc main_v10_1) = tauArr m c := (Pipeline.withArrays_arr spec0 spec_inj c (V0 m c) _ (7 : Fin 8)).trans (final_tau m c)
  rw [e]
  rfl

/-- The second result at position `s` of head `h`. -/
def tauOut (c : Dev nD) : S2x6144x12.Idx → EReal := fun x =>
  ((A m c).blk (x 0).val ((x 2).val / 4) ((x 1).val / 128)).rel (128 * ((x 2).val % 4) + (x 1).val % 128)

theorem tau_layout (c : Dev nD) : shapeCast S2x6144x12 (transpose S2x48x128x3x4 [0, 2, 4, 1, 3] (shapeCast S2x3x48x4x128 (tauArr m c) shapeCasts_S2x3x48x1x512_S2x3x48x4x128)
        transposes_S2x3x48x4x128_S2x48x128x3x4_0_2_4_1_3) shapeCasts_S2x48x128x3x4_S2x6144x12 = tauOut m c := by
  refine funext fun x => ?_
  have h0 : (x 0).val < 2 := (x 0).isLt
  have h1 : (x 1).val < 6144 := (x 1).isLt
  have h2 : (x 2).val < 12 := (x 2).isLt
  refine (shapeCast_apply _ _ _ (ValueIdx.ix5 (⟨(x 0).val, h0⟩ : Fin 2) (⟨(x 1).val / 128, by omega⟩ : Fin 48) (⟨(x 1).val % 128, by omega⟩ : Fin 128)
    (⟨(x 2).val / 4, by omega⟩ : Fin 3) (⟨(x 2).val % 4, by omega⟩ : Fin 4)) ?_).trans ?_
  · rw [Shape.rowMajor_val_five, Shape.rowMajor_val_three]
    show ((((x 0).val * 48 + (x 1).val / 128) * 128 + (x 1).val % 128) * 3 + (x 2).val / 4) * 4 + (x 2).val % 4 = ((x 0).val * 6144 + (x 1).val) * 12 + (x 2).val
    omega
  refine (shapeCast_apply _ _ _ (ValueIdx.ix5 (⟨(x 0).val, h0⟩ : Fin 2) (⟨(x 2).val / 4, by omega⟩ : Fin 3) (⟨(x 1).val / 128, by omega⟩ : Fin 48)
    (0 : Fin 1) (⟨128 * ((x 2).val % 4) + (x 1).val % 128, by omega⟩ : Fin 512)) ?_).trans rfl
  rw [Shape.rowMajor_val_five, Shape.rowMajor_val_five]
  show ((((x 0).val * 3 + (x 2).val / 4) * 48 + (x 1).val / 128) * 1 + 0) * 512 + (128 * ((x 2).val % 4) + (x 1).val % 128)
    = ((((x 0).val * 3 + (x 2).val / 4) * 48 + (x 1).val / 128) * 4 + (x 2).val % 4) * 128 + (x 1).val % 128
  omega

theorem after_arg (c : Dev nD) (b : Ref sig .tc) (hT : b ∉ T0) (hw : ∀ w, Pipeline.arrRef spec0 w ≠ b)
    (hb : b ∉ ([main_v0, main_v1, main_v2, main_v3, main_v4, main_v5, main_v6, main_v7, main_v8, main_v9] : List (Ref sig .tc))) :
    Pipeline.afterTail₀ (cfgs (F := Ideal)) (vdats m) (0 : Fin 1) (V0 m) [hostOps1] c b = m ((c : Thread nD τ).loc b) := by
  refine (StableHlo.after_of_forall_not_mem (b := Proc.devRef .tc b) _ _ ?_).trans ((Pipeline.withArrays_of_ne spec0 c (V0 m c) _ b hw).trans (V_of_ne m c b hb))
  intro op hop
  simp only [List.flatten_cons, List.flatten_nil, List.append_nil] at hop
  exact fun h => hT (sfx_writes _ (List.mem_singleton.mpr rfl) op hop b h)

/-- The kernel's run: its two results, and its arguments unchanged. -/
theorem run : θ_run defs (onTc (τ := τ) (main (F := Ideal))) ⟨m, fun _ => 0, ρ⟩ (fun r => ∀ c : Dev nD,
      r.2.mem ((c.tc : Thread nD τ).loc main_v10_0) = outArr m c
      ∧ r.2.mem ((c.tc : Thread nD τ).loc main_v13) = tauOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    have H : ∀ b : Ref sig .tc, b ∈ Pipeline.restRefs sig spec0 → b ∉ T0 → (∀ w, Pipeline.arrRef spec0 w ≠ b) →
        b ∉ ([main_v0, main_v1, main_v2, main_v3, main_v4, main_v5, main_v6, main_v7, main_v8, main_v9] : List (Ref sig .tc)) → r.2.mem ((c.tc : Thread nD τ).loc b) = m ((c.tc : Thread nD τ).loc b) :=
      fun b hb hT hw hb' => ((h.1 c).2 b hb).trans (after_arg m c b hT hw hb')
    refine ⟨((h.1 c).1 6).trans (final_o m c), ?_, ?_, ?_, ?_, ?_, ?_, ?_⟩
    · exact ((h.1 c).2 main_v13 (Pipeline.mem_restRefs_of main_v13 (by decide) (by decide))).trans ((after_tau m c).trans (tau_layout m c))
    all_goals exact H _ (Pipeline.mem_restRefs_of _ (by decide) (by decide)) (by decide) (by decide +kernel) (by decide)) (vrun m ρ)

end Entmax.KRun
end
-- ==== Proof.RefOps.lean ====
/-
  What the vector operations of the reference's body give at an index, over the extended reals: a threshold per row spread
  along the keys, sums and maxima along the keys, moments, and the maximum over a group of rows.
-/
module

public import proofs.«01_k».proof.Proof.Rows
public import Idealize.ShloMosaic.Lib.ValueIdxRank6
public import Idealize.ShloMosaic.Lib.Pipeline.Value
public import Idealize.ShloMosaic.Lib.Pointwise

@[expose] public section

noncomputable section

namespace EntmaxR

open Idealize.ShloMosaic Idealize.ShloMosaic.TcCoe
open Entmax

/-- One number per row: batch, query, key head, head of the group. -/
abbrev R4 : Shape := ⟨4, ![2, 6144, 3, 4]⟩

/-- `n` numbers per row. -/
abbrev R5 (n : ℕ) : Shape := ⟨5, ![2, 6144, 3, 4, n]⟩

/-- Number `k` of row `i`. -/
def key {n : ℕ} (i : R4.Idx) (k : Fin n) : (R5 n).Idx := ValueIdx.ix5 (i 0) (i 1) (i 2) (i 3) k

/-- The row of an index. -/
def rowOf {n : ℕ} (x : (R5 n).Idx) : R4.Idx := ValueIdx.ix4 (x 0) (x 1) (x 2) (x 3)

theorem rowOf_key {n : ℕ} (i : R4.Idx) (k : Fin n) : rowOf (key i k) = i := by
  refine funext fun a => ?_
  match a with
  | ⟨0, _⟩ => rfl
  | ⟨1, _⟩ => rfl
  | ⟨2, _⟩ => rfl
  | ⟨3, _⟩ => rfl

/-- A number per row, spread along the keys. -/
theorem spread_val {α : Type} {n : ℕ} {t : R4.Idx → α} {h1 : R4.ShapeCasts (R5 1)} {h2} (x : (R5 n).Idx) :
    broadcastTo (R5 n) (shapeCast (R5 1) t h1) h2 x = t (rowOf x) := by
  show shapeCast (R5 1) t h1 _ = _
  refine shapeCast_apply _ h1 _ _ ?_
  rw [Shape.rowMajor_val_five, Shape.rowMajor_val_four]
  show (((x 0).val * 6144 + (x 1).val) * 3 + (x 2).val) * 4 + (x 3).val = ((((x 0).val * 6144 + (x 1).val) * 3 + (x 2).val) * 4 + (x 3).val) * 1 + 0
  omega

theorem lift_key {n : ℕ} (hr : (R5 n).Reduces [4] R4) (i : R4.Idx) (k : Fin n) : hr.lift i k = key i k := by
  refine funext fun a => Fin.ext ?_
  match a with
  | ⟨0, _⟩ => rfl
  | ⟨1, _⟩ => rfl
  | ⟨2, _⟩ => rfl
  | ⟨3, _⟩ => rfl
  | ⟨4, _⟩ => rfl

/-- A sum along the keys. -/
theorem sum_val {n : ℕ} (v : FVec Ideal (R5 n) .f32) {hr : (R5 n).Reduces [4] R4} (i : R4.Idx) :
    multiReduction (F := Ideal) (φ := .f32) .add [4] R4 v 0x00000000#32 hr (.inl rfl) rfl i = ∑ k : Fin n, v (key i k) :=
  (Ideal.multiReduction_add_single v _ hr (.inl rfl) rfl i).trans (Finset.sum_congr rfl fun k _ => congrArg v (lift_key hr i k))

theorem neg_top : (FloatOps.ofBits (F := Ideal) .f32 0xFF800000#32 : EReal) = ⊥ := by
  show Ideal.ofBits .f32 0xFF800000#32 = ⊥
  simp [Ideal.ofBits, Ideal.ieee]

/-- A maximum along one axis. -/
theorem max_single {s t : Shape} {a : Fin s.rank} (v : FVec Ideal s .f32) {hr : s.Reduces [a] t} (i : t.Idx) :
    multiReduction (F := Ideal) (φ := .f32) .maximumf [a] t v 0xFF800000#32 hr (.inl rfl) rfl i = Finset.univ.sup fun k => v (hr.lift i k) := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  rw [(multiReduction_maximumf_eq_fold (F := Ideal) (φ := .f32) v 0xFF800000#32 hr (.inl rfl) rfl _ :), neg_top]
  rw [hr.fold_filter_drop_single]
  rfl

/-- A maximum along the keys. -/
theorem max_val {n : ℕ} (v : FVec Ideal (R5 n) .f32) {hr : (R5 n).Reduces [4] R4} (i : R4.Idx) :
    multiReduction (F := Ideal) (φ := .f32) .maximumf [4] R4 v 0xFF800000#32 hr (.inl rfl) rfl i = Finset.univ.sup fun k : Fin n => v (key i k) :=
  (max_single v (hr := hr) i).trans (congrArg (Finset.univ : Finset (Fin n)).sup (funext fun k => congrArg v (lift_key hr i k)))

/-- The first moment of every row about its threshold. -/
theorem mom1_val {n : ℕ} {v : FVec Ideal (R5 n) .f32} {T : FVec Ideal R4 .f32} {h1 h2 hr} (i : R4.Idx) :
    multiReduction (F := Ideal) (φ := .f32) .add [4] R4 (maximumf (F := Ideal) (φ := .f32) (subf v (broadcastTo (R5 n) (shapeCast (R5 1) T h1) h2))
      (broadcast (R5 n) (Scalar.ofBits (F := Ideal) .f32 0x00000000#32))) 0x00000000#32 hr (.inl rfl) rfl i = mom1 (fun k => v (key i k)) (T i) := by
  refine (sum_val _ i).trans (Finset.sum_congr rfl fun k _ => ?_)
  show max (v (key i k) - broadcastTo (R5 n) (shapeCast (R5 1) T h1) h2 (key i k)) (Ideal.ofBits .f32 0x00000000#32) = _
  rw [spread_val, rowOf_key, Ideal.ofBits_zero_f32]

/-- The second moment of every row about its threshold. -/
theorem mom2_val {n : ℕ} {v : FVec Ideal (R5 n) .f32} {T : FVec Ideal R4 .f32} {h1 h2 hr} (i : R4.Idx) :
    multiReduction (F := Ideal) (φ := .f32) .add [4] R4
      (mulf (F := Ideal) (φ := .f32)
        (maximumf (F := Ideal) (φ := .f32) (subf v (broadcastTo (R5 n) (shapeCast (R5 1) T h1) h2)) (broadcast (R5 n) (Scalar.ofBits (F := Ideal) .f32 0x00000000#32)))
        (maximumf (F := Ideal) (φ := .f32) (subf v (broadcastTo (R5 n) (shapeCast (R5 1) T h1) h2)) (broadcast (R5 n) (Scalar.ofBits (F := Ideal) .f32 0x00000000#32))))
      0x00000000#32 hr (.inl rfl) rfl i = mom2 (fun k => v (key i k)) (T i) := by
  refine (sum_val _ i).trans (Finset.sum_congr rfl fun k _ => ?_)
  show max (v (key i k) - broadcastTo (R5 n) (shapeCast (R5 1) T h1) h2 (key i k)) (Ideal.ofBits .f32 0x00000000#32)
    * max (v (key i k) - broadcastTo (R5 n) (shapeCast (R5 1) T h1) h2 (key i k)) (Ideal.ofBits .f32 0x00000000#32) = _
  rw [spread_val, rowOf_key, Ideal.ofBits_zero_f32]

/-! ### Groups -/

/-- Row `l` of the 512 rows that stop together with row `i`: the 128 queries of its block, times the four heads of its key head. -/
def mate (i : R4.Idx) (l : Fin 512) : R4.Idx :=
  ValueIdx.ix4 (i 0) (⟨(i 1).val / 128 * 128 + l.val % 128, by have : (i 1).val < 6144 := (i 1).isLt; omega⟩ : Fin 6144) (i 2)
    (⟨l.val / 128, by omega⟩ : Fin 4)

/-- Which of them a row is. -/
def lane (i : R4.Idx) : Fin 512 := ⟨128 * (i 3).val + (i 1).val % 128, by have : (i 3).val < 4 := (i 3).isLt; omega⟩

theorem ext4 {x y : R4.Idx} (h0 : (x 0).val = (y 0).val) (h1 : (x 1).val = (y 1).val) (h2 : (x 2).val = (y 2).val) (h3 : (x 3).val = (y 3).val) : x = y := by
  refine funext fun a => Fin.ext ?_
  match a with
  | ⟨0, _⟩ => exact h0
  | ⟨1, _⟩ => exact h1
  | ⟨2, _⟩ => exact h2
  | ⟨3, _⟩ => exact h3

theorem mate_lane (i : R4.Idx) : mate i (lane i) = i := by
  have : (i 3).val < 4 := (i 3).isLt
  refine ext4 rfl ?_ rfl ?_
  · show (i 1).val / 128 * 128 + (128 * (i 3).val + (i 1).val % 128) % 128 = _
    omega
  · show (128 * (i 3).val + (i 1).val % 128) / 128 = _
    omega

theorem mate_mate (i : R4.Idx) (l l' : Fin 512) : mate (mate i l) l' = mate i l' := by
  refine ext4 rfl ?_ rfl rfl
  show ((i 1).val / 128 * 128 + l.val % 128) / 128 * 128 + l'.val % 128 = (i 1).val / 128 * 128 + l'.val % 128
  omega

theorem lane_mate (i : R4.Idx) (l : Fin 512) : lane (mate i l) = l := by
  refine Fin.ext ?_
  show 128 * (l.val / 128) + ((i 1).val / 128 * 128 + l.val % 128) % 128 = l.val
  omega

/-- The rows by blocks of queries. -/
theorem blocks_val {α : Type} {v : R4.Idx → α} {h : R4.ShapeCasts ⟨5, ![2, 48, 128, 3, 4]⟩} (x : (⟨5, ![2, 48, 128, 3, 4]⟩ : Shape).Idx) :
    shapeCast ⟨5, ![2, 48, 128, 3, 4]⟩ v h x = v (ValueIdx.ix4 (x 0) (⟨(x 1).val * 128 + (x 2).val, by
      have h1 : (x 1).val < 48 := (x 1).isLt
      have h2 : (x 2).val < 128 := (x 2).isLt
      omega⟩ : Fin 6144) (x 3) (x 4)) := by
  refine shapeCast_apply _ h _ _ ?_
  rw [Shape.rowMajor_val_five, Shape.rowMajor_val_four]
  show (((x 0).val * 6144 + ((x 1).val * 128 + (x 2).val)) * 3 + (x 3).val) * 4 + (x 4).val
    = ((((x 0).val * 48 + (x 1).val) * 128 + (x 2).val) * 3 + (x 3).val) * 4 + (x 4).val
  omega

/-- The greatest of a group, given to all of its rows. -/
theorem group_val {v : FVec Ideal R4 .f32} {h1 hr h2 h3 h4 h5} (i : R4.Idx) :
    shapeCast R4 (broadcastTo ⟨5, ![2, 48, 128, 3, 4]⟩ (shapeCast ⟨5, ![2, 48, 1, 3, 1]⟩ (shapeCast ⟨5, ![2, 48, 1, 3, 1]⟩
      (multiReduction (F := Ideal) (φ := .f32) .maximumf [2, 4] ⟨3, ![2, 48, 3]⟩ (shapeCast ⟨5, ![2, 48, 128, 3, 4]⟩ v h1) 0xFF800000#32 hr (.inl rfl) rfl) h2) h3) h4) h5 i
      = Finset.univ.sup fun l : Fin 512 => v (mate i l) := by
  have hi0 : (i 0).val < 2 := (i 0).isLt
  have hi1 : (i 1).val < 6144 := (i 1).isLt
  have hi2 : (i 2).val < 3 := (i 2).isLt
  have hi3 : (i 3).val < 4 := (i 3).isLt
  refine (shapeCast_apply _ h5 i (ValueIdx.ix5 (i 0) (⟨(i 1).val / 128, by omega⟩ : Fin 48) (⟨(i 1).val % 128, by omega⟩ : Fin 128) (i 2) (i 3)) ?_).trans ?_
  · rw [Shape.rowMajor_val_five, Shape.rowMajor_val_four]
    show ((((i 0).val * 48 + (i 1).val / 128) * 128 + (i 1).val % 128) * 3 + (i 2).val) * 4 + (i 3).val = (((i 0).val * 6144 + (i 1).val) * 3 + (i 2).val) * 4 + (i 3).val
    omega
  rw [shapeCast_self]
  show shapeCast ⟨5, ![2, 48, 1, 3, 1]⟩ _ h2 _ = _
  refine (shapeCast_apply _ h2 _ (ValueIdx.ix3 (i 0) (⟨(i 1).val / 128, by omega⟩ : Fin 48) (i 2)) ?_).trans ?_
  · rw [Shape.rowMajor_val_five, Shape.rowMajor_val_three]
    show ((i 0).val * 48 + (i 1).val / 128) * 3 + (i 2).val = ((((i 0).val * 48 + (i 1).val / 128) * 1 + 0) * 3 + (i 2).val) * 1 + 0
    omega
  haveI : Std.Commutative (FloatOps.maximumf (F := Ideal) (φ := .f32)) := ⟨fun a b => max_comm a b⟩
  haveI : Std.Associative (FloatOps.maximumf (F := Ideal) (φ := .f32)) := ⟨fun a b c => max_assoc a b c⟩
  rw [(multiReduction_maximumf_eq_fold (F := Ideal) (φ := .f32) _ 0xFF800000#32 hr (.inl rfl) rfl _ :), neg_top]
  show (Finset.univ.filter _).sup (shapeCast ⟨5, ![2, 48, 128, 3, 4]⟩ v h1) = _
  have hd : ∀ x : (⟨5, ![2, 48, 128, 3, 4]⟩ : Shape).Idx, (hr.drop x 0).val = (x 0).val ∧ (hr.drop x 1).val = (x 1).val ∧ (hr.drop x 2).val = (x 3).val := fun x => ⟨rfl, rfl, rfl⟩
  apply le_antisymm
  · refine Finset.sup_le fun x hx => ?_
    have e := (Finset.mem_filter.mp hx).2
    have x2 : (x 2).val < 128 := (x 2).isLt
    have x4 : (x 4).val < 4 := (x 4).isLt
    have e0 : (x 0).val = (i 0).val := (hd x).1.symm.trans (congrArg Fin.val (congrFun e 0))
    have e1 : (x 1).val = (i 1).val / 128 := (hd x).2.1.symm.trans (congrArg Fin.val (congrFun e 1))
    have e2 : (x 3).val = (i 2).val := (hd x).2.2.symm.trans (congrArg Fin.val (congrFun e 2))
    rw [blocks_val]
    refine le_trans (le_of_eq (congrArg v ?_)) (Finset.le_sup (f := fun l : Fin 512 => v (mate i l)) (Finset.mem_univ (⟨128 * (x 4).val + (x 2).val, by omega⟩ : Fin 512)))
    refine ext4 e0 ?_ e2 ?_
    · show (x 1).val * 128 + (x 2).val = (i 1).val / 128 * 128 + (128 * (x 4).val + (x 2).val) % 128
      omega
    · show (x 4).val = (128 * (x 4).val + (x 2).val) / 128
      omega
  · refine Finset.sup_le fun l _ => ?_
    let x : (⟨5, ![2, 48, 128, 3, 4]⟩ : Shape).Idx := ValueIdx.ix5 (i 0) (⟨(i 1).val / 128, by omega⟩ : Fin 48) (⟨l.val % 128, by omega⟩ : Fin 128) (i 2) (⟨l.val / 128, by omega⟩ : Fin 4)
    refine le_trans (le_of_eq ?_) (Finset.le_sup (f := shapeCast ⟨5, ![2, 48, 128, 3, 4]⟩ v h1) (b := x) (Finset.mem_filter.mpr ⟨Finset.mem_univ _, ?_⟩))
    · rw [blocks_val]; rfl
    · refine funext fun a => Fin.ext ?_
      match a with
      | ⟨0, _⟩ => rfl
      | ⟨1, _⟩ => rfl
      | ⟨2, _⟩ => rfl

end EntmaxR

end
-- ==== Proof.RefRows.lean ====
/-
  The rows of the reference: the Newton steps and rounds of Rows.lean as vector operations on one number per row.
-/
module

public import proofs.«01_k».proof.Proof.RefOps

@[expose] public section

noncomputable section

namespace EntmaxR

open Idealize.ShloMosaic Idealize.ShloMosaic.TcCoe
open Entmax

/-- What the rows are made of: the scores, their maxima by sixteens, the maximum of the scores, and the scale of the query. -/
structure Scores where
  y : FVec Ideal (R5 6144) .f32
  p : FVec Ideal (R5 384) .f32
  m : FVec Ideal R4 .f32
  qs : FVec Ideal R4 .f32

/-- How many keys a row sees. -/
def seen (i : R4.Idx) : EReal := ((((i 1).val + 1 : ℕ) : ℝ) : EReal)

namespace Scores

variable (Z : Scores)

/-- Row `i`. -/
def row (i : R4.Idx) : Row where
  y k := Z.y (key i k)
  p j := Z.p (key i j)
  a := Ideal.ofBits .f32 0x3F800000#32
  b := Z.qs i
  lo := Z.m i - Ideal.ofBits .f32 0x3F800000#32
  hi := Z.m i - Ideal.rsqrt (seen i)
  m := Z.m i
  c2 := 1

/-- The rows of a group. -/
def group (i : R4.Idx) (l : Fin 512) : Row := Z.row (mate i l)

theorem group_mate (i : R4.Idx) (l : Fin 512) : Z.group (mate i l) = Z.group i := by
  funext l'
  unfold group
  rw [mate_mate]

/-- The threshold of a row. -/
def root (i : R4.Idx) : EReal := roots (Z.group i) (lane i)

/-- A group after `n` rounds: whether it goes on, and its thresholds. -/
def after (n : ℕ) (i : R4.Idx) : EReal × (Fin 512 → EReal) :=
  (groupRound (Z.group i))^[n] (Ideal.ofBits .f32 0x3F800000#32, fun l => (Z.group i l).poolStep^[6] (Z.group i l).lo)

theorem after_mate (n : ℕ) (i : R4.Idx) (l : Fin 512) : Z.after n (mate i l) = Z.after n i := by
  unfold after
  rw [group_mate]

/-- The threshold of row `i` after `n` rounds. -/
def at' (n : ℕ) (i : R4.Idx) : EReal := (Z.after n i).2 (lane i)

theorem at_zero (i : R4.Idx) : Z.at' 0 i = (Z.row i).poolStep^[6] (Z.row i).lo := by
  show (Z.group i (lane i)).poolStep^[6] (Z.group i (lane i)).lo = _
  unfold group
  rw [mate_lane]

theorem at_mate (n : ℕ) (i : R4.Idx) (l : Fin 512) : Z.at' n (mate i l) = (Z.after n i).2 l := by
  unfold at'
  rw [after_mate, lane_mate]

/-- One more round. -/
theorem after_succ (n : ℕ) (i : R4.Idx) :
    (Z.after (n + 1) i).1 = (if 0 < (Z.after n i).1 then Finset.univ.sup fun l => (Z.row (mate i l)).over (Z.at' n (mate i l)) ((Z.row (mate i l)).next (Z.at' n (mate i l))) else (Z.after n i).1)
    ∧ Z.at' (n + 1) i = if 0 < (Z.after n i).1 then (Z.row i).next (Z.at' n i) else Z.at' n i := by
  have e : Z.after (n + 1) i = groupRound (Z.group i) (Z.after n i) := Function.iterate_succ_apply' _ _ _
  constructor
  · rw [e]
    unfold groupRound
    by_cases h : 0 < (Z.after n i).1
    · rw [if_pos h, if_pos h]
      simp only [at_mate]
      rfl
    · rw [if_neg h, if_neg h]
  · unfold at'
    rw [e]
    unfold groupRound
    by_cases h : 0 < (Z.after n i).1
    · rw [if_pos h, if_pos h]
      show (Z.group i (lane i)).next _ = _
      unfold group
      rw [mate_lane]
    · rw [if_neg h, if_neg h]

end Scores

theorem select_ogt {α : Type} (x y : EReal) (a b : α) : Scalar.select (BitVec.ofBool (decide (y < x))) a b = if y < x then a else b := by
  by_cases h : y < x
  · rw [if_pos h, decide_eq_true h]; rfl
  · rw [if_neg h, decide_eq_false h]; rfl

variable {Z : Scores}

/-- A Newton step. -/
theorem newton_val {lo hi T N D : FVec Ideal R4 .f32} (hlo : ∀ i, lo i = (Z.row i).lo) (hhi : ∀ i, hi i = (Z.row i).hi) {s1 s2 : R4.Idx → EReal}
    (hN : ∀ i, N i = (Ideal.sqrt (s2 i) - (Z.row i).a) * Ideal.sqrt (s2 i)) (hD : ∀ i, D i = if 0 < s1 i then s1 i else (Z.row i).b) (i : R4.Idx) :
    minimumf (F := Ideal) (φ := .f32) hi (maximumf (F := Ideal) (φ := .f32) lo (addf (F := Ideal) (φ := .f32) T (divf (F := Ideal) (φ := .f32) N D))) i
      = (Z.row i).newton (T i) (s1 i) (s2 i) := by
  show min (hi i) (max (lo i) (T i + Ideal.div (N i) (D i))) = _
  rw [hlo i, hhi i, hN i, hD i]; rfl

/-- What a Newton step divides. -/
theorem num_val {S2 : FVec Ideal R4 .f32} {s2 : R4.Idx → EReal} (h2 : ∀ i, S2 i = s2 i) (i : R4.Idx) :
    mulf (F := Ideal) (φ := .f32) (subf (sqrt S2) (broadcast R4 (Scalar.ofBits (F := Ideal) .f32 0x3F800000#32))) (sqrt S2) i
      = (Ideal.sqrt (s2 i) - (Z.row i).a) * Ideal.sqrt (s2 i) := by
  show (Ideal.sqrt (S2 i) - Ideal.ofBits .f32 0x3F800000#32) * Ideal.sqrt (S2 i) = _
  rw [h2 i]; rfl

/-- What a Newton step divides by. -/
theorem den_val {S1 Q : FVec Ideal R4 .f32} {s1 : R4.Idx → EReal} (h1 : ∀ i, S1 i = s1 i) (hq : ∀ i, Q i = Z.qs i) (i : R4.Idx) :
    select (cmpf (F := Ideal) (φ := .f32) .ogt S1 (broadcast R4 (Scalar.ofBits (F := Ideal) .f32 0x00000000#32))) S1 Q i = if 0 < s1 i then s1 i else (Z.row i).b := by
  show Scalar.select (BitVec.ofBool (decide (Ideal.ofBits .f32 0x00000000#32 < S1 i))) (S1 i) (Q i) = _
  rw [Ideal.ofBits_zero_f32, select_ogt, h1 i, hq i]; rfl

/-- What the maxima leave out. -/
theorem mg_val {t : R4.Idx → EReal} {F2 P2 : FVec Ideal R4 .f32} (h2 : ∀ i, F2 i = mom2 (Z.row i).y (t i)) (hp : ∀ i, P2 i = mom2 (Z.row i).p (t i)) (i : R4.Idx) :
    sqrt (F := Ideal) (φ := .f32) (maximumf (subf F2 P2) (broadcast R4 (Scalar.ofBits (F := Ideal) .f32 0x00000000#32))) i = (Z.row i).mg (t i) := by
  show Ideal.sqrt (max (F2 i - P2 i) (Ideal.ofBits .f32 0x00000000#32)) = _
  rw [h2 i, hp i, Ideal.ofBits_zero_f32]; rfl

/-- How fast that changes. -/
theorem md_val {t : R4.Idx → EReal} {F1 P1 G : FVec Ideal R4 .f32} (h1 : ∀ i, F1 i = mom1 (Z.row i).y (t i)) (hp : ∀ i, P1 i = mom1 (Z.row i).p (t i))
    (hg : ∀ i, G i = (Z.row i).mg (t i)) (i : R4.Idx) :
    select (cmpf (F := Ideal) (φ := .f32) .ogt G (broadcast R4 (Scalar.ofBits (F := Ideal) .f32 0x00000000#32)))
      (divf (F := Ideal) (φ := .f32) (maximumf (subf F1 P1) (broadcast R4 (Scalar.ofBits (F := Ideal) .f32 0x00000000#32)))
        (select (cmpf (F := Ideal) (φ := .f32) .ogt G (broadcast R4 (Scalar.ofBits (F := Ideal) .f32 0x00000000#32))) G (broadcast R4 (Scalar.ofBits (F := Ideal) .f32 0x3F800000#32))))
      (broadcast R4 (Scalar.ofBits (F := Ideal) .f32 0x00000000#32)) i = (Z.row i).md (t i) := by
  show Scalar.select (BitVec.ofBool (decide (Ideal.ofBits .f32 0x00000000#32 < G i))) (Ideal.div (max (F1 i - P1 i) (Ideal.ofBits .f32 0x00000000#32))
    (Scalar.select (BitVec.ofBool (decide (Ideal.ofBits .f32 0x00000000#32 < G i))) (G i) (Ideal.ofBits .f32 0x3F800000#32))) (Ideal.ofBits .f32 0x00000000#32) = _
  rw [Ideal.ofBits_zero_f32, select_ogt, select_ogt, h1 i, hp i, hg i]
  unfold Row.md
  by_cases h : 0 < (Z.row i).mg (t i)
  · simp only [if_pos h]
  · simp only [if_neg h]

/-- What they leave out, predicted. -/
theorem rest_val {T U G D : FVec Ideal R4 .f32} (hg : ∀ i, G i = (Z.row i).mg (T i)) (hd : ∀ i, D i = (Z.row i).md (T i)) (i : R4.Idx) :
    maximumf (F := Ideal) (φ := .f32) (subf G (mulf (subf U T) D)) (broadcast R4 (Scalar.ofBits (F := Ideal) .f32 0x00000000#32)) i = (Z.row i).rest (T i) (U i) := by
  show max (G i - (U i - T i) * D i) (Ideal.ofBits .f32 0x00000000#32) = _
  rw [hg i, hd i, Ideal.ofBits_zero_f32]; rfl

/-- How far a row is beyond its tolerance. -/
theorem over_val {t : R4.Idx → EReal} {U S F1 m : FVec Ideal R4 .f32} (hS : ∀ i, S i = mom2 (Z.row i).y (U i)) (h1 : ∀ i, F1 i = mom1 (Z.row i).y (t i)) (hm : ∀ i, m i = Z.m i) (i : R4.Idx) :
    subf (F := Ideal) (φ := .f32) (absf (subf S (broadcast R4 (Scalar.ofBits (F := Ideal) .f32 0x3F800000#32))))
        (addf (broadcast R4 (Scalar.ofBits (F := Ideal) .f32 0x37800000#32))
          (mulf (mulf (broadcast R4 (Scalar.ofBits (F := Ideal) .f32 0x34800000#32)) (maximumf (absf U) (absf m))) F1)) i = (Z.row i).over (t i) (U i) := by
  show max (S i - Ideal.ofBits .f32 0x3F800000#32) (-(S i - Ideal.ofBits .f32 0x3F800000#32))
    - (Ideal.ofBits .f32 0x37800000#32 + Ideal.ofBits .f32 0x34800000#32 * max (max (U i) (-(U i))) (max (m i) (-(m i))) * F1 i) = _
  rw [hS i, h1 i, hm i]
  unfold Row.over
  rw [show (Z.row i).c2 = 1 from rfl, mul_one, mul_one]; rfl

end EntmaxR

end
-- ==== Proof.CalcR.lean ====
/-
  The calculus of Calc.lean for the body of the reference, which touches eight buffers: `Run ms p σ Q` says that started with
  the buffers at `σ`, the program `p` runs and ends with a value and contents that satisfy `Q`.
-/
module

public import Idealize.ShloMosaic.Lib.Pipeline.Kit
public import Idealize.ShloMosaic.Lib.Pipeline.Frame
public import Idealize.ShloMosaic.Lib.Pipeline.FrameBody
public import Idealize.ShloMosaic.Lib.Tactic

@[expose] public section

noncomputable section

namespace EntmaxR

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The eight buffers of the body: the windows on q, its scale, k, its scale, v, its scale and the two results. -/
inductive Bf | q | qs | k | ks | v | vs | o | tau
  deriving DecidableEq

instance : Fintype Bf := ⟨{.q, .qs, .k, .ks, .v, .vs, .o, .tau}, fun b => by cases b <;> decide⟩

/-- The shape of each. -/
@[reducible] def sh : Bf → Shape
  | .q => ⟨5, ![2, 6144, 3, 4, 160]⟩ | .qs => ⟨4, ![2, 6144, 3, 4]⟩ | .k => ⟨4, ![2, 3, 6144, 160]⟩ | .ks => ⟨3, ![2, 3, 6144]⟩
  | .v => ⟨4, ![2, 3, 6144, 160]⟩ | .vs => ⟨3, ![2, 3, 6144]⟩ | .o => ⟨3, ![2, 6144, 1920]⟩ | .tau => ⟨3, ![2, 6144, 12]⟩

/-- The element type of each. -/
@[reducible] def el : Bf → EltTy
  | .q => .fp8e4m3 | .qs => .f32 | .k => .fp8e4m3 | .ks => .f32 | .v => .fp8e4m3 | .vs => .f32 | .o => .bf16 | .tau => .f32

/-- A state: the contents of the eight buffers. -/
abbrev St (F : FTy → Type) : Type := (b : Bf) → (sh b).Idx → Elt F (el b)

variable {nD : Nat} {τ : Topo} {sig : RefSig} {F : FTy → Type} {Λ : Labels}

abbrev MM (nD : Nat) (τ : Topo) (sig : RefSig) (F : FTy → Type) := MT nD τ sig Unit (Elt F) ℕ (Idealize.ShloMosaic.UR sig nD τ) ℕ

local notation "𝕄" => MM nD τ sig F

/-- The termination measure of the calls the body makes: a natural number that goes down. -/
abbrev NatV : Variants := ⟨ℕ, (· < ·), Nat.lt_wfRel.wf⟩

/-- The eight buffers, as memrefs. -/
abbrev Mems (sig : RefSig) : Type := (b : Bf) → Memref sig .tc .vmem (sh b) (el b)

variable (c : Dev nD) (defs : Defs nD τ sig (Elt F) Λ) (ms : Mems sig)

/-- The eight buffers owned at the contents `σ`. -/
def own (σ : St F) : sProp 𝕄 :=
  bigSep Finset.univ fun b : Bf => owns (c : Thread nD τ) (ms b) fullShare (σ b)

/-- Started at `σ`, `p` runs and ends at a value and a state that satisfy `Q` (calls below `bd`). -/
structure Run (bd : Option ℕ) {α : Type} (p : Prog (TpuEff nD τ sig (Elt F) Λ .tc) α) (σ : St F) (Q : α → St F → Prop) : Prop where
  out : (own c ms σ : sProp 𝕄) ⊢ wp frame (wpE defs NatV (c : Thread nD τ) bd) Set.univ p
    (fun a => iprop(∃ σ', ⌜Q a σ'⌝ ∗ own c ms σ'))

variable {c defs ms} {bd : Option ℕ} {α β : Type} {σ : St F}

theorem Run.ret {a : α} {Q : α → St F → Prop} (h : Q a σ) : Run c defs ms bd (pure a) σ Q := ⟨by
  rw [Prog.pure_eq_ret, wp_ret]
  iintro H
  imodintro
  iexists σ
  isplitr
  · ipureintro; exact h
  · iexact H⟩

theorem Run.bind {p : Prog (TpuEff nD τ sig (Elt F) Λ .tc) α} {k : α → Prog (TpuEff nD τ sig (Elt F) Λ .tc) β}
    {R : α → St F → Prop} {Q : β → St F → Prop} (h : Run c defs ms bd p σ R)
    (h' : ∀ a σ', R a σ' → Run c defs ms bd (k a) σ' Q) : Run c defs ms bd (p >>= k) σ Q := ⟨by
  rw [wp_bind]
  refine h.out.trans (wp_mono _ _ _ fun a => ?_)
  iintro ⟨%σ', %hR, H⟩
  iapply (h' a σ' hR).out
  iexact H⟩

theorem Run.mono {p : Prog (TpuEff nD τ sig (Elt F) Λ .tc) α} {R Q : α → St F → Prop} (h : Run c defs ms bd p σ R)
    (h' : ∀ a σ', R a σ' → Q a σ') : Run c defs ms bd p σ Q := ⟨by
  refine h.out.trans (wp_mono _ _ _ fun a => ?_)
  iintro ⟨%σ', %hR, H⟩
  iexists σ'
  isplitr
  · ipureintro; exact h' a σ' hR
  · iexact H⟩

theorem Run.assoc {γ : Type} {p : Prog (TpuEff nD τ sig (Elt F) Λ .tc) α} {f : α → Prog (TpuEff nD τ sig (Elt F) Λ .tc) β}
    {k : β → Prog (TpuEff nD τ sig (Elt F) Λ .tc) γ} {Q : γ → St F → Prop}
    (h : Run c defs ms bd (p >>= fun x => f x >>= k) σ Q) : Run c defs ms bd ((p >>= f) >>= k) σ Q := by
  rw [Prog.bind_assoc]; exact h

theorem Run.pure_bind {a : α} {k : α → Prog (TpuEff nD τ sig (Elt F) Λ .tc) β} {Q : β → St F → Prop}
    (h : Run c defs ms bd (k a) σ Q) : Run c defs ms bd (pure a >>= k) σ Q := h

/-- One buffer taken out of the eight, to be given back at any contents. -/
theorem own_acc (b : Bf) : (own c ms σ : sProp 𝕄)
    ⊢ iprop(owns (c : Thread nD τ) (ms b) fullShare (σ b)
      ∗ (∀ X, owns (c : Thread nD τ) (ms b) fullShare X -∗ own c ms (Function.update σ b X))) := by
  refine (Entails.of_eq (BI.bigSep_erase (Φ := fun b : Bf => owns (c : Thread nD τ) (ms b) fullShare (σ b)) (Finset.mem_univ b))).trans ?_
  show (iprop(owns (c : Thread nD τ) (ms b) fullShare (σ b) ∗ bigSep (Finset.univ.erase b) fun b' : Bf => owns (c : Thread nD τ) (ms b') fullShare (σ b')) : sProp 𝕄) ⊢ _
  iintro ⟨Hb, Hr⟩
  isplitl [Hb]
  · iexact Hb
  · iintro %X HX
    have e : (own c ms (Function.update σ b X) : sProp 𝕄) = iprop(owns (c : Thread nD τ) (ms b) fullShare X
        ∗ bigSep (Finset.univ.erase b) fun b' : Bf => owns (c : Thread nD τ) (ms b') fullShare (σ b')) := by
      refine (BI.bigSep_erase (Φ := fun b' : Bf => owns (c : Thread nD τ) (ms b') fullShare (Function.update σ b X b')) (Finset.mem_univ b)).trans ?_
      rw [Function.update_self, BI.bigSep_congr (s := Finset.univ.erase b) (Φ := fun b' : Bf => owns (c : Thread nD τ) (ms b') fullShare (Function.update σ b X b'))
        (Ψ := fun b' : Bf => owns (c : Thread nD τ) (ms b') fullShare (σ b'))
        fun b' hb' => by rw [Function.update_of_ne (Finset.ne_of_mem_erase hb')]]
      rfl
    rw [e]
    isplitl [HX]
    · iexact HX
    · iexact Hr

/-- A load reads the state. -/
theorem Run.load (b : Bf) {r : LoadRect (sh b)} {hl : (ms b).view.LoadsAt r}
    {k : (r.shape.Idx → Elt F (el b)) → Prog (TpuEff nD τ sig (Elt F) Λ .tc) β} {Q : β → St F → Prop}
    (h : Run c defs ms bd (k fun x => σ b (r.idx x)) σ Q) :
    Run c defs ms bd (Prog.lift (.load (ms b) r hl) >>= k) σ Q := ⟨by
  rw [Prog.bind_lift]
  iintro H
  ihave H' := (own_acc (c := c) (ms := ms) (σ := σ) b) $$ H
  icases H' with ⟨Hb, Hr⟩
  ihave Hb' := (show owns (c : Thread nD τ) (ms b) fullShare (σ b) ⊢ (iprop(∃ f, ⌜(ms b).view.read (Elt F) f = σ b⌝ ∗ ((ms b).view.loc (c : Thread nD τ) ↦[(ms b).view.set]{fullShare} f)) : sProp 𝕄) from .rfl) $$ Hb
  icases Hb' with ⟨%f, %hf, Hf⟩
  ihave K := (wp_load (defs := defs) NatV (c : Thread nD τ) bd (Γ := .empty) Set.univ (m := ms b) (r := r) (hl := hl) (k := k)
    (Q := fun a => iprop(∃ σ', ⌜Q a σ'⌝ ∗ own c ms σ')) (q := fullShare) (f := f) (S := (ms b).view.set) (View.setOn_subset_set _ _)) $$ Hf
  iapply K
  iintro Hf
  have e : (ms b).view.readAt (Elt F) r f = fun x => σ b (r.idx x) := by
    funext x; rw [View.readAt_apply, hf]
  rw [e]
  iapply h.out
  have e2 : Function.update σ b (σ b) = σ := Function.update_eq_self b σ
  ihave R := (show (iprop(∀ X, owns (c : Thread nD τ) (ms b) fullShare X -∗ own c ms (Function.update σ b X)) : sProp 𝕄) ⊢ iprop(owns (c : Thread nD τ) (ms b) fullShare (σ b) -∗ own c ms σ) from by
    iintro H; ispecialize H $$ %(σ b); rw [e2]; iexact H) $$ Hr
  iapply R
  iapply (show (((ms b).view.loc (c : Thread nD τ) ↦[(ms b).view.set]{fullShare} f) : sProp 𝕄) ⊢ owns (c : Thread nD τ) (ms b) fullShare (σ b) from by
    rw [← hf]; exact owns_intro _ _ _ _)
  iexact Hf⟩

/-- A load that is the last statement. -/
theorem Run.lift_load (b : Bf) {r : LoadRect (sh b)} {hl : (ms b).view.LoadsAt r}
    {Q : (r.shape.Idx → Elt F (el b)) → St F → Prop} (h : Q (fun x => σ b (r.idx x)) σ) :
    Run c defs ms bd (Prog.lift (.load (ms b) r hl)) σ Q := by
  have := Run.load (c := c) (defs := defs) (ms := ms) (bd := bd) b (r := r) (hl := hl) (k := fun x => pure x) (Q := Q) (.ret h)
  rwa [show (Prog.lift (.load (ms b) r hl) >>= fun x => pure x) = (Prog.lift (.load (ms b) r hl) : Prog (TpuEff nD τ sig (Elt F) Λ .tc) _) from bind_pure _] at this

/-- The state after a store: the stored rectangle laid over what the buffer held. -/
def put (σ : St F) (b : Bf) (r : Rect (sh b)) (w : r.shape.Idx → Elt F (el b)) : St F :=
  Function.update σ b (r.overlay (σ b) w)

/-- A store lays its payload over the buffer. -/
theorem Run.store (b : Bf) {r : Rect (sh b)} {w : r.shape.Idx → Elt F (el b)} {hx : ((ms b).access r).Stores Finset.univ}
    {hm : (Finset.univ : Finset r.shape.Idx) = Finset.univ ∨ ∀ a, r.stride a = 1}
    {k : PUnit → Prog (TpuEff nD τ sig (Elt F) Λ .tc) β} {Q : β → St F → Prop}
    (h : Run c defs ms bd (k ⟨⟩) (put σ b r w) Q) :
    Run c defs ms bd (Prog.lift (.store (ms b) r w Finset.univ hx hm) >>= k) σ Q := ⟨by
  rw [Prog.bind_lift]
  iintro H
  ihave H' := (own_acc (c := c) (ms := ms) (σ := σ) b) $$ H
  icases H' with ⟨Hb, Hr⟩
  ihave Hb' := (show owns (c : Thread nD τ) (ms b) fullShare (σ b) ⊢ (iprop(∃ f, ⌜(ms b).view.read (Elt F) f = σ b⌝ ∗ ((ms b).view.loc (c : Thread nD τ) ↦[(ms b).view.set]{fullShare} f)) : sProp 𝕄) from .rfl) $$ Hb
  icases Hb' with ⟨%f, %hf, Hf⟩
  ihave K := (wp_store (defs := defs) NatV (c : Thread nD τ) bd (Γ := .empty) Set.univ (m := ms b) (r := r) (w := w) (Mk := Finset.univ) (hx := hx) (hm := hm) (k := k)
    (Q := fun a => iprop(∃ σ', ⌜Q a σ'⌝ ∗ own c ms σ')) (f := f) (S := (ms b).view.set) (Memref.setOn_access_subset _ _ _)) $$ Hf
  iapply K
  iintro Hf
  have e : (ms b).view.read (Elt F) (((ms b).access r).write (Elt F) f w Finset.univ) = r.overlay (σ b) w := by
    funext y
    by_cases hy : y ∈ r.set
    · obtain ⟨x, rfl⟩ : ∃ x, r.emb x = y := by
        rw [← Rect.map_emb_univ, Finset.mem_map] at hy
        obtain ⟨x, -, hx⟩ := hy; exact ⟨x, hx⟩
      rw [Rect.overlay_emb]
      exact View.read_slice_write_emb (v := (ms b).view) r f w (Finset.mem_univ x)
    · rw [Rect.overlay_of_not_mem _ _ _ hy, ← hf]
      exact View.read_slice_write_of_not_mem (v := (ms b).view) r f w _ (by rw [Rect.map_emb_univ]; exact hy)
  iapply h.out
  ihave R := (show (iprop(∀ X, owns (c : Thread nD τ) (ms b) fullShare X -∗ own c ms (Function.update σ b X)) : sProp 𝕄) ⊢ iprop(owns (c : Thread nD τ) (ms b) fullShare (r.overlay (σ b) w) -∗ own c ms (put σ b r w)) from by
    iintro H; ispecialize H $$ %(r.overlay (σ b) w); iexact H) $$ Hr
  iapply R
  iapply (show (((ms b).view.loc (c : Thread nD τ) ↦[(ms b).view.set]{fullShare} (((ms b).access r).write (Elt F) f w Finset.univ)) : sProp 𝕄) ⊢ owns (c : Thread nD τ) (ms b) fullShare (r.overlay (σ b) w) from by
    rw [← e]; exact owns_intro _ _ _ _)
  iexact Hf⟩

/-- A store that is the last statement. -/
theorem Run.lift_store (b : Bf) {r : Rect (sh b)} {w : r.shape.Idx → Elt F (el b)} {hx : ((ms b).access r).Stores Finset.univ}
    {hm : (Finset.univ : Finset r.shape.Idx) = Finset.univ ∨ ∀ a, r.stride a = 1}
    {Q : PUnit → St F → Prop} (h : Q ⟨⟩ (put σ b r w)) :
    Run c defs ms bd (Prog.lift (.store (ms b) r w Finset.univ hx hm)) σ Q := by
  have := Run.store (c := c) (defs := defs) (ms := ms) (bd := bd) b (r := r) (w := w) (hx := hx) (hm := hm) (k := fun x => pure x) (Q := Q) (.ret h)
  rwa [show (Prog.lift (.store (ms b) r w Finset.univ hx hm) >>= fun x => pure x) = (Prog.lift (.store (ms b) r w Finset.univ hx hm) : Prog (TpuEff nD τ sig (Elt F) Λ .tc) _) from bind_pure _] at this

/-- A counted loop, by an invariant on the trip number, the carried values and the state. -/
theorem Run.loop {n : ℕ} {l : Scf.Loop n} {hok : l.OK} {init : α} {body : Fin l.trips → α → Prog (TpuEff nD τ sig (Elt F) Λ .tc) α}
    (I : ℕ → α → St F → Prop) {Q : α → St F → Prop} (h0 : I 0 init σ)
    (hb : ∀ (k : Fin l.trips) (a : α) (σ' : St F), I k.val a σ' → Run c defs ms bd (body k a) σ' (I (k.val + 1)))
    (hQ : ∀ a σ', I l.trips a σ' → Q a σ') : Run c defs ms bd (Scf.Loop.for l hok init body) σ Q := ⟨by
  refine BIBase.Entails.trans ?_ (Scf.wp_for frame (wpE defs NatV (c : Thread nD τ) bd) Set.univ l.lb l.ub l.st hok init body
    (fun k a => iprop(∃ σ', ⌜I k a σ'⌝ ∗ own c ms σ')) ?_)
  · iintro H
    isplitl [H]
    · iexists σ
      isplitr
      · ipureintro; exact h0
      · iexact H
    · iintro %a H
      icases H with ⟨%σ', %hI, H⟩
      iexists σ'
      isplitr
      · ipureintro; exact hQ a σ' hI
      · iexact H
  · intro k a
    iintro ⟨%σ', %hI, H⟩
    iapply (hb k a σ' hI).out
    iexact H⟩

/-- A counted loop of no trips. -/
theorem Run.loop_zero {n : ℕ} {l : Scf.Loop n} {hok : l.OK} {init : α} {body : Fin l.trips → α → Prog (TpuEff nD τ sig (Elt F) Λ .tc) α}
    (hz : l.trips ≤ 0) {Q : α → St F → Prop} (h : Q init σ) : Run c defs ms bd (Scf.Loop.for l hok init body) σ Q :=
  .loop (fun _ a σ' => Q a σ') h (fun k => absurd k.isLt (by omega)) fun _ _ h => h

/-- A call, at a measure below the bound. -/
theorem Run.call {ℓ : Λ.Label} {a : Λ.Args ℓ} {Q : Λ.Result ℓ → St F → Prop} (v : ℕ) (hv : ∀ u ∈ bd, v < u)
    (h : Run c defs ms (some v) (defs .tc ℓ a) σ Q) : Run c defs ms bd (Prog.lift (.call ℓ a)) σ Q := ⟨by
  refine h.out.trans ?_
  have := wp_call (defs := defs) NatV (c : Thread nD τ) bd (Γ := .empty) Set.univ (ℓ := ℓ) (a := a) (k := .ret)
    (Q := fun x => (iprop(∃ σ', ⌜Q x σ'⌝ ∗ own c ms σ') : sProp 𝕄)) v hv
  refine BIBase.Entails.trans ?_ this
  refine wp_mono _ _ _ fun x => ?_
  rw [wp_ret]
  iintro H
  imodintro
  iexact H⟩

/-- A conditional. -/
theorem Run.ite {P : Prop} [Decidable P] {p p' : Prog (TpuEff nD τ sig (Elt F) Λ .tc) α} {Q : α → St F → Prop}
    (h : P → Run c defs ms bd p σ Q) (h' : ¬ P → Run c defs ms bd p' σ Q) : Run c defs ms bd (if P then p else p') σ Q := by
  by_cases hp : P
  · rw [if_pos hp]; exact h hp
  · rw [if_neg hp]; exact h' hp

/-- A conditional that names its condition. -/
theorem Run.dite {P : Prop} [Decidable P] {p : P → Prog (TpuEff nD τ sig (Elt F) Λ .tc) α} {p' : ¬ P → Prog (TpuEff nD τ sig (Elt F) Λ .tc) α}
    {Q : α → St F → Prop} (h : ∀ hp, Run c defs ms bd (p hp) σ Q) (h' : ∀ hp, Run c defs ms bd (p' hp) σ Q) :
    Run c defs ms bd (if hp : P then p hp else p' hp) σ Q := by
  by_cases hp : P
  · rw [dif_pos hp]; exact h hp
  · rw [dif_neg hp]; exact h' hp

end EntmaxR

end
-- ==== Proof.RefScores.lean ====
/-
  The scores of the reference and its outputs at an index, in the contents of its input buffers.
-/
module

public import proofs.«01_k».proof.Proof.RefRows
public import proofs.«01_k».proof.Proof.CalcR

@[expose] public section

set_option maxRecDepth 16384

noncomputable section

namespace EntmaxR

open Idealize.ShloMosaic Idealize.ShloMosaic.TcCoe
open Entmax

/-- A rank-7 position as one sum of products. -/
theorem rowMajor_val_seven {d : Fin 7 → ℕ} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6 + (i 6).val := by
  rw [Shape.rowMajor_val_succ, Shape.rowMajor_val_six]
  show (i 0).val * (∏ a : Fin 6, d a.succ) + ((((((i 1).val * d 2 + (i 2).val) * d 3 + (i 3).val) * d 4 + (i 4).val) * d 5 + (i 5).val) * d 6 + (i 6).val) = _
  rw [show (∏ a : Fin 6, d a.succ) = d 1 * (d 2 * (d 3 * (d 4 * (d 5 * d 6)))) by
    simp only [Fin.prod_univ_succ, Fin.prod_univ_zero, mul_one]; rfl]
  ring

/-- A rank-7 index. -/
abbrev ix7 {n0 n1 n2 n3 n4 n5 n6 : ℕ} (a : Fin n0) (b : Fin n1) (c : Fin n2) (d : Fin n3) (e : Fin n4) (f : Fin n5) (g : Fin n6) :
    (⟨7, ![n0, n1, n2, n3, n4, n5, n6]⟩ : Shape).Idx :=
  fun x => match x with | ⟨0, _⟩ => a | ⟨1, _⟩ => b | ⟨2, _⟩ => c | ⟨3, _⟩ => d | ⟨4, _⟩ => e | ⟨5, _⟩ => f | ⟨6, _⟩ => g

abbrev R6 : Shape := ⟨6, ![2, 6144, 3, 4, 6144, 160]⟩

/-- The score of a key in a row; a key after the query is out. -/
def score (σ : St Ideal) (x : (R5 6144).Idx) : EReal :=
  if (x 4).val ≤ (x 1).val then
    Ideal.ofBits .f32 0x3F000000#32 * ((∑ d : Fin 160, (σ .q (ValueIdx.ix5 (x 0) (x 1) (x 2) (x 3) d) : EReal) * σ .k (ValueIdx.ix4 (x 0) (x 2) (x 4) d))
      * σ .qs (rowOf x) * σ .ks (ValueIdx.ix3 (x 0) (x 2) (x 4)) * Ideal.ofBits .f32 0x3DA1E89B#32)
  else ⊥

/-- Key `n` of sixteen `j`. -/
def member (j : Fin 384) (n : Fin 16) : Fin 6144 := ⟨128 * (j.val / 8) + 8 * n.val + j.val % 8, by omega⟩

/-- The rows. -/
def rows (σ : St Ideal) : Scores where
  y := score σ
  p x := Finset.univ.sup fun n : Fin 16 => score σ (key (rowOf x) (member (x 4) n))
  m i := Finset.univ.sup fun k : Fin 6144 => score σ (key i k)
  qs := σ .qs

/-- The products of the codes. -/
theorem dot_val {q : FVec Ideal (R5 160) .f32} {k : FVec Ideal ⟨4, ![2, 3, 6144, 160]⟩ .f32} {h1 h2 h3 h4} {hr : R6.Reduces [5] (R5 6144)} (x : (R5 6144).Idx) :
    multiReduction (F := Ideal) (φ := .f32) .add [5] (R5 6144)
      (mulf (F := Ideal) (φ := .f32) (broadcastTo R6 (shapeCast ⟨6, ![2, 6144, 3, 4, 1, 160]⟩ q h1) h2) (broadcastTo R6 (shapeCast ⟨6, ![2, 1, 3, 1, 6144, 160]⟩ k h3) h4))
      0x00000000#32 hr (.inl rfl) rfl x = ∑ d : Fin 160, q (ValueIdx.ix5 (x 0) (x 1) (x 2) (x 3) d) * k (ValueIdx.ix4 (x 0) (x 2) (x 4) d) := by
  refine (Ideal.multiReduction_add_single _ _ hr (.inl rfl) rfl x).trans (Finset.sum_congr rfl fun d _ => ?_)
  show shapeCast ⟨6, ![2, 6144, 3, 4, 1, 160]⟩ q h1 _ * shapeCast ⟨6, ![2, 1, 3, 1, 6144, 160]⟩ k h3 _ = _
  congr 1
  · refine shapeCast_apply _ h1 _ _ ?_
    rw [Shape.rowMajor_val_five, Shape.rowMajor_val_six]
    show ((((x 0).val * 6144 + (x 1).val) * 3 + (x 2).val) * 4 + (x 3).val) * 160 + d.val
      = (((((x 0).val * 6144 + (x 1).val) * 3 + (x 2).val) * 4 + (x 3).val) * 1 + 0) * 160 + d.val
    omega
  · refine shapeCast_apply _ h3 _ _ ?_
    rw [Shape.rowMajor_val_four, Shape.rowMajor_val_six]
    show (((x 0).val * 3 + (x 2).val) * 6144 + (x 4).val) * 160 + d.val
      = (((((x 0).val * 1 + 0) * 3 + (x 2).val) * 1 + 0) * 6144 + (x 4).val) * 160 + d.val
    omega

/-- A number per key, spread along the rows. -/
theorem along_val {α : Type} {s : (⟨3, ![2, 3, 6144]⟩ : Shape).Idx → α} {h1 h2} (x : (R5 6144).Idx) :
    broadcastTo (R5 6144) (shapeCast ⟨5, ![2, 1, 3, 1, 6144]⟩ s h1) h2 x = s (ValueIdx.ix3 (x 0) (x 2) (x 4)) := by
  show shapeCast ⟨5, ![2, 1, 3, 1, 6144]⟩ s h1 _ = _
  refine shapeCast_apply _ h1 _ _ ?_
  rw [Shape.rowMajor_val_three, Shape.rowMajor_val_five]
  show ((x 0).val * 3 + (x 2).val) * 6144 + (x 4).val = ((((x 0).val * 1 + 0) * 3 + (x 2).val) * 1 + 0) * 6144 + (x 4).val
  omega

/-- A small number as a word, read signed. -/
theorem toInt_small (n : ℕ) (h : n ≤ 6144) : (BitVec.ofNat 32 n).toInt = n := by
  have e : (BitVec.ofNat 32 n).toNat = n := by
    rw [BitVec.toNat_ofNat]; exact Nat.mod_eq_of_lt (by omega)
  rw [BitVec.toInt_eq_toNat_of_lt (by rw [e]; omega), e]

/-- Order of small numbers as words. -/
theorem sle_small (a b : ℕ) (ha : a < 6144) (hb : b < 6144) : Scalar.cmpi .sle (BitVec.ofNat 32 a) (BitVec.ofNat 32 b) = BitVec.ofBool (decide (a ≤ b)) := by
  show BitVec.ofBool ((BitVec.ofNat 32 a).sle (BitVec.ofNat 32 b)) = _
  congr 1
  rw [BitVec.sle_eq_decide, toInt_small a (by omega), toInt_small b (by omega)]
  exact decide_eq_decide.mpr Int.ofNat_le

/-- The scores. -/
theorem score_val {σ : St Ideal} {i1 i2} {D Q K : FVec Ideal (R5 6144) .f32}
    (hD : ∀ x, D x = ∑ d : Fin 160, (σ .q (ValueIdx.ix5 (x 0) (x 1) (x 2) (x 3) d) : EReal) * σ .k (ValueIdx.ix4 (x 0) (x 2) (x 4) d))
    (hQ : ∀ x, Q x = σ .qs (rowOf x)) (hK : ∀ x, K x = σ .ks (ValueIdx.ix3 (x 0) (x 2) (x 4))) (x : (R5 6144).Idx) :
    select (cmpi .sle (iota .tc (R5 6144) 32 [4] i1) (iota .tc (R5 6144) 32 [1] i2))
      (mulf (F := Ideal) (φ := .f32) (broadcast (R5 6144) (Scalar.ofBits (F := Ideal) .f32 0x3F000000#32))
        (mulf (mulf (mulf D Q) K) (broadcast (R5 6144) (Scalar.ofBits (F := Ideal) .f32 0x3DA1E89B#32))))
      (broadcast (R5 6144) (Scalar.ofBits (F := Ideal) .f32 0xFF800000#32)) x = score σ x := by
  have h4 : (x 4).val < 6144 := (x 4).isLt
  have h1 : (x 1).val < 6144 := (x 1).isLt
  show Scalar.select (Scalar.cmpi .sle (BitVec.ofNat 32 (0 * 6144 + (x 4).val)) (BitVec.ofNat 32 (0 * 6144 + (x 1).val)))
    (Ideal.ofBits .f32 0x3F000000#32 * (D x * Q x * K x * Ideal.ofBits .f32 0x3DA1E89B#32)) (FloatOps.ofBits (F := Ideal) .f32 0xFF800000#32 : EReal) = _
  rw [Nat.zero_mul, Nat.zero_add, Nat.zero_add, sle_small _ _ h4 h1, hD, hQ, hK, neg_top]
  unfold score
  by_cases h : (x 4).val ≤ (x 1).val
  · rw [if_pos h, decide_eq_true h]; rfl
  · rw [if_neg h, decide_eq_false h]; rfl

/-- The maxima of the sixteens. -/
theorem pool_val {v : FVec Ideal (R5 6144) .f32} {h1 h2} {hr : (⟨7, ![2, 6144, 3, 4, 48, 16, 8]⟩ : Shape).Reduces [5] ⟨6, ![2, 6144, 3, 4, 48, 8]⟩} (x : (R5 384).Idx) :
    shapeCast (R5 384) (multiReduction (F := Ideal) (φ := .f32) .maximumf [5] ⟨6, ![2, 6144, 3, 4, 48, 8]⟩ (shapeCast ⟨7, ![2, 6144, 3, 4, 48, 16, 8]⟩ v h1) 0xFF800000#32 hr (.inl rfl) rfl) h2 x
      = Finset.univ.sup fun n : Fin 16 => v (key (rowOf x) (member (x 4) n)) := by
  have h4 : (x 4).val < 384 := (x 4).isLt
  refine (shapeCast_apply _ h2 x (ValueIdx.ix6 (x 0) (x 1) (x 2) (x 3) (⟨(x 4).val / 8, by omega⟩ : Fin 48) (⟨(x 4).val % 8, by omega⟩ : Fin 8)) ?_).trans ?_
  · rw [Shape.rowMajor_val_five, Shape.rowMajor_val_six]
    show (((((x 0).val * 6144 + (x 1).val) * 3 + (x 2).val) * 4 + (x 3).val) * 48 + (x 4).val / 8) * 8 + (x 4).val % 8
      = ((((x 0).val * 6144 + (x 1).val) * 3 + (x 2).val) * 4 + (x 3).val) * 384 + (x 4).val
    omega
  refine (max_single _ (hr := hr) _).trans (congrArg (Finset.univ : Finset (Fin 16)).sup (funext fun n => ?_))
  refine shapeCast_apply _ h1 _ _ ?_
  rw [Shape.rowMajor_val_five, rowMajor_val_seven]
  show ((((x 0).val * 6144 + (x 1).val) * 3 + (x 2).val) * 4 + (x 3).val) * 6144 + (128 * ((x 4).val / 8) + 8 * n.val + (x 4).val % 8)
    = ((((((x 0).val * 6144 + (x 1).val) * 3 + (x 2).val) * 4 + (x 3).val) * 48 + (x 4).val / 8) * 16 + n.val) * 8 + (x 4).val % 8
  omega

/-- The maxima of the scores. -/
theorem top_val {σ : St Ideal} {v : FVec Ideal (R5 6144) .f32} (hv : v = score σ) {hr : (R5 6144).Reduces [4] R4} :
    multiReduction (F := Ideal) (φ := .f32) .maximumf [4] R4 v 0xFF800000#32 hr (.inl rfl) rfl = (rows σ).m := by
  funext i
  have e := max_val (n := 6144) v (hr := hr) i
  refine e.trans ?_
  rw [hv]; rfl

/-- The number of keys a row sees. -/
theorem seen_val {i1} (i : R4.Idx) : sitofp (F := Ideal) .f32 (addi (iota .tc R4 32 [1] i1) (broadcast R4 1#32)) i = seen i := by
  have h1 : (i 1).val < 6144 := (i 1).isLt
  show (((IntOp.addi (BitVec.ofNat 32 (0 * 6144 + (i 1).val)) 1#32).toInt : ℝ) : EReal) = _
  rw [Nat.zero_mul, Nat.zero_add]
  have e : IntOp.addi (BitVec.ofNat 32 (i 1).val) 1#32 = BitVec.ofNat 32 ((i 1).val + 1) := (BitVec.ofNat_add _ _).symm
  rw [e]
  rw [toInt_small _ (by omega)]
  rfl

/-- The row of an entry of the first result. -/
def oRow (x : (⟨3, ![2, 6144, 1920]⟩ : Shape).Idx) : R4.Idx :=
  ValueIdx.ix4 (x 0) (x 1) (⟨(x 2).val / 640, by have : (x 2).val < 1920 := (x 2).isLt; omega⟩ : Fin 3) (⟨(x 2).val % 640 / 160, by omega⟩ : Fin 4)

/-- Its column of `v`. -/
def oCol (x : (⟨3, ![2, 6144, 1920]⟩ : Shape).Idx) : Fin 160 := ⟨(x 2).val % 640 % 160, by omega⟩

/-- The row of an entry of the second result. -/
def tRow (x : (⟨3, ![2, 6144, 12]⟩ : Shape).Idx) : R4.Idx :=
  ValueIdx.ix4 (x 0) (x 1) (⟨(x 2).val / 4, by have : (x 2).val < 12 := (x 2).isLt; omega⟩ : Fin 3) (⟨(x 2).val % 4, by omega⟩ : Fin 4)

/-- The first result. -/
def oVal (σ : St Ideal) (x : (⟨3, ![2, 6144, 1920]⟩ : Shape).Idx) : EReal :=
  mix ((rows σ).row (oRow x)) ((rows σ).root (oRow x)) (fun k => σ .vs (ValueIdx.ix3 (x 0) (oRow x 2) k)) (fun k => σ .v (ValueIdx.ix4 (x 0) (oRow x 2) k (oCol x)))

/-- The second result. -/
def tVal (σ : St Ideal) (x : (⟨3, ![2, 6144, 12]⟩ : Shape).Idx) : EReal := (rows σ).root (tRow x) - (rows σ).m (tRow x)

/-- The weighed sum. -/
theorem mix_val {W : FVec Ideal (R5 6144) .f32} {v : FVec Ideal ⟨4, ![2, 3, 6144, 160]⟩ .bf16} {h1 h2 h3 h4 h5 b1 b2 b3 b4} {hr : R6.Reduces [4] (R5 160)} (x : (⟨3, ![2, 6144, 1920]⟩ : Shape).Idx) :
    shapeCast ⟨3, ![2, 6144, 1920]⟩ (truncf .bf16 (multiReduction (F := Ideal) (φ := .f32) .add [4] (R5 160)
      (mulf (F := Ideal) (φ := .f32) (broadcastTo R6 (extf (F := Ideal) .f32 (shapeCast ⟨6, ![2, 6144, 3, 4, 6144, 1]⟩ (truncf (F := Ideal) .bf16 W b1) h1) b2) h2) (broadcastTo R6 (extf (F := Ideal) .f32 (shapeCast ⟨6, ![2, 1, 3, 1, 6144, 160]⟩ v h3) b3) h4))
      0x00000000#32 hr (.inl rfl) rfl) b4) h5 x = ∑ k : Fin 6144, v (ValueIdx.ix4 (x 0) (oRow x 2) k (oCol x)) * W (key (oRow x) k) := by
  have hx2 : (x 2).val < 1920 := (x 2).isLt
  refine (shapeCast_apply _ h5 x (ValueIdx.ix5 (x 0) (x 1) (⟨(x 2).val / 640, by omega⟩ : Fin 3) (⟨(x 2).val % 640 / 160, by omega⟩ : Fin 4) (oCol x)) ?_).trans ?_
  · rw [Shape.rowMajor_val_five, Shape.rowMajor_val_three]
    show ((((x 0).val * 6144 + (x 1).val) * 3 + (x 2).val / 640) * 4 + (x 2).val % 640 / 160) * 160 + (x 2).val % 640 % 160 = ((x 0).val * 6144 + (x 1).val) * 1920 + (x 2).val
    omega
  show multiReduction (F := Ideal) (φ := .f32) .add [4] (R5 160) _ 0x00000000#32 hr (.inl rfl) rfl _ = _
  refine (Ideal.multiReduction_add_single _ _ hr (.inl rfl) rfl _).trans (Finset.sum_congr rfl fun k _ => ?_)
  show shapeCast ⟨6, ![2, 6144, 3, 4, 6144, 1]⟩ (truncf (F := Ideal) .bf16 W b1) h1 _ * shapeCast ⟨6, ![2, 1, 3, 1, 6144, 160]⟩ v h3 _ = _
  rw [mul_comm]
  congr 1
  · refine shapeCast_apply _ h3 _ _ ?_
    rw [Shape.rowMajor_val_four, Shape.rowMajor_val_six]
    show (((x 0).val * 3 + (x 2).val / 640) * 6144 + k.val) * 160 + (x 2).val % 640 % 160
      = (((((x 0).val * 1 + 0) * 3 + (x 2).val / 640) * 1 + 0) * 6144 + k.val) * 160 + (x 2).val % 640 % 160
    omega
  · refine shapeCast_apply _ h1 _ _ ?_
    rw [Shape.rowMajor_val_five, Shape.rowMajor_val_six]
    show ((((x 0).val * 6144 + (x 1).val) * 3 + (x 2).val / 640) * 4 + (x 2).val % 640 / 160) * 6144 + k.val
      = (((((x 0).val * 6144 + (x 1).val) * 3 + (x 2).val / 640) * 4 + (x 2).val % 640 / 160) * 6144 + k.val) * 1 + 0
    omega

/-- One number per row, by heads. -/
theorem heads_val {α : Type} {t : R4.Idx → α} {h} (x : (⟨3, ![2, 6144, 12]⟩ : Shape).Idx) : shapeCast ⟨3, ![2, 6144, 12]⟩ t h x = t (tRow x) := by
  have hx2 : (x 2).val < 12 := (x 2).isLt
  refine shapeCast_apply _ h _ _ ?_
  rw [Shape.rowMajor_val_four, Shape.rowMajor_val_three]
  show (((x 0).val * 6144 + (x 1).val) * 3 + (x 2).val / 4) * 4 + (x 2).val % 4 = ((x 0).val * 6144 + (x 1).val) * 12 + (x 2).val
  omega

end EntmaxR

end
-- ==== Proof.RefRun.lean ====
/-
  The body of the reference run: from its input buffers to its two results.
-/
module

public import proofs.«01_k».proof.Proof.RefScores
public import proofs.«01_k».proof.Proof.Tiles
public import proofs.«01_k».proof.Proof.Gen.ReferenceIdeal.Frame

@[expose] public section

set_option maxRecDepth 16384

noncomputable section

namespace EntmaxR

open Idealize.ShloMosaic Idealize.ShloMosaic.TcCoe Cert.ReferenceIdeal
open Idealize.SL.Sem
open Entmax

variable {c : Dev nD} {ms : Mems sig} {bd : Option ℕ} {α β : Type} {σ : St Ideal}

/-- A whole buffer read. -/
theorem Run.load_whole (b : Bf) {off : Fin (sh b).rank → ℕ} {inb} {hl : (ms b).view.LoadsAt (Rect.unit (s := sh b) off (sh b).size inb).toLoadRect}
    {k : ((Rect.unit (s := sh b) off (sh b).size inb).toLoadRect.shape.Idx → Elt Ideal (el b)) → Prog (TpuEff nD τ sig (Elt Ideal) Λ₀ .tc) β} {Q : β → St Ideal → Prop}
    (hoff : ∀ a, off a = 0) (h : Run c defs₀ ms bd (k (σ b)) σ Q) :
    Run c defs₀ ms bd (Prog.lift (.load (ms b) (Rect.unit (s := sh b) off (sh b).size inb).toLoadRect hl) >>= k) σ Q := by
  refine Run.load b ?_
  have e : (fun x => σ b ((Rect.unit (s := sh b) off (sh b).size inb).toLoadRect.idx x)) = σ b := by
    funext x
    refine congrArg (σ b) (funext fun a => Fin.ext ?_)
    show off a + 1 * (x a).val = (x a).val
    rw [hoff a]; omega
  rw [e]
  exact h

/-- The buffer after a store of the whole of it. -/
theorem put_whole (b : Bf) {off : Fin (sh b).rank → ℕ} {inb} (hoff : ∀ a, off a = 0) (w : (sh b).Idx → Elt Ideal (el b)) (x : (sh b).Idx) :
    put σ b (Rect.unit (s := sh b) off (sh b).size inb) w b x = w x := by
  unfold put
  rw [Function.update_self]
  refine overlay_whole inb hoff (fun _ => rfl) _ _ x (· = w x) fun y hy => ?_
  exact congrArg w (funext fun a => Fin.ext (hy a).symm)

theorem put_ne (b b' : Bf) {r : Rect (sh b)} {w : r.shape.Idx → Elt Ideal (el b)} (h : b' ≠ b) : put σ b r w b' = σ b' :=
  Function.update_of_ne h _ _

theorem t1_trips : k0_t1_loop.trips = 6 := by decide +kernel
theorem t2_trips : k0_t2_loop.trips = 6 := by decide +kernel
theorem t3_trips : k0_t3_loop.trips = 3 := by decide +kernel

/-- The moments of a round, and what the maxima leave out. -/
theorem part1_run (hms : ∀ b, (ms b).IsWhole) (Z : Scores) (hq : Z.qs = σ .qs) (T : FVec Ideal R4 .f32) (w1 w2 : BitVec 32) (k : Fin k0_t2_loop.trips) :
    Run c defs₀ ms bd (k0_part1 (ms .q) (hms .q) (ms .qs) (hms .qs) (ms .k) (hms .k) (ms .ks) (hms .ks) (ms .v) (hms .v) (ms .vs) (hms .vs) (ms .o) (hms .o) (ms .tau) (hms .tau) Z.y Z.p w1 w2 k T) σ
      (fun r σ' => σ' = σ ∧ (∀ i, r.1 i = mom1 (Z.row i).y (T i)) ∧ (∀ i, r.2.1 i = (Z.row i).mg (T i)) ∧ (∀ i, r.2.2.1 i = (Z.row i).md (T i)) ∧
        (∀ i, r.2.2.2.1 i = (Ideal.sqrt (mom2 (Z.row i).y (T i)) - (Z.row i).a) * Ideal.sqrt (mom2 (Z.row i).y (T i))) ∧
        ∀ i, r.2.2.2.2 i = if 0 < mom1 (Z.row i).y (T i) then mom1 (Z.row i).y (T i) else (Z.row i).b) := by
  unfold k0_part1
  refine Run.load_whole .qs (by decide) ?_
  refine Run.ret ⟨rfl, fun i => mom1_val i, ?_, ?_, ?_, ?_⟩
  · exact mg_val (t := T) (fun i => mom2_val i) (fun i => mom2_val i)
  · exact md_val (t := T) (fun i => mom1_val i) (fun i => mom1_val i) (mg_val (t := T) (fun i => mom2_val i) (fun i => mom2_val i))
  · exact num_val (Z := Z) (s2 := fun i => mom2 (Z.row i).y (T i)) (fun i => mom2_val i)
  · refine den_val (Z := Z) (s1 := fun i => mom1 (Z.row i).y (T i)) (fun i => mom1_val i) (fun i => ?_)
    rw [shapeCast_self, hq]

/-- The scores and their maxima, as the body has them. -/
def withPool (y : FVec Ideal (R5 6144) .f32) (m q : FVec Ideal R4 .f32) : Scores where
  y := y
  p := shapeCast S2x6144x3x4x384 (multiReduction (F := Ideal) (φ := .f32) .maximumf [5] S2x6144x3x4x48x8
    (shapeCast S2x6144x3x4x48x16x8 y Facts₀.shapeCasts_S2x6144x3x4x6144_S2x6144x3x4x48x16x8) 0xFF800000#32 Facts₀.reduces_S2x6144x3x4x48x16x8_S2x6144x3x4x48x8 (.inl rfl) rfl)
    Facts₀.shapeCasts_S2x6144x3x4x48x8_S2x6144x3x4x384
  m := m
  qs := q

/-- From the scores to the results. -/
theorem part3_run (hms : ∀ b, (ms b).IsWhole) (Z : Scores) (hZ : Z = withPool Z.y Z.m (σ .qs)) :
    Run c defs₀ ms bd (k0_part3 (ms .q) (hms .q) (ms .qs) (hms .qs) (ms .k) (hms .k) (ms .ks) (hms .ks) (ms .v) (hms .v) (ms .vs) (hms .vs) (ms .o) (hms .o) (ms .tau) (hms .tau) (σ .v) Z.y Z.m) σ
      (fun r σ' => (∀ x, r x = Z.root (tRow x) - Z.m (tRow x)) ∧
        (∀ x, σ' .o x = mix (Z.row (oRow x)) (Z.root (oRow x)) (fun k => σ .vs (ValueIdx.ix3 (x 0) (oRow x 2) k)) (fun k => σ .v (ValueIdx.ix4 (x 0) (oRow x 2) k (oCol x)))) ∧
        ∀ b, b ≠ .o → σ' b = σ b) := by
  have hq : Z.qs = σ .qs := by rw [hZ]; rfl
  have hp : (withPool Z.y Z.m (σ .qs)).p = Z.p := (congrArg Scores.p hZ).symm
  unfold withPool at hp
  dsimp only at hp
  unfold k0_part3
  have hlo : ∀ i, subf (F := Ideal) (φ := .f32) Z.m (broadcast R4 (Scalar.ofBits (F := Ideal) .f32 0x3F800000#32)) i = (Z.row i).lo := fun i => rfl
  have hhi : ∀ {h1} i, subf (F := Ideal) (φ := .f32) Z.m (rsqrt (sitofp (F := Ideal) .f32 (addi (iota .tc R4 32 [1] h1) (broadcast R4 1#32)))) i = (Z.row i).hi := fun i => by
    show Z.m i - Ideal.rsqrt (sitofp (F := Ideal) .f32 (addi (iota .tc R4 32 [1] _) (broadcast R4 1#32)) i) = _
    rw [seen_val]; rfl
  dsimp only
  rw [hp]
  refine Run.bind (Run.loop (fun n a σ' => σ' = σ ∧ ∀ i, a i = (Z.row i).poolStep^[n] (Z.row i).lo) ⟨rfl, hlo⟩ (fun k a σ' h => ?_) (fun a σ' h => h)) fun v47 σ' h => ?_
  · obtain ⟨e, ha⟩ := h
    rw [e]
    refine Run.load_whole .qs (by decide) ?_
    refine Run.ret ⟨rfl, fun i => ?_⟩
    rw [Function.iterate_succ_apply', ← ha i]
    refine newton_val hlo hhi (s1 := fun i => mom1 (Z.row i).p (a i)) (s2 := fun i => mom2 (Z.row i).p (a i)) (num_val fun i => mom2_val i) (den_val (fun i => mom1_val i) fun i => ?_) i
    rw [shapeCast_self, hq]
  obtain ⟨e, h0⟩ := h
  rw [e]
  rw [t1_trips] at h0
  refine Run.bind (Run.loop (fun n a σ' => σ' = σ ∧ (∀ i, a.1 i = (Z.after n i).1) ∧ ∀ i, a.2 i = Z.at' n i) ⟨rfl, fun i => rfl, fun i => (h0 i).trans (Z.at_zero i).symm⟩ (fun k a σ' h => ?_) (fun a σ' h => h)) fun v50 σ' h => ?_
  · obtain ⟨e, hg, ha⟩ := h
    obtain ⟨G, T⟩ := a
    rw [e]
    refine Run.bind (part1_run hms Z hq T _ _ _) fun r σ' h => ?_
    obtain ⟨r1, r2, r3, r4, r5⟩ := r
    obtain ⟨e, h1, h2, h3, h4, h5⟩ := h
    rw [e]
    refine Run.bind (Run.loop (fun n a σ' => σ' = σ ∧ ∀ i, a i = ((Z.row i).refine (T i))^[n] ((Z.row i).newton (T i) (mom1 (Z.row i).y (T i)) (mom2 (Z.row i).y (T i))))
      ⟨rfl, newton_val hlo hhi h4 h5⟩ (fun j U σ' h => ?_) (fun a σ' h => h)) fun U σ' h => ?_
    · obtain ⟨e, hU⟩ := h
      rw [e]
      refine Run.load_whole .qs (by decide) ?_
      refine Run.ret ⟨rfl, fun i => ?_⟩
      rw [Function.iterate_succ_apply', ← hU i]
      refine newton_val hlo hhi (s1 := fun i => mom1 (Z.row i).p (U i) + (Z.row i).rest (T i) (U i) * (Z.row i).md (T i))
        (s2 := fun i => mom2 (Z.row i).p (U i) + (Z.row i).rest (T i) (U i) * (Z.row i).rest (T i) (U i)) (num_val fun i => ?_) (den_val (fun i => ?_) fun i => ?_) i
      · exact congrArg₂ (· + ·) (mom2_val i) (congrArg₂ (· * ·) (rest_val h2 h3 i) (rest_val h2 h3 i))
      · exact congrArg₂ (· + ·) (mom1_val i) (congrArg₂ (· * ·) (rest_val h2 h3 i) (h3 i))
      · rw [shapeCast_self, hq]
    obtain ⟨e, hU⟩ := h
    rw [e]
    rw [t3_trips] at hU
    have hU' : ∀ i, U i = (Z.row i).next (T i) := hU
    refine Run.ret ⟨rfl, fun i => ?_, fun i => ?_⟩
    · refine Eq.trans ?_ (Z.after_succ k.val i).1.symm
      rw [← hg i]
      show Scalar.select (BitVec.ofBool (decide (Ideal.ofBits .f32 0x00000000#32 < G i))) _ (G i) = _
      rw [Ideal.ofBits_zero_f32, select_ogt]
      refine congrArg (fun z => if 0 < G i then z else G i) ?_
      refine (group_val i).trans (congrArg _ (funext fun l => ?_))
      refine (over_val (Z := Z) (t := T) (fun i => mom2_val i) h1 (fun i => rfl) (mate i l)).trans ?_
      rw [← ha, ← hU']
    · refine Eq.trans ?_ (Z.after_succ k.val i).2.symm
      rw [← hg i, ← ha i, ← hU' i]
      show Scalar.select (BitVec.ofBool (decide (Ideal.ofBits .f32 0x00000000#32 < G i))) (U i) (T i) = _
      rw [Ideal.ofBits_zero_f32, select_ogt]
  obtain ⟨e, -, hT⟩ := h
  obtain ⟨G, T⟩ := v50
  rw [e]
  rw [t2_trips] at hT
  have hT' : ∀ i, T i = Z.root i := hT
  refine Run.load_whole .vs (by decide) ?_
  refine Run.load .o ?_
  refine Run.store .o ?_
  refine Run.ret ⟨fun x => ?_, fun x => ?_, fun b hb => put_ne _ _ hb⟩
  · refine (heads_val x).trans ?_
    show T _ - Z.m _ = _
    rw [hT']
  · refine (put_whole .o (by decide) _ x).trans ?_
    refine (mix_val x).trans ?_
    unfold mix
    refine (Finset.sum_congr rfl fun k _ => congrArg (σ .v (ValueIdx.ix4 (x 0) (oRow x 2) k (oCol x)) * ·) ?_)
    refine congrArg₂ (· * ·) (congrArg₂ (· * ·) ?_ ?_) ?_
    · show max (Z.y (key (oRow x) k) - broadcastTo (R5 6144) (shapeCast (R5 1) T _) _ (key (oRow x) k)) (Ideal.ofBits .f32 0x00000000#32) = _
      rw [spread_val, rowOf_key, Ideal.ofBits_zero_f32, hT']; rfl
    · show max (Z.y (key (oRow x) k) - broadcastTo (R5 6144) (shapeCast (R5 1) T _) _ (key (oRow x) k)) (Ideal.ofBits .f32 0x00000000#32) = _
      rw [spread_val, rowOf_key, Ideal.ofBits_zero_f32, hT']; rfl
    · rw [shapeCast_self]; exact along_val _

/-- From the codes to the scores. -/
theorem part2_run (hms : ∀ b, (ms b).IsWhole) :
    Run c defs₀ ms bd (k0_part2 (ms .q) (hms .q) (ms .qs) (hms .qs) (ms .k) (hms .k) (ms .ks) (hms .ks) (ms .v) (hms .v) (ms .vs) (hms .vs) (ms .o) (hms .o) (ms .tau) (hms .tau)) σ
      (fun r σ' => σ' = σ ∧ r.1 = σ .v ∧ r.2.1 = (rows σ).y ∧ r.2.2 = (rows σ).m) := by
  unfold k0_part2
  refine Run.load_whole .q (by decide) ?_
  refine Run.load_whole .k (by decide) ?_
  refine Run.load_whole .v (by decide) ?_
  refine Run.load_whole .qs (by decide) ?_
  refine Run.load_whole .ks (by decide) ?_
  have hS := fun {i1 i2} {D Q K : FVec Ideal (R5 6144) .f32} hD hQ hK => funext (score_val (σ := σ) (i1 := i1) (i2 := i2) (D := D) (Q := Q) (K := K) hD hQ hK)
  refine Run.ret ⟨rfl, ?_, ?_, ?_⟩
  · exact shapeCast_self _ _
  · refine hS (fun x => ?_) (fun x => ?_) (fun x => ?_)
    · exact (dot_val x).trans (by rw [shapeCast_self, shapeCast_self]; rfl)
    · exact (spread_val x).trans (by rw [shapeCast_self])
    · exact (along_val x).trans (by rw [shapeCast_self])
  · dsimp only
    refine (congrArg (fun v : FVec Ideal (R5 6144) .f32 => multiReduction (F := Ideal) (φ := .f32) .maximumf [4] R4 v 0xFF800000#32 Facts₀.reduces_S2x6144x3x4x6144_S2x6144x3x4 (.inl rfl) rfl)
      (hS (fun x => ?_) (fun x => ?_) (fun x => ?_))).trans (top_val rfl)
    · exact (dot_val x).trans (by rw [shapeCast_self, shapeCast_self]; rfl)
    · exact (spread_val x).trans (by rw [shapeCast_self])
    · exact (along_val x).trans (by rw [shapeCast_self])

theorem scores_ext {Z W : Scores} (h1 : Z.y = W.y) (h2 : Z.p = W.p) (h3 : Z.m = W.m) (h4 : Z.qs = W.qs) : Z = W := by
  cases Z; cases W
  dsimp only at h1 h2 h3 h4
  rw [h1, h2, h3, h4]

theorem rows_pool (σ : St Ideal) : rows σ = withPool (rows σ).y (rows σ).m (σ .qs) := by
  have e : (rows σ).p = (withPool (rows σ).y (rows σ).m (σ .qs)).p := by
    unfold withPool
    dsimp only
    funext x
    exact (pool_val x).symm
  exact scores_ext (by unfold withPool; rfl) e (by unfold withPool; rfl) (by unfold withPool; rfl)

/-- The body: the two results from the input buffers, which stay as they are. -/
theorem body_run (hms : ∀ b, (ms b).IsWhole) :
    Run c defs₀ ms bd (cc0__entmax_attention (ms .q) (hms .q) (ms .qs) (hms .qs) (ms .k) (hms .k) (ms .ks) (hms .ks) (ms .v) (hms .v) (ms .vs) (hms .vs) (ms .o) (hms .o) (ms .tau) (hms .tau)) σ
      (fun _ σ' => σ' .o = oVal σ ∧ σ' .tau = tVal σ ∧ ∀ b, b ≠ .o → b ≠ .tau → σ' b = σ b) := by
  unfold cc0__entmax_attention
  refine Run.bind (part2_run hms) fun r σ' h => ?_
  obtain ⟨r1, r2, r3⟩ := r
  obtain ⟨e, e1, e2, e3⟩ := h
  dsimp only at e1 e2 e3
  subst e1 e2 e3
  rw [e]
  refine Run.bind (part3_run hms (rows σ) (rows_pool σ)) fun r σ' h => ?_
  obtain ⟨h1, h2, h3⟩ := h
  refine Run.load .tau ?_
  refine Run.store .tau ?_
  refine Run.ret ⟨?_, ?_, fun b hb hb' => (put_ne _ _ hb').trans (h3 b hb)⟩
  · refine (put_ne _ _ (by decide)).trans (funext h2)
  · funext x
    exact (put_whole .tau (by decide) _ x).trans (h1 x)

end EntmaxR

end
-- ==== Proof.RRun.lean ====
/-
  The reference's run: its frame, and what its two results hold at the end, in its input buffers.
-/
module

public import proofs.«01_k».proof.Proof.RefRun

@[expose] public section

set_option maxRecDepth 16384

noncomputable section

namespace EntmaxR

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (ρ : Dev nD → PrngReg)

local notation "𝕄" => MM nD τ sig Ideal

/-- The staging buffers of the eight windows. -/
abbrev mems (t : Fin cfg0.N) : Mems sig := fun
  | .q => win0_0.stage (cfg0.slots t 0) | .qs => win0_1.stage (cfg0.slots t 1) | .k => win0_2.stage (cfg0.slots t 2) | .ks => win0_3.stage (cfg0.slots t 3) | .v => win0_4.stage (cfg0.slots t 4) | .vs => win0_5.stage (cfg0.slots t 5) | .o => win0_6.stage (cfg0.slots t 6) | .tau => win0_7.stage (cfg0.slots t 7)

theorem mems_whole (t : Fin cfg0.N) : ∀ b, (mems t b).IsWhole := fun
  | .q => hstage0_0 0 | .qs => hstage0_1 0 | .k => hstage0_2 0 | .ks => hstage0_3 0 | .v => hstage0_4 0 | .vs => hstage0_5 0 | .o => hstage0_6 0 | .tau => hstage0_7 0

theorem defs₀_row (t : Fin cfg0.N) :
    defs₀ (F := Ideal) .tc cfg0.body (cfg0.bodyArgs t (cfg0.slots t)) = cc0__entmax_attention (mems t .q) (mems_whole t .q) (mems t .qs) (mems_whole t .qs) (mems t .k) (mems_whole t .k) (mems t .ks) (mems_whole t .ks) (mems t .v) (mems_whole t .v) (mems t .vs) (mems_whole t .vs) (mems t .o) (mems_whole t .o) (mems t .tau) (mems_whole t .tau) := by
  unfold defs₀; rw [Defs.onTc_tc]

/-- The eight buffers one by one. -/
theorem own_eq (c : Dev nD) (ms : Mems sig) (σ : St Ideal) : (own c ms σ : sProp 𝕄)
    = iprop(owns (c : Thread nD τ) (ms .q) fullShare (σ .q) ∗ owns (c : Thread nD τ) (ms .qs) fullShare (σ .qs) ∗ owns (c : Thread nD τ) (ms .k) fullShare (σ .k) ∗ owns (c : Thread nD τ) (ms .ks) fullShare (σ .ks) ∗ owns (c : Thread nD τ) (ms .v) fullShare (σ .v) ∗ owns (c : Thread nD τ) (ms .vs) fullShare (σ .vs) ∗ owns (c : Thread nD τ) (ms .o) fullShare (σ .o) ∗ owns (c : Thread nD τ) (ms .tau) fullShare (σ .tau)) :=
  bigSep_univ_eq_bigSepL [Bf.q, .qs, .k, .ks, .v, .vs, .o, .tau] (by decide) (by decide) _

/-- The input buffers at the launch of the body. -/
def inputs (c : Dev nD) (t : Fin cfg0.N) : St Ideal := fun
  | .q => iblk m c 0 t | .qs => iblk m c 1 t | .k => iblk m c 2 t | .ks => iblk m c 3 t | .v => iblk m c 4 t | .vs => iblk m c 5 t | .o => fun _ => (0 : EReal) | .tau => fun _ => (0 : EReal)

/-- The results are those of the inputs. -/
theorem vals_congr {σ σ' : St Ideal} (h : ∀ b, b ≠ .o → b ≠ .tau → σ b = σ' b) : oVal σ = oVal σ' ∧ tVal σ = tVal σ' := by
  unfold oVal tVal rows score
  rw [h .q (by decide) (by decide), h .qs (by decide) (by decide), h .k (by decide) (by decide), h .ks (by decide) (by decide), h .v (by decide) (by decide), h .vs (by decide) (by decide)]
  exact ⟨rfl, rfl⟩

/-- The region's data. -/
def vdats (_ : Fin 1) (c : Dev nD) : Dat τ (Elt Ideal) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t | 5 => iblk m c 5 t
    | 6 => oVal (inputs m c t) | 7 => tVal (inputs m c t)
  Φ _ := Pipeline.ΦA spec0 c
  q _ := fullShare
  owed _ := 0

theorem before_0 (c : Dev nD) (t : Fin cfg0.N) (d) : (vdats m 0 c).before 0 t d = iblk m c 0 t := before0_0_of m (vdats m 0 c) rfl (fun _ => rfl) t d
theorem before_1 (c : Dev nD) (t : Fin cfg0.N) (d) : (vdats m 0 c).before 1 t d = iblk m c 1 t := before0_1_of m (vdats m 0 c) rfl (fun _ => rfl) t d
theorem before_2 (c : Dev nD) (t : Fin cfg0.N) (d) : (vdats m 0 c).before 2 t d = iblk m c 2 t := before0_2_of m (vdats m 0 c) rfl (fun _ => rfl) t d
theorem before_3 (c : Dev nD) (t : Fin cfg0.N) (d) : (vdats m 0 c).before 3 t d = iblk m c 3 t := before0_3_of m (vdats m 0 c) rfl (fun _ => rfl) t d
theorem before_4 (c : Dev nD) (t : Fin cfg0.N) (d) : (vdats m 0 c).before 4 t d = iblk m c 4 t := before0_4_of m (vdats m 0 c) rfl (fun _ => rfl) t d
theorem before_5 (c : Dev nD) (t : Fin cfg0.N) (d) : (vdats m 0 c).before 5 t d = iblk m c 5 t := before0_5_of m (vdats m 0 c) rfl (fun _ => rfl) t d

/-- The staging buffers as the body finds them. -/
def found (c : Dev nD) (t : Fin cfg0.N) : sProp 𝕄 := iprop((∃ d, owns (c : Thread nD τ) (mems t .q) fullShare ((vdats m 0 c).before 0 t d)) ∗ (∃ d, owns (c : Thread nD τ) (mems t .qs) fullShare ((vdats m 0 c).before 1 t d)) ∗ (∃ d, owns (c : Thread nD τ) (mems t .k) fullShare ((vdats m 0 c).before 2 t d)) ∗ (∃ d, owns (c : Thread nD τ) (mems t .ks) fullShare ((vdats m 0 c).before 3 t d)) ∗ (∃ d, owns (c : Thread nD τ) (mems t .v) fullShare ((vdats m 0 c).before 4 t d)) ∗ (∃ d, owns (c : Thread nD τ) (mems t .vs) fullShare ((vdats m 0 c).before 5 t d)) ∗ (∃ d, owns (c : Thread nD τ) (mems t .o) fullShare ((vdats m 0 c).before 6 t d)) ∗ (∃ d, owns (c : Thread nD τ) (mems t .tau) fullShare ((vdats m 0 c).before 7 t d)))

/-- The staging buffers as the body leaves them. -/
def left (c : Dev nD) (t : Fin cfg0.N) : sProp 𝕄 := iprop(owns (c : Thread nD τ) (mems t .q) fullShare (iblk m c 0 t) ∗ owns (c : Thread nD τ) (mems t .qs) fullShare (iblk m c 1 t) ∗ owns (c : Thread nD τ) (mems t .k) fullShare (iblk m c 2 t) ∗ owns (c : Thread nD τ) (mems t .ks) fullShare (iblk m c 3 t) ∗ owns (c : Thread nD τ) (mems t .v) fullShare (iblk m c 4 t) ∗ owns (c : Thread nD τ) (mems t .vs) fullShare (iblk m c 5 t) ∗ owns (c : Thread nD τ) (mems t .o) fullShare (oVal (inputs m c t)) ∗ owns (c : Thread nD τ) (mems t .tau) fullShare (tVal (inputs m c t)))

theorem own_left (c : Dev nD) (t : Fin cfg0.N) (σ : St Ideal) (h : ∀ b, b ≠ .o → b ≠ .tau → σ b = inputs m c t b) (e6 : σ .o = oVal (inputs m c t)) (e7 : σ .tau = tVal (inputs m c t)) :
    (own c (mems t) σ : sProp 𝕄) ⊢ left m c t := by
  rw [own_eq, e6, e7, h .q (by decide) (by decide), h .qs (by decide) (by decide), h .k (by decide) (by decide), h .ks (by decide) (by decide), h .v (by decide) (by decide), h .vs (by decide) (by decide)]
  exact .rfl

theorem vsound (c : Dev nD) (t : Fin cfg0.N) :
    iprop((vdats m 0 c).Φ t.castSucc ∗ (vdats m 0 c).owesAt () t.castSucc ∗ found m c t)
      ⊢ wp frame (wpE (defs₀ (F := Ideal)) NatV (c : Thread nD τ) none) Set.univ (cc0__entmax_attention (mems t .q) (mems_whole t .q) (mems t .qs) (mems_whole t .qs) (mems t .k) (mems_whole t .k) (mems t .ks) (mems_whole t .ks) (mems t .v) (mems_whole t .v) (mems t .vs) (mems_whole t .vs) (mems t .o) (mems_whole t .o) (mems t .tau) (mems_whole t .tau))
        (fun _ => iprop((vdats m 0 c).Φ t.succ ∗ (vdats m 0 c).owesAt () t.succ ∗ left m c t)) := by
  rw [show (vdats m 0 c).Φ t.succ = (vdats m 0 c).Φ t.castSucc from rfl, show (vdats m 0 c).owesAt () t.succ = (vdats m 0 c).owesAt () t.castSucc from rfl]
  unfold found
  iintro ⟨HΦ, HW, ⟨%d0, D0⟩, ⟨%d1, D1⟩, ⟨%d2, D2⟩, ⟨%d3, D3⟩, ⟨%d4, D4⟩, ⟨%d5, D5⟩, ⟨%d6, D6⟩, ⟨%d7, D7⟩⟩
  let σ : St Ideal := fun
    | .q => (vdats m 0 c).before 0 t d0 | .qs => (vdats m 0 c).before 1 t d1 | .k => (vdats m 0 c).before 2 t d2 | .ks => (vdats m 0 c).before 3 t d3 | .v => (vdats m 0 c).before 4 t d4 | .vs => (vdats m 0 c).before 5 t d5 | .o => (vdats m 0 c).before 6 t d6 | .tau => (vdats m 0 c).before 7 t d7
  have hI : ∀ b, b ≠ .o → b ≠ .tau → σ b = inputs m c t b := fun
    | .q, _, _ => before_0 m c t d0 | .qs, _, _ => before_1 m c t d1 | .k, _, _ => before_2 m c t d2 | .ks, _, _ => before_3 m c t d3 | .v, _, _ => before_4 m c t d4 | .vs, _, _ => before_5 m c t d5 | .o, h, _ => absurd rfl h | .tau, _, h => absurd rfl h
  have hrun := body_run (c := c) (ms := mems t) (bd := none) (σ := σ) (mems_whole t)
  iapply wp_wand $$ [D0 D1 D2 D3 D4 D5 D6 D7]
  · iapply hrun.out
    rw [own_eq]
    isplitl [D0]; · iexact D0
    isplitl [D1]; · iexact D1
    isplitl [D2]; · iexact D2
    isplitl [D3]; · iexact D3
    isplitl [D4]; · iexact D4
    isplitl [D5]; · iexact D5
    isplitl [D6]; · iexact D6
    iexact D7
  iintro %u ⟨%σ', %hQ, H⟩
  obtain ⟨ho, ht, hr⟩ := hQ
  isplitl [HΦ]; · iexact HΦ
  isplitl [HW]; · iexact HW
  iapply (own_left m c t σ' (fun b h h' => (hr b h h').trans (hI b h h')) (ho.trans (vals_congr hI).1) (ht.trans (vals_congr hI).2))
  iexact H

theorem vobligation (c : Dev nD) : Pipeline.BodyObligationLoose (vdats m 0 c) (defs₀ (F := Ideal)) NatV () Set.univ := fun t => by
  rw [bigSep_W0]
  exact triple_restated (vsound m c t) (congrArg _ (defs₀_row t).symm) .rfl fun _ => by rw [bigSep_W0]; exact .rfl

set_option backward.isDefEq.respectTransparency.types false in
theorem vrun : θ_run defs (onTc (τ := τ) (main (F := Ideal))) (s₀ m ρ) (fun r => Pipeline.FramePost cfgs (vdats m) (0 : Fin 1) (V m) r ∧ r.2.sem = fun _ => 0) :=
  Pipeline.θ_run_frame_track cfgs (vdats m) (0 : Fin 1) launch0 defs₀ NatV m ρ main
    (hbody := fun c => vobligation m c) (hshare := fun c => (vdats m 0 c).share_full fun _ => rfl)
    (howed := fun _ _ => rfl) (V := V m) (hmain := hmain m NatV) (hA := fun _ _ => rfl) (hin := fun _ => .rfl) (hout := fun _ => .rfl) (Q' := _) (hQ' := fun _ h => h)

theorem emb_q (t : Fin cfg0.N) (y) : (win0_0.rect t).emb y = y := by
  refine funext fun a => Fin.ext ?_
  rw [win0_0.rect_emb_val t y a]
  show 0 * _ + (y a).val = (y a).val
  omega

theorem emb_qs (t : Fin cfg0.N) (y) : (win0_1.rect t).emb y = y := by
  refine funext fun a => Fin.ext ?_
  rw [win0_1.rect_emb_val t y a]
  show 0 * _ + (y a).val = (y a).val
  omega

theorem emb_k (t : Fin cfg0.N) (y) : (win0_2.rect t).emb y = y := by
  refine funext fun a => Fin.ext ?_
  rw [win0_2.rect_emb_val t y a]
  show 0 * _ + (y a).val = (y a).val
  omega

theorem emb_ks (t : Fin cfg0.N) (y) : (win0_3.rect t).emb y = y := by
  refine funext fun a => Fin.ext ?_
  rw [win0_3.rect_emb_val t y a]
  show 0 * _ + (y a).val = (y a).val
  omega

theorem emb_v (t : Fin cfg0.N) (y) : (win0_4.rect t).emb y = y := by
  refine funext fun a => Fin.ext ?_
  rw [win0_4.rect_emb_val t y a]
  show 0 * _ + (y a).val = (y a).val
  omega

theorem emb_vs (t : Fin cfg0.N) (y) : (win0_5.rect t).emb y = y := by
  refine funext fun a => Fin.ext ?_
  rw [win0_5.rect_emb_val t y a]
  show 0 * _ + (y a).val = (y a).val
  omega

theorem emb_o (t : Fin cfg0.N) (y) : (win0_6.rect t).emb y = y := by
  refine funext fun a => Fin.ext ?_
  rw [win0_6.rect_emb_val t y a]
  show 0 * _ + (y a).val = (y a).val
  omega

theorem emb_tau (t : Fin cfg0.N) (y) : (win0_7.rect t).emb y = y := by
  refine funext fun a => Fin.ext ?_
  rw [win0_7.rect_emb_val t y a]
  show 0 * _ + (y a).val = (y a).val
  omega

/-- The whole array is one block. -/
theorem final_o (c : Dev nD) : (vdats m 0 c).arrAt 6 cfg0.N = oVal (inputs m c t0_0) :=
  (vdats m 0 c).arrAt_eq_of_cover 6 (oVal (inputs m c t0_0)) (fun t _ => by
      rw [fin_N0 t]
      refine funext fun y => ?_
      show oVal (inputs m c t0_0) y = oVal (inputs m c t0_0) ((win0_6.rect t0_0).emb y)
      rw [emb_o]) fun i => by
    refine ⟨t0_0, flush0_6 _, ?_⟩
    show i ∈ ((View.whole main_v6_0).slice (win0_6.rect t0_0)).set
    rw [View.set_slice_whole, ← Rect.map_emb_univ, Finset.mem_map]
    exact ⟨i, Finset.mem_univ _, emb_o t0_0 i⟩

/-- The whole array is one block. -/
theorem final_tau (c : Dev nD) : (vdats m 0 c).arrAt 7 cfg0.N = tVal (inputs m c t0_0) :=
  (vdats m 0 c).arrAt_eq_of_cover 7 (tVal (inputs m c t0_0)) (fun t _ => by
      rw [fin_N0 t]
      refine funext fun y => ?_
      show tVal (inputs m c t0_0) y = tVal (inputs m c t0_0) ((win0_7.rect t0_0).emb y)
      rw [emb_tau]) fun i => by
    refine ⟨t0_0, flush0_7 _, ?_⟩
    show i ∈ ((View.whole main_v6_1).slice (win0_7.rect t0_0)).set
    rw [View.set_slice_whole, ← Rect.map_emb_univ, Finset.mem_map]
    exact ⟨i, Finset.mem_univ _, emb_tau t0_0 i⟩

theorem in_q (c : Dev nD) : inputs m c t0_0 .q = V m c main_v0 := by
  refine funext fun y => ?_
  show V m c main_v0 ((win0_0.rect t0_0).emb y) = _
  rw [emb_q]

theorem in_qs (c : Dev nD) : inputs m c t0_0 .qs = V m c main_v1 := by
  refine funext fun y => ?_
  show V m c main_v1 ((win0_1.rect t0_0).emb y) = _
  rw [emb_qs]

theorem in_k (c : Dev nD) : inputs m c t0_0 .k = V m c main_v2 := by
  refine funext fun y => ?_
  show V m c main_v2 ((win0_2.rect t0_0).emb y) = _
  rw [emb_k]

theorem in_ks (c : Dev nD) : inputs m c t0_0 .ks = V m c main_v4 := by
  refine funext fun y => ?_
  show V m c main_v4 ((win0_3.rect t0_0).emb y) = _
  rw [emb_ks]

theorem in_v (c : Dev nD) : inputs m c t0_0 .v = V m c main_v3 := by
  refine funext fun y => ?_
  show V m c main_v3 ((win0_4.rect t0_0).emb y) = _
  rw [emb_v]

theorem in_vs (c : Dev nD) : inputs m c t0_0 .vs = V m c main_v5 := by
  refine funext fun y => ?_
  show V m c main_v5 ((win0_5.rect t0_0).emb y) = _
  rw [emb_vs]

/-- The reference's run: its two results, and its arguments unchanged. -/
theorem run : θ_run defs (onTc (τ := τ) (main (F := Ideal))) ⟨m, fun _ => 0, ρ⟩ (fun r => (∀ c : Dev nD,
      r.2.mem ((c.tc : Thread nD τ).loc main_v6_0) = oVal (inputs m c t0_0)
      ∧ r.2.mem ((c.tc : Thread nD τ).loc main_v6_1) = tVal (inputs m c t0_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => ⟨((h.1 c).1 6).trans (final_o m c), ((h.1 c).1 7).trans (final_tau m c),
      ((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c)⟩, h.2⟩) (vrun m ρ)

end EntmaxR

end
-- ==== Proof.Equation.lean ====
/-
  The equation of the two programs' rows: the row of the reference is the kernel's row scaled by the scale of its query.
-/
module

public import Mathlib.Tactic.NormNum
public import Idealize.ShloMosaic.Lib.IdealHost
public import proofs.«01_k».proof.Proof.RefScores
public import proofs.«01_k».proof.Proof.Args
public import proofs.«01_k».proof.Proof.Body

@[expose] public section

set_option maxRecDepth 16384

noncomputable section

namespace EntmaxR

open Idealize.ShloMosaic Idealize.ShloMosaic.TcCoe
open Entmax

/-- Half the reference's scale of the attention is the kernel's. -/
theorem half_scale : Ideal.ofBits .f32 0x3F000000#32 * Ideal.ofBits .f32 0x3DA1E89B#32 = Ideal.ofBits .f32 0x3D21E89B#32 := by
  have h1 : Ideal.ofBits .f32 0x3F000000#32 = (((1 : ℝ) / 2 : ℝ) : EReal) := by
    simp [Ideal.ofBits, Ideal.ieee, -EReal.coe_mul]; norm_num
  have h2 : Ideal.ofBits .f32 0x3DA1E89B#32 = (((10610843 : ℝ) / 134217728 : ℝ) : EReal) := by
    simp [Ideal.ofBits, Ideal.ieee, -EReal.coe_mul]; norm_num
  have h3 : Ideal.ofBits .f32 0x3D21E89B#32 = (((10610843 : ℝ) / 268435456 : ℝ) : EReal) := by
    simp [Ideal.ofBits, Ideal.ieee, -EReal.coe_mul]; norm_num
  rw [h1, h2, h3, ← EReal.coe_mul]
  norm_num

/-- The reference's buffers hold the codes and scales of `A`. -/
structure Agree (σ : St Ideal) (A : Args) : Prop where
  q : ∀ (b : Fin 2) (s : Fin 6144) (g : Fin 3) (r : Fin 4) (d : Fin 160), (σ .q (ValueIdx.ix5 b s g r d) : EReal) = A.q b.val s.val (4 * g.val + r.val) d.val
  qs : ∀ (b : Fin 2) (s : Fin 6144) (g : Fin 3) (r : Fin 4), (σ .qs (ValueIdx.ix4 b s g r) : EReal) = A.qs b.val s.val (4 * g.val + r.val)
  k : ∀ (b : Fin 2) (g : Fin 3) (s : Fin 6144) (d : Fin 160), (σ .k (ValueIdx.ix4 b g s d) : EReal) = A.k b.val s.val g.val d.val
  ks : ∀ (b : Fin 2) (g : Fin 3) (s : Fin 6144), (σ .ks (ValueIdx.ix3 b g s) : EReal) = A.ks b.val s.val g.val
  v : ∀ (b : Fin 2) (g : Fin 3) (s : Fin 6144) (d : Fin 160), (σ .v (ValueIdx.ix4 b g s d) : EReal) = A.v b.val s.val g.val d.val
  vs : ∀ (b : Fin 2) (g : Fin 3) (s : Fin 6144), (σ .vs (ValueIdx.ix3 b g s) : EReal) = A.vs b.val s.val g.val

/-- The block of a row. -/
def blockOf (A : Args) (i : R4.Idx) : Blk := A.blk (i 0).val (i 2).val ((i 1).val / 128)

theorem sup_range (f : ℕ → EReal) (n : ℕ) : (Finset.range n).sup f = Finset.univ.sup fun k : Fin n => f k.val := by
  refine le_antisymm (Finset.sup_le fun k hk => ?_) (Finset.sup_le fun k _ => ?_)
  · exact Finset.le_sup (f := fun k : Fin n => f k.val) (Finset.mem_univ (⟨k, Finset.mem_range.mp hk⟩ : Fin n))
  · exact Finset.le_sup (f := f) (Finset.mem_range.mpr k.isLt)

/-- The kernel's maximum of a sixteen. -/
theorem P_eq (B : Blk) (j : Fin 384) (l : ℕ) : B.P j.val l = Finset.univ.sup fun n : Fin 16 => B.Y (member j n).val l := by
  unfold Blk.P
  rw [runMax_eq, sup_range]
  rfl

/-- The maximum of the sixteens' maxima is the maximum of the scores. -/
theorem M_eq (B : Blk) (l : ℕ) : B.M l = Finset.univ.sup fun k : Fin 6144 => B.Y k.val l := by
  unfold Blk.M
  refine le_antisymm (Finset.sup_le fun j _ => ?_) (Finset.sup_le fun k _ => ?_)
  · rw [P_eq]
    exact Finset.sup_le fun n _ => Finset.le_sup (f := fun k : Fin 6144 => B.Y k.val l) (Finset.mem_univ (member j n))
  · have hk : k.val < 6144 := k.isLt
    let j : Fin 384 := ⟨8 * (k.val / 128) + k.val % 8, by omega⟩
    let n : Fin 16 := ⟨k.val % 128 / 8, by omega⟩
    have e : member j n = k := Fin.ext (by
      show 128 * ((8 * (k.val / 128) + k.val % 8) / 8) + 8 * (k.val % 128 / 8) + (8 * (k.val / 128) + k.val % 8) % 8 = k.val
      omega)
    refine le_trans ?_ (Finset.le_sup (f := fun j : Fin 384 => B.P j.val l) (Finset.mem_univ j))
    show B.Y k.val l ≤ B.P j.val l
    rw [P_eq, ← e]
    exact Finset.le_sup (f := fun n : Fin 16 => B.Y (member j n).val l) (Finset.mem_univ n)

section

variable {σ : St Ideal} {A : Args} (h : Agree σ A) (i : R4.Idx) (l : Fin 512)
include h

theorem qs_mate : (σ .qs (mate i l) : EReal) = (blockOf A i).qs l.val := by
  refine (h.qs _ _ _ _).trans ?_
  show A.qs (i 0).val ((i 1).val / 128 * 128 + l.val % 128) _ = A.qs (i 0).val (128 * ((i 1).val / 128) + l.val % 128) _
  rw [Nat.mul_comm]

/-- The reference's score is the kernel's by the scale of the query. -/
theorem score_mate {q : ℝ} (hq : 0 < q) (e : (blockOf A i).qs l.val = q) (k : Fin 6144) : score σ (key (mate i l) k) = q * (blockOf A i).Y k.val l.val := by
  have hs : (i 1).val / 128 * 128 + l.val % 128 = 128 * ((i 1).val / 128) + l.val % 128 := by rw [Nat.mul_comm]
  have hc : (key (mate i l) k 4).val ≤ (key (mate i l) k 1).val ↔ k.val ≤ 128 * (blockOf A i).tq + l.val % 128 := by
    show k.val ≤ (i 1).val / 128 * 128 + l.val % 128 ↔ k.val ≤ 128 * ((i 1).val / 128) + l.val % 128
    rw [hs]
  unfold score Blk.Y
  by_cases hk : k.val ≤ 128 * (blockOf A i).tq + l.val % 128
  · rw [if_pos (hc.mpr hk), if_pos hk, rowOf_key, qs_mate h, e]
    have hd : (∑ d : Fin 160, (σ .q (ValueIdx.ix5 (key (mate i l) k 0) (key (mate i l) k 1) (key (mate i l) k 2) (key (mate i l) k 3) d) : EReal)
        * σ .k (ValueIdx.ix4 (key (mate i l) k 0) (key (mate i l) k 2) (key (mate i l) k 4) d)) = (blockOf A i).acc k.val l.val := by
      unfold Blk.acc
      refine Finset.sum_congr rfl fun d _ => ?_
      refine (congrArg₂ (fun a b : EReal => a * b) (h.q _ _ _ _ _) (h.k _ _ _ _)).trans ?_
      show A.q (i 0).val ((i 1).val / 128 * 128 + l.val % 128) (4 * (i 2).val + l.val / 128) d.val * A.k (i 0).val k.val (i 2).val d.val
        = A.k (i 0).val k.val (i 2).val d.val * A.q (i 0).val (128 * ((i 1).val / 128) + l.val % 128) (4 * (i 2).val + l.val / 128) d.val
      rw [hs, mul_comm]
    have hks : (σ .ks (ValueIdx.ix3 (key (mate i l) k 0) (key (mate i l) k 2) (key (mate i l) k 4)) : EReal) = (blockOf A i).ks k.val := h.ks _ _ _
    rw [hd, hks]
    unfold Blk.kx
    rw [← half_scale]
    ac_rfl
  · rw [if_neg (fun h' => hk (hc.mp h')), if_neg hk, q_bot hq]

/-- The reference's row is the kernel's scaled. -/
theorem scaled {q : ℝ} (hq : 0 < q) (e : (blockOf A i).qs l.val = q) : Row.IsScaled q ((blockOf A i).row l) ((rows σ).group i l) := by
  have hinv : (q : EReal) * (blockOf A i).inv l.val = 1 := by
    unfold Blk.inv Ideal.div
    rw [e, if_neg (q_pos hq).ne', Ideal.ofBits_one_f32, one_mul, ← EReal.coe_inv, q_qinv hq]
  have hm : (rows σ).m (mate i l) = q * (blockOf A i).M l.val := by
    rw [M_eq, q_sup hq]
    exact congrArg (fun f : Fin 6144 → EReal => Finset.univ.sup f) (funext fun k => score_mate h i l hq e k)
  have hvis : seen (mate i l) = (blockOf A i).vis l.val := by
    show ((((i 1).val / 128 * 128 + l.val % 128 + 1 : ℕ) : ℝ) : EReal) = (((128 * ((i 1).val / 128) + l.val % 128 + 1 : ℕ) : ℝ) : EReal)
    rw [Nat.mul_comm]
  refine ⟨hq, funext fun k => score_mate h i l hq e k, funext fun j => ?_, ?_, ?_, ?_, ?_, ?_, hm, ?_⟩
  · show (Finset.univ.sup fun n : Fin 16 => score σ (key (rowOf (key (mate i l) j)) (member j n))) = q * (blockOf A i).P j.val l.val
    rw [P_eq, q_sup hq, rowOf_key]
    exact congrArg _ (funext fun n => score_mate h i l hq e _)
  · show Ideal.ofBits .f32 0x3F800000#32 = q * (blockOf A i).inv l.val
    rw [hinv, Ideal.ofBits_one_f32]
  · show (σ .qs (mate i l) : EReal) = q * Ideal.ofBits .f32 0x3F800000#32
    rw [qs_mate h, e, Ideal.ofBits_one_f32, mul_one]
  · show (0 : EReal) < Ideal.ofBits .f32 0x3F800000#32
    rw [Ideal.ofBits_one_f32]
    exact zero_lt_one
  · show (rows σ).m (mate i l) - Ideal.ofBits .f32 0x3F800000#32 = q * ((blockOf A i).M l.val - (blockOf A i).inv l.val)
    rw [q_sub hq, hinv, hm, Ideal.ofBits_one_f32]
  · show (rows σ).m (mate i l) - Ideal.rsqrt (seen (mate i l)) = q * ((blockOf A i).M l.val - (blockOf A i).inv l.val * Ideal.rsqrt ((blockOf A i).vis l.val))
    rw [q_sub hq, ← mul_assoc, hinv, hm, hvis, one_mul]
  · show (blockOf A i).qs l.val * (blockOf A i).qs l.val = q * q * 1
    rw [e, mul_one]

end

section

variable {σ : St Ideal} {A : Args} (h : Agree σ A) (hpos : ∀ b s g, 0 < A.qs b s g ∧ A.qs b s g < ⊤)
include h hpos

omit h in
theorem scale_real (i : R4.Idx) (l : Fin 512) : ∃ q : ℝ, 0 < q ∧ (blockOf A i).qs l.val = q := by
  have hq : 0 < (blockOf A i).qs l.val ∧ (blockOf A i).qs l.val < ⊤ := hpos _ _ _
  refine ⟨((blockOf A i).qs l.val).toReal, EReal.toReal_pos hq.1 hq.2.ne, (EReal.coe_toReal hq.2.ne (ne_bot_of_gt hq.1)).symm⟩

/-- The thresholds of the reference are the kernel's scaled. -/
theorem root_eq (i : R4.Idx) : (rows σ).root i = (blockOf A i).qs (lane i).val * roots (blockOf A i).row (lane i) := by
  choose q hq e using scale_real hpos i
  rw [e (lane i)]
  exact roots_scaled (fun l => scaled h i l (hq l) (e l)) (lane i)

/-- The second result. -/
theorem tau_eq (x : (⟨3, ![2, 6144, 12]⟩ : Shape).Idx) :
    (A.blk (x 0).val ((x 2).val / 4) ((x 1).val / 128)).rel (128 * ((x 2).val % 4) + (x 1).val % 128) = tVal σ x := by
  obtain ⟨q, hq, e⟩ := scale_real hpos (tRow x) (lane (tRow x))
  have hm : (rows σ).m (tRow x) = q * (blockOf A (tRow x)).M (lane (tRow x)).val := by
    have := (scaled h (tRow x) (lane (tRow x)) hq e).m
    have h' : ((rows σ).group (tRow x) (lane (tRow x))).m = (rows σ).m (tRow x) := by
      show (rows σ).m (mate (tRow x) (lane (tRow x))) = _
      rw [mate_lane]
    exact h'.symm.trans this
  unfold tVal
  rw [root_eq h hpos, hm, e, ← q_sub hq]
  show (blockOf A (tRow x)).rel (lane (tRow x)).val = _
  unfold Blk.rel
  rw [ofNat_val, e, mul_comm]

/-- The first result. -/
theorem out_eq (x : (⟨3, ![2, 6144, 1920]⟩ : Shape).Idx) :
    (A.blk (x 0).val ((x 2).val / 640) ((x 1).val / 128)).res ((x 2).val % 640 % 160) (128 * ((x 2).val % 640 / 160) + (x 1).val % 128) = oVal σ x := by
  obtain ⟨q, hq, e⟩ := scale_real hpos (oRow x) (lane (oRow x))
  have hs := scaled h (oRow x) (lane (oRow x)) hq e
  have hrow : (rows σ).row (oRow x) = (rows σ).group (oRow x) (lane (oRow x)) := by
    show _ = (rows σ).row (mate (oRow x) (lane (oRow x)))
    rw [mate_lane]
  unfold oVal
  rw [root_eq h hpos, hrow, e, mix_scaled hs]
  show (blockOf A (oRow x)).res (oCol x).val (lane (oRow x)).val = _
  unfold Blk.res Blk.out
  rw [ofNat_val, e]
  refine congrArg₂ (fun a b : Fin 6144 → EReal => mix ((blockOf A (oRow x)).row (lane (oRow x))) (roots (blockOf A (oRow x)).row (lane (oRow x))) a b * ((q : EReal) * (q : EReal)))
    (funext fun k => ?_) (funext fun k => ?_)
  · exact (h.vs _ _ _).symm
  · exact (h.v _ _ _ _).symm

end

end EntmaxR

end
-- ==== Proof.Inputs.lean ====
/-
  The reference's buffers hold the arguments, head by head.
-/
module

public import proofs.«01_k».proof.Proof.RRun
public import proofs.«01_k».proof.Proof.Equation

@[expose] public section

set_option maxRecDepth 16384

noncomputable section

namespace EntmaxR

open Cert.ReferenceIdeal Cert.ReferenceIdeal.Gen
open Idealize.ShloMosaic Idealize.ShloMosaic.TcCoe Idealize.ShloMosaic.Tactic
open Entmax

variable (m : (ℓ : Loc nD τ sig) → Buf (Elt Ideal) ℓ)

/-- The arguments by plain coordinates. -/
def args (c : Dev nD) : Args := .of (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

theorem V_v0 (c : Dev nD) : V m c main_v0 = shapeCast S2x6144x3x4x160 (m ((c : Thread nD τ).loc main_arg0)) shapeCasts_S2x6144x12x160_S2x6144x3x4x160 := by
  show StableHlo.after (hostOps0) (fun b => m (c, b)) _ = _
  unfold hostOps0
  after_results
  rfl

theorem V_v1 (c : Dev nD) : V m c main_v1 = shapeCast S2x6144x3x4 (m ((c : Thread nD τ).loc main_arg1)) shapeCasts_S2x6144x12_S2x6144x3x4 := by
  show StableHlo.after (hostOps0) (fun b => m (c, b)) _ = _
  unfold hostOps0
  after_results
  rfl

theorem V_v2 (c : Dev nD) : V m c main_v2 = transpose S2x3x6144x160 [0, 2, 1, 3] (m ((c : Thread nD τ).loc main_arg2)) transposes_S2x6144x3x160_S2x3x6144x160_0_2_1_3 := by
  show StableHlo.after (hostOps0) (fun b => m (c, b)) _ = _
  unfold hostOps0
  after_results

theorem V_v3 (c : Dev nD) : V m c main_v3 = transpose S2x3x6144x160 [0, 2, 1, 3] (m ((c : Thread nD τ).loc main_arg4)) transposes_S2x6144x3x160_S2x3x6144x160_0_2_1_3 := by
  show StableHlo.after (hostOps0) (fun b => m (c, b)) _ = _
  unfold hostOps0
  after_results

theorem V_v4 (c : Dev nD) : V m c main_v4 = transpose S2x3x6144 [0, 2, 1] (m ((c : Thread nD τ).loc main_arg3)) transposes_S2x6144x3_S2x3x6144_0_2_1 := by
  show StableHlo.after (hostOps0) (fun b => m (c, b)) _ = _
  unfold hostOps0
  after_results

theorem V_v5 (c : Dev nD) : V m c main_v5 = transpose S2x3x6144 [0, 2, 1] (m ((c : Thread nD τ).loc main_arg5)) transposes_S2x6144x3_S2x3x6144_0_2_1 := by
  show StableHlo.after (hostOps0) (fun b => m (c, b)) _ = _
  unfold hostOps0
  after_results

/-- The buffers hold the arguments. -/
theorem agree (c : Dev nD) : Agree (inputs m c t0_0) (args m c) where
  q b s g r d := by
    rw [in_q, V_v0]
    refine shapeCast_apply _ _ _ (ValueIdx.ix4 (Fin.ofNat 2 b.val) (Fin.ofNat 6144 s.val) (Fin.ofNat 12 (4 * g.val + r.val)) (Fin.ofNat 160 d.val)) ?_
    rw [Shape.rowMajor_val_four, Shape.rowMajor_val_five]
    show ((b.val % 2 * 6144 + s.val % 6144) * 12 + (4 * g.val + r.val) % 12) * 160 + d.val % 160 = (((b.val * 6144 + s.val) * 3 + g.val) * 4 + r.val) * 160 + d.val
    omega
  qs b s g r := by
    rw [in_qs, V_v1]
    refine shapeCast_apply _ _ _ (ValueIdx.ix3 (Fin.ofNat 2 b.val) (Fin.ofNat 6144 s.val) (Fin.ofNat 12 (4 * g.val + r.val))) ?_
    rw [Shape.rowMajor_val_three, Shape.rowMajor_val_four]
    show (b.val % 2 * 6144 + s.val % 6144) * 12 + (4 * g.val + r.val) % 12 = ((b.val * 6144 + s.val) * 3 + g.val) * 4 + r.val
    omega
  k b g s d := by
    rw [in_k, V_v2]
    show m ((c : Thread nD τ).loc main_arg2) _ = m ((c : Thread nD τ).loc main_arg2) _
    exact congrArg _ (idx4 (n0 := 2) (n1 := 6144) (n2 := 3) (n3 := 160) _ rfl rfl rfl rfl)
  v b g s d := by
    rw [in_v, V_v3]
    show m ((c : Thread nD τ).loc main_arg4) _ = m ((c : Thread nD τ).loc main_arg4) _
    exact congrArg _ (idx4 (n0 := 2) (n1 := 6144) (n2 := 3) (n3 := 160) _ rfl rfl rfl rfl)
  ks b g s := by
    rw [in_ks, V_v4]
    show m ((c : Thread nD τ).loc main_arg3) _ = m ((c : Thread nD τ).loc main_arg3) _
    exact congrArg _ (idx3 (n0 := 2) (n1 := 6144) (n2 := 3) _ rfl rfl rfl)
  vs b g s := by
    rw [in_vs, V_v5]
    show m ((c : Thread nD τ).loc main_arg5) _ = m ((c : Thread nD τ).loc main_arg5) _
    exact congrArg _ (idx3 (n0 := 2) (n1 := 6144) (n2 := 3) _ rfl rfl rfl)

end EntmaxR

end
-- ==== Proof.Precondition.lean ====
/-
  What the precondition says: every scale of a query is a positive real.
-/
module

public import Idealize.ShloMosaic.Lib.IdealHost
public import proofs.«01_k».proof.Proof.Args
public import proofs.«01_k».proof.Defs
public import proofs.«01_k».proof.Proof.Gen.Pre_scales_positive

@[expose] public section

noncomputable section

namespace EntmaxR

open Idealize.ShloMosaic

theorem both {p q : Bool} (h : IntOp.andi (BitVec.ofBool p) (BitVec.ofBool q) = 1#1) : p = true ∧ q = true := by
  revert h
  cases p <;> cases q <;> decide

attribute [local instance] Cert.Pre_scales_positive.Gen.facts in
/-- The precondition read at one scale. -/
theorem scale_pos {a0 a1 a2 a3 a4 a5} (h : Cert.Pre_scales_positive.fn (F := Ideal) a0 a1 a2 a3 a4 a5 = fun _ => 1#1) (x : Cert.Pre_scales_positive.S2x6144x12.Idx) :
    (0 : EReal) < a1 x ∧ (a1 x : EReal) < ⊤ := by
  have hx : IntOp.andi (BitVec.ofBool (decide (Ideal.ofBits .f32 0x00000000#32 < a1 x))) (BitVec.ofBool (decide ((a1 x : EReal) < Ideal.ofBits .f32 0x7F800000#32))) = 1#1 := congrFun h x
  have ht : Ideal.ofBits .f32 0x7F800000#32 = ⊤ := by simp [Ideal.ofBits, Ideal.ieee]
  rw [Ideal.ofBits_zero_f32, ht] at hx
  exact ⟨of_decide_eq_true (both hx).1, of_decide_eq_true (both hx).2⟩

end EntmaxR

end
-- ==== Proof.lean ====
/-
  The proof of `Cert.Claim`: the frames of the kernel and of its ideal program (Proof/FrameKernel.lean, Proof/FrameIdeal.lean), each
  from the safety of the kernel's body; the frame of the reference (Proof/RRun.lean); and the equation of the two programs' results,
  from the kernel's values (Proof/KResult.lean), the reference's values (Proof/RRun.lean, Proof/Inputs.lean) and the scaling of the
  rows that joins them (Proof/Equation.lean, Proof/Rows.lean).
-/
module

public import proofs.«01_k».proof.Defs
public import proofs.«01_k».proof.Proof.FrameKernel
public import proofs.«01_k».proof.Proof.FrameIdeal
public import proofs.«01_k».proof.Proof.KResult
public import proofs.«01_k».proof.Proof.Inputs
public import proofs.«01_k».proof.Proof.Precondition

@[expose] public section

noncomputable section

namespace Cert.Proof

open Idealize.ShloMosaic Idealize.SL.Sem

/-- The reference's frame: its arguments unchanged, its semaphores zero at the end. -/
theorem reference_frame : Cert.quiescent_ReferenceIdeal (hReferenceIdeal := Cert.ReferenceIdeal.Gen.facts) := fun m g _ =>
  (θ_run _ _ _).mono (fun _ h => ⟨fun c => (h.1 c).2.2, h.2⟩) (EntmaxR.run m g)

/-- From memories that agree on the arguments, with the scales of the queries positive reals, the kernel and the reference return the
same two arrays. -/
theorem equal : Cert.algebraic_KernelIdeal_ReferenceIdeal_pre_scales_positive (hKernelIdeal := Cert.KernelIdeal.Gen.facts)
    (hReferenceIdeal := Cert.ReferenceIdeal.Gen.facts) (hPre_scales_positive := Cert.Pre_scales_positive.Gen.facts) := by
  intro m g m' g' hpre hargs
  have hA : ∀ c, EntmaxR.args m' c = Entmax.KernelIdeal.A m c := fun c => by
    obtain ⟨h0, h1, h2, h3, h4, h5⟩ := hargs c
    unfold EntmaxR.args Entmax.KernelIdeal.A
    rw [h0, h1, h2, h3, h4, h5]
  have hpos : ∀ c b s h, 0 < (Entmax.KernelIdeal.A m c).qs b s h ∧ (Entmax.KernelIdeal.A m c).qs b s h < ⊤ :=
    fun c b s h => EntmaxR.scale_pos (hpre c) _
  have hagree : ∀ c, EntmaxR.Agree (EntmaxR.inputs m' c Cert.ReferenceIdeal.Gen.t0_0) (Entmax.KernelIdeal.A m c) := fun c => hA c ▸ EntmaxR.agree m' c
  refine ⟨fun c => Entmax.KRun.outArr m c, fun c => Entmax.KRun.tauOut m c, Entmax.KRun.run m g, ?_⟩
  refine (θ_run _ _ _).mono (fun r h c => ⟨(h.1 c).1.trans ?_, (h.1 c).2.1.trans ?_, (h.1 c).2.2⟩) (EntmaxR.run m' g')
  · exact funext fun x => (EntmaxR.out_eq (hagree c) (hpos c) x).symm
  · exact funext fun x => (EntmaxR.tau_eq (hagree c) (hpos c) x).symm

/-- Everything the certificate claims. -/
theorem claim : Cert.Claim := ⟨Cert.Kernel.Gen.facts, Cert.KernelIdeal.Gen.facts, Cert.ReferenceIdeal.Gen.facts, Cert.Pre_scales_positive.Gen.facts,
  fun m g _ => Entmax.Kernel.frame m g, fun m g _ => Entmax.KernelIdeal.frame m g, fun m g _ => Entmax.KernelIdeal.frame m g,
  reference_frame, fun m g _ => reference_frame m g trivial, trivial, equal⟩

end Cert.Proof

end
